-- ==== Defs.lean ====
def Pre_Kernel [hPre_sel_ok : Cert.Pre_sel_ok.Facts] (m : (ℓ : Loc Cert.Kernel.nD Cert.Kernel.τ Cert.Kernel.sig) → Buf (Elt Bits) ℓ) : Prop :=
  ∀ c : Dev Cert.Kernel.nD,
    (Cert.Pre_sel_ok.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_sel_ok : Cert.Pre_sel_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sel_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sel_ok [hPre_sel_ok : Cert.Pre_sel_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sel_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Blocks [hPre_selb_ok : Cert.Pre_selb_ok.Facts] (m : (ℓ : Loc Cert.Blocks.nD Cert.Blocks.τ Cert.Blocks.sig) → Buf (Elt Bits) ℓ) : Prop :=
  ∀ c : Dev Cert.Blocks.nD,
    (Cert.Pre_selb_ok.fn (F := Bits) (m ((c.tc : Thread Cert.Blocks.nD Cert.Blocks.τ).loc Cert.Blocks.main_arg0)) (m ((c.tc : Thread Cert.Blocks.nD Cert.Blocks.τ).loc Cert.Blocks.main_arg1))) = (fun _ => 1#1)

def Pre_BlocksIdeal [hPre_selb_ok : Cert.Pre_selb_ok.Facts] (m : (ℓ : Loc Cert.BlocksIdeal.nD Cert.BlocksIdeal.τ Cert.BlocksIdeal.sig) → Buf (Elt Ideal) ℓ) : Prop :=
  ∀ c : Dev Cert.BlocksIdeal.nD,
    (Cert.Pre_selb_ok.fn (F := Ideal) (m ((c.tc : Thread Cert.BlocksIdeal.nD Cert.BlocksIdeal.τ).loc Cert.BlocksIdeal.main_arg0)) (m ((c.tc : Thread Cert.BlocksIdeal.nD Cert.BlocksIdeal.τ).loc Cert.BlocksIdeal.main_arg1))) = (fun _ => 1#1)

def Pre_BlocksReferenceIdeal (m : (ℓ : Loc Cert.BlocksReferenceIdeal.nD Cert.BlocksReferenceIdeal.τ Cert.BlocksReferenceIdeal.sig) → Buf (Elt Ideal) ℓ) : Prop :=
  True

def Pre_BlocksReferenceIdeal_selb_ok [hPre_selb_ok : Cert.Pre_selb_ok.Facts] (m : (ℓ : Loc Cert.BlocksReferenceIdeal.nD Cert.BlocksReferenceIdeal.τ Cert.BlocksReferenceIdeal.sig) → Buf (Elt Ideal) ℓ) : Prop :=
  ∀ c : Dev Cert.BlocksReferenceIdeal.nD,
    (Cert.Pre_selb_ok.fn (F := Ideal) (m ((c.tc : Thread Cert.BlocksReferenceIdeal.nD Cert.BlocksReferenceIdeal.τ).loc Cert.BlocksReferenceIdeal.main_arg0)) (m ((c.tc : Thread Cert.BlocksReferenceIdeal.nD Cert.BlocksReferenceIdeal.τ).loc Cert.BlocksReferenceIdeal.main_arg1))) = (fun _ => 1#1)

def Pre_RowMax (m : (ℓ : Loc Cert.RowMax.nD Cert.RowMax.τ Cert.RowMax.sig) → Buf (Elt Bits) ℓ) : Prop :=
  True

def Pre_RowMaxIdeal (m : (ℓ : Loc Cert.RowMaxIdeal.nD Cert.RowMaxIdeal.τ Cert.RowMaxIdeal.sig) → Buf (Elt Ideal) ℓ) : Prop :=
  True

def Pre_RowMaxReferenceIdeal (m : (ℓ : Loc Cert.RowMaxReferenceIdeal.nD Cert.RowMaxReferenceIdeal.τ Cert.RowMaxReferenceIdeal.sig) → Buf (Elt Ideal) ℓ) : Prop :=
  True

def Pre_Denominator (m : (ℓ : Loc Cert.Denominator.nD Cert.Denominator.τ Cert.Denominator.sig) → Buf (Elt Bits) ℓ) : Prop :=
  True

def Pre_DenominatorIdeal (m : (ℓ : Loc Cert.DenominatorIdeal.nD Cert.DenominatorIdeal.τ Cert.DenominatorIdeal.sig) → Buf (Elt Ideal) ℓ) : Prop :=
  True

def Pre_DenominatorReferenceIdeal (m : (ℓ : Loc Cert.DenominatorReferenceIdeal.nD Cert.DenominatorReferenceIdeal.τ Cert.DenominatorReferenceIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_Choose (m : (ℓ : Loc Cert.Choose.nD Cert.Choose.τ Cert.Choose.sig) → Buf (Elt Bits) ℓ) : Prop :=
  True

def Pre_ChooseIdeal (m : (ℓ : Loc Cert.ChooseIdeal.nD Cert.ChooseIdeal.τ Cert.ChooseIdeal.sig) → Buf (Elt Ideal) ℓ) : Prop :=
  True

def Pre_ChooseIdeal_scores_ok [hPre_scores_ok : Cert.Pre_scores_ok.Facts] (m : (ℓ : Loc Cert.ChooseIdeal.nD Cert.ChooseIdeal.τ Cert.ChooseIdeal.sig) → Buf (Elt Ideal) ℓ) : Prop :=
  ∀ c : Dev Cert.ChooseIdeal.nD,
    (Cert.Pre_scores_ok.fn (F := Ideal) (m ((c.tc : Thread Cert.ChooseIdeal.nD Cert.ChooseIdeal.τ).loc Cert.ChooseIdeal.main_arg0))) = (fun _ => 1#1)

def Pre_ChooseReferenceIdeal (m : (ℓ : Loc Cert.ChooseReferenceIdeal.nD Cert.ChooseReferenceIdeal.τ Cert.ChooseReferenceIdeal.sig) → Buf (Elt Ideal) ℓ) : Prop :=
  True

def Pre_ChooseReferenceIdeal_scores_ok [hPre_scores_ok : Cert.Pre_scores_ok.Facts] (m : (ℓ : Loc Cert.ChooseReferenceIdeal.nD Cert.ChooseReferenceIdeal.τ Cert.ChooseReferenceIdeal.sig) → Buf (Elt Ideal) ℓ) : Prop :=
  ∀ c : Dev Cert.ChooseReferenceIdeal.nD,
    (Cert.Pre_scores_ok.fn (F := Ideal) (m ((c.tc : Thread Cert.ChooseReferenceIdeal.nD Cert.ChooseReferenceIdeal.τ).loc Cert.ChooseReferenceIdeal.main_arg0))) = (fun _ => 1#1)

def Pre_Extract (m : (ℓ : Loc Cert.Extract.nD Cert.Extract.τ Cert.Extract.sig) → Buf (Elt Bits) ℓ) : Prop :=
  True

def Pre_ExtractIdeal (m : (ℓ : Loc Cert.ExtractIdeal.nD Cert.ExtractIdeal.τ Cert.ExtractIdeal.sig) → Buf (Elt Ideal) ℓ) : Prop :=
  True

def Pre_ExtractIdeal_extract_ok [hPre_extract_ok : Cert.Pre_extract_ok.Facts] (m : (ℓ : Loc Cert.ExtractIdeal.nD Cert.ExtractIdeal.τ Cert.ExtractIdeal.sig) → Buf (Elt Ideal) ℓ) : Prop :=
  ∀ c : Dev Cert.ExtractIdeal.nD,
    (Cert.Pre_extract_ok.fn (F := Ideal) (m ((c.tc : Thread Cert.ExtractIdeal.nD Cert.ExtractIdeal.τ).loc Cert.ExtractIdeal.main_arg0)) (m ((c.tc : Thread Cert.ExtractIdeal.nD Cert.ExtractIdeal.τ).loc Cert.ExtractIdeal.main_arg1)) (m ((c.tc : Thread Cert.ExtractIdeal.nD Cert.ExtractIdeal.τ).loc Cert.ExtractIdeal.main_arg2))) = (fun _ => 1#1)

def Pre_ExtractReferenceIdeal (m : (ℓ : Loc Cert.ExtractReferenceIdeal.nD Cert.ExtractReferenceIdeal.τ Cert.ExtractReferenceIdeal.sig) → Buf (Elt Ideal) ℓ) : Prop :=
  True

def Pre_ExtractReferenceIdeal_extract_ok [hPre_extract_ok : Cert.Pre_extract_ok.Facts] (m : (ℓ : Loc Cert.ExtractReferenceIdeal.nD Cert.ExtractReferenceIdeal.τ Cert.ExtractReferenceIdeal.sig) → Buf (Elt Ideal) ℓ) : Prop :=
  ∀ c : Dev Cert.ExtractReferenceIdeal.nD,
    (Cert.Pre_extract_ok.fn (F := Ideal) (m ((c.tc : Thread Cert.ExtractReferenceIdeal.nD Cert.ExtractReferenceIdeal.τ).loc Cert.ExtractReferenceIdeal.main_arg0)) (m ((c.tc : Thread Cert.ExtractReferenceIdeal.nD Cert.ExtractReferenceIdeal.τ).loc Cert.ExtractReferenceIdeal.main_arg1)) (m ((c.tc : Thread Cert.ExtractReferenceIdeal.nD Cert.ExtractReferenceIdeal.τ).loc Cert.ExtractReferenceIdeal.main_arg2))) = (fun _ => 1#1)

def quiescent_Kernel [hKernel : Cert.Kernel.Facts] [hPre_sel_ok : Cert.Pre_sel_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_sel_ok : Cert.Pre_sel_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sel_ok [hReferenceIdeal : Cert.ReferenceIdeal.Facts] [hPre_sel_ok : Cert.Pre_sel_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sel_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Blocks [hBlocks : Cert.Blocks.Facts] [hPre_selb_ok : Cert.Pre_selb_ok.Facts] : Prop :=
  ∀ (m : (ℓ : Loc Cert.Blocks.nD Cert.Blocks.τ Cert.Blocks.sig) → Buf (Elt Bits) ℓ) (g : Dev Cert.Blocks.nD → PrngReg), Pre_Blocks m →
    θ_run (Cert.Blocks.defs (F := Bits)) (Cert.Blocks.threads (F := Bits)) ⟨m, fun _ => 0, g⟩ (fun r => (∀ c : Dev Cert.Blocks.nD,
      r.2.mem ((c.tc : Thread Cert.Blocks.nD Cert.Blocks.τ).loc Cert.Blocks.main_arg0) = m ((c.tc : Thread Cert.Blocks.nD Cert.Blocks.τ).loc Cert.Blocks.main_arg0)
      ∧ r.2.mem ((c.tc : Thread Cert.Blocks.nD Cert.Blocks.τ).loc Cert.Blocks.main_arg1) = m ((c.tc : Thread Cert.Blocks.nD Cert.Blocks.τ).loc Cert.Blocks.main_arg1))
      ∧ r.2.sem = fun _ => 0)

def quiescent_BlocksIdeal [hBlocksIdeal : Cert.BlocksIdeal.Facts] [hPre_selb_ok : Cert.Pre_selb_ok.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal m →
    θ_run (Cert.BlocksIdeal.defs (F := Ideal)) (Cert.BlocksIdeal.threads (F := Ideal)) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1))
      ∧ r.2.sem = fun _ => 0)

def quiescent_BlocksReferenceIdeal [hBlocksReferenceIdeal : Cert.BlocksReferenceIdeal.Facts] : Prop :=
  ∀ (m : (ℓ : Loc Cert.BlocksReferenceIdeal.nD Cert.BlocksReferenceIdeal.τ Cert.BlocksReferenceIdeal.sig) → Buf (Elt Ideal) ℓ) (g : Dev Cert.BlocksReferenceIdeal.nD → PrngReg), Pre_BlocksReferenceIdeal m →
    θ_run (Cert.BlocksReferenceIdeal.defs (F := Ideal)) (onTc (τ := Cert.BlocksReferenceIdeal.τ) (Cert.BlocksReferenceIdeal.main (F := Ideal))) ⟨m, fun _ => 0, g⟩ (fun r => (∀ c : Dev Cert.BlocksReferenceIdeal.nD,
      r.2.mem ((c.tc : Thread Cert.BlocksReferenceIdeal.nD Cert.BlocksReferenceIdeal.τ).loc Cert.BlocksReferenceIdeal.main_arg0) = m ((c.tc : Thread Cert.BlocksReferenceIdeal.nD Cert.BlocksReferenceIdeal.τ).loc Cert.BlocksReferenceIdeal.main_arg0)
      ∧ r.2.mem ((c.tc : Thread Cert.BlocksReferenceIdeal.nD Cert.BlocksReferenceIdeal.τ).loc Cert.BlocksReferenceIdeal.main_arg1) = m ((c.tc : Thread Cert.BlocksReferenceIdeal.nD Cert.BlocksReferenceIdeal.τ).loc Cert.BlocksReferenceIdeal.main_arg1))
      ∧ r.2.sem = fun _ => 0)

def quiescent_BlocksReferenceIdeal_pre_selb_ok [hBlocksReferenceIdeal : Cert.BlocksReferenceIdeal.Facts] [hPre_selb_ok : Cert.Pre_selb_ok.Facts] : Prop :=
  ∀ (m : (ℓ : Loc Cert.BlocksReferenceIdeal.nD Cert.BlocksReferenceIdeal.τ Cert.BlocksReferenceIdeal.sig) → Buf (Elt Ideal) ℓ) (g : Dev Cert.BlocksReferenceIdeal.nD → PrngReg), Pre_BlocksReferenceIdeal_selb_ok m →
    θ_run (Cert.BlocksReferenceIdeal.defs (F := Ideal)) (onTc (τ := Cert.BlocksReferenceIdeal.τ) (Cert.BlocksReferenceIdeal.main (F := Ideal))) ⟨m, fun _ => 0, g⟩ (fun r => (∀ c : Dev Cert.BlocksReferenceIdeal.nD,
      r.2.mem ((c.tc : Thread Cert.BlocksReferenceIdeal.nD Cert.BlocksReferenceIdeal.τ).loc Cert.BlocksReferenceIdeal.main_arg0) = m ((c.tc : Thread Cert.BlocksReferenceIdeal.nD Cert.BlocksReferenceIdeal.τ).loc Cert.BlocksReferenceIdeal.main_arg0)
      ∧ r.2.mem ((c.tc : Thread Cert.BlocksReferenceIdeal.nD Cert.BlocksReferenceIdeal.τ).loc Cert.BlocksReferenceIdeal.main_arg1) = m ((c.tc : Thread Cert.BlocksReferenceIdeal.nD Cert.BlocksReferenceIdeal.τ).loc Cert.BlocksReferenceIdeal.main_arg1))
      ∧ r.2.sem = fun _ => 0)

def quiescent_RowMax [hRowMax : Cert.RowMax.Facts] : Prop :=
  ∀ (m : (ℓ : Loc Cert.RowMax.nD Cert.RowMax.τ Cert.RowMax.sig) → Buf (Elt Bits) ℓ) (g : Dev Cert.RowMax.nD → PrngReg), Pre_RowMax m →
    θ_run (Cert.RowMax.defs (F := Bits)) (onTc (τ := Cert.RowMax.τ) (Cert.RowMax.main (F := Bits))) ⟨m, fun _ => 0, g⟩ (fun r => (∀ c : Dev Cert.RowMax.nD,
      r.2.mem ((c.tc : Thread Cert.RowMax.nD Cert.RowMax.τ).loc Cert.RowMax.main_arg0) = m ((c.tc : Thread Cert.RowMax.nD Cert.RowMax.τ).loc Cert.RowMax.main_arg0)
      ∧ r.2.mem ((c.tc : Thread Cert.RowMax.nD Cert.RowMax.τ).loc Cert.RowMax.main_arg1) = m ((c.tc : Thread Cert.RowMax.nD Cert.RowMax.τ).loc Cert.RowMax.main_arg1))
      ∧ r.2.sem = fun _ => 0)

def quiescent_RowMaxIdeal [hRowMaxIdeal : Cert.RowMaxIdeal.Facts] : Prop :=
  ∀ (m : (ℓ : Loc Cert.RowMaxIdeal.nD Cert.RowMaxIdeal.τ Cert.RowMaxIdeal.sig) → Buf (Elt Ideal) ℓ) (g : Dev Cert.RowMaxIdeal.nD → PrngReg), Pre_RowMaxIdeal m →
    θ_run (Cert.RowMaxIdeal.defs (F := Ideal)) (onTc (τ := Cert.RowMaxIdeal.τ) (Cert.RowMaxIdeal.main (F := Ideal))) ⟨m, fun _ => 0, g⟩ (fun r => (∀ c : Dev Cert.RowMaxIdeal.nD,
      r.2.mem ((c.tc : Thread Cert.RowMaxIdeal.nD Cert.RowMaxIdeal.τ).loc Cert.RowMaxIdeal.main_arg0) = m ((c.tc : Thread Cert.RowMaxIdeal.nD Cert.RowMaxIdeal.τ).loc Cert.RowMaxIdeal.main_arg0)
      ∧ r.2.mem ((c.tc : Thread Cert.RowMaxIdeal.nD Cert.RowMaxIdeal.τ).loc Cert.RowMaxIdeal.main_arg1) = m ((c.tc : Thread Cert.RowMaxIdeal.nD Cert.RowMaxIdeal.τ).loc Cert.RowMaxIdeal.main_arg1))
      ∧ r.2.sem = fun _ => 0)

def quiescent_RowMaxReferenceIdeal [hRowMaxReferenceIdeal : Cert.RowMaxReferenceIdeal.Facts] : Prop :=
  ∀ (m : (ℓ : Loc Cert.RowMaxReferenceIdeal.nD Cert.RowMaxReferenceIdeal.τ Cert.RowMaxReferenceIdeal.sig) → Buf (Elt Ideal) ℓ) (g : Dev Cert.RowMaxReferenceIdeal.nD → PrngReg), Pre_RowMaxReferenceIdeal m →
    θ_run (Cert.RowMaxReferenceIdeal.defs (F := Ideal)) (onTc (τ := Cert.RowMaxReferenceIdeal.τ) (Cert.RowMaxReferenceIdeal.main (F := Ideal))) ⟨m, fun _ => 0, g⟩ (fun r => (∀ c : Dev Cert.RowMaxReferenceIdeal.nD,
      r.2.mem ((c.tc : Thread Cert.RowMaxReferenceIdeal.nD Cert.RowMaxReferenceIdeal.τ).loc Cert.RowMaxReferenceIdeal.main_arg0) = m ((c.tc : Thread Cert.RowMaxReferenceIdeal.nD Cert.RowMaxReferenceIdeal.τ).loc Cert.RowMaxReferenceIdeal.main_arg0)
      ∧ r.2.mem ((c.tc : Thread Cert.RowMaxReferenceIdeal.nD Cert.RowMaxReferenceIdeal.τ).loc Cert.RowMaxReferenceIdeal.main_arg1) = m ((c.tc : Thread Cert.RowMaxReferenceIdeal.nD Cert.RowMaxReferenceIdeal.τ).loc Cert.RowMaxReferenceIdeal.main_arg1))
      ∧ r.2.sem = fun _ => 0)

def quiescent_Denominator [hDenominator : Cert.Denominator.Facts] : Prop :=
  ∀ (m : (ℓ : Loc Cert.Denominator.nD Cert.Denominator.τ Cert.Denominator.sig) → Buf (Elt Bits) ℓ) (g : Dev Cert.Denominator.nD → PrngReg), Pre_Denominator m →
    θ_run (Cert.Denominator.defs (F := Bits)) (onTc (τ := Cert.Denominator.τ) (Cert.Denominator.main (F := Bits))) ⟨m, fun _ => 0, g⟩ (fun r => (∀ c : Dev Cert.Denominator.nD,
      r.2.mem ((c.tc : Thread Cert.Denominator.nD Cert.Denominator.τ).loc Cert.Denominator.main_arg0) = m ((c.tc : Thread Cert.Denominator.nD Cert.Denominator.τ).loc Cert.Denominator.main_arg0)
      ∧ r.2.mem ((c.tc : Thread Cert.Denominator.nD Cert.Denominator.τ).loc Cert.Denominator.main_arg1) = m ((c.tc : Thread Cert.Denominator.nD Cert.Denominator.τ).loc Cert.Denominator.main_arg1)
      ∧ r.2.mem ((c.tc : Thread Cert.Denominator.nD Cert.Denominator.τ).loc Cert.Denominator.main_arg2) = m ((c.tc : Thread Cert.Denominator.nD Cert.Denominator.τ).loc Cert.Denominator.main_arg2))
      ∧ r.2.sem = fun _ => 0)

def quiescent_DenominatorIdeal [hDenominatorIdeal : Cert.DenominatorIdeal.Facts] : Prop :=
  ∀ (m : (ℓ : Loc Cert.DenominatorIdeal.nD Cert.DenominatorIdeal.τ Cert.DenominatorIdeal.sig) → Buf (Elt Ideal) ℓ) (g : Dev Cert.DenominatorIdeal.nD → PrngReg), Pre_DenominatorIdeal m →
    θ_run (Cert.DenominatorIdeal.defs (F := Ideal)) (onTc (τ := Cert.DenominatorIdeal.τ) (Cert.DenominatorIdeal.main (F := Ideal))) ⟨m, fun _ => 0, g⟩ (fun r => (∀ c : Dev Cert.DenominatorIdeal.nD,
      r.2.mem ((c.tc : Thread Cert.DenominatorIdeal.nD Cert.DenominatorIdeal.τ).loc Cert.DenominatorIdeal.main_arg0) = m ((c.tc : Thread Cert.DenominatorIdeal.nD Cert.DenominatorIdeal.τ).loc Cert.DenominatorIdeal.main_arg0)
      ∧ r.2.mem ((c.tc : Thread Cert.DenominatorIdeal.nD Cert.DenominatorIdeal.τ).loc Cert.DenominatorIdeal.main_arg1) = m ((c.tc : Thread Cert.DenominatorIdeal.nD Cert.DenominatorIdeal.τ).loc Cert.DenominatorIdeal.main_arg1)
      ∧ r.2.mem ((c.tc : Thread Cert.DenominatorIdeal.nD Cert.DenominatorIdeal.τ).loc Cert.DenominatorIdeal.main_arg2) = m ((c.tc : Thread Cert.DenominatorIdeal.nD Cert.DenominatorIdeal.τ).loc Cert.DenominatorIdeal.main_arg2))
      ∧ r.2.sem = fun _ => 0)

def quiescent_DenominatorReferenceIdeal [hDenominatorReferenceIdeal : Cert.DenominatorReferenceIdeal.Facts] : Prop :=
  ∀ (m : (ℓ : Loc Cert.DenominatorReferenceIdeal.nD Cert.DenominatorReferenceIdeal.τ Cert.DenominatorReferenceIdeal.sig) → Buf (Elt Ideal) ℓ) (g : Dev Cert.DenominatorReferenceIdeal.nD → PrngReg), Pre_DenominatorReferenceIdeal m →
    θ_run (Cert.DenominatorReferenceIdeal.defs (F := Ideal)) (onTc (τ := Cert.DenominatorReferenceIdeal.τ) (Cert.DenominatorReferenceIdeal.main (F := Ideal))) ⟨m, fun _ => 0, g⟩ (fun r => (∀ c : Dev Cert.DenominatorReferenceIdeal.nD,
      r.2.mem ((c.tc : Thread Cert.DenominatorReferenceIdeal.nD Cert.DenominatorReferenceIdeal.τ).loc Cert.DenominatorReferenceIdeal.main_arg0) = m ((c.tc : Thread Cert.DenominatorReferenceIdeal.nD Cert.DenominatorReferenceIdeal.τ).loc Cert.DenominatorReferenceIdeal.main_arg0)
      ∧ r.2.mem ((c.tc : Thread Cert.DenominatorReferenceIdeal.nD Cert.DenominatorReferenceIdeal.τ).loc Cert.DenominatorReferenceIdeal.main_arg1) = m ((c.tc : Thread Cert.DenominatorReferenceIdeal.nD Cert.DenominatorReferenceIdeal.τ).loc Cert.DenominatorReferenceIdeal.main_arg1)
      ∧ r.2.mem ((c.tc : Thread Cert.DenominatorReferenceIdeal.nD Cert.DenominatorReferenceIdeal.τ).loc Cert.DenominatorReferenceIdeal.main_arg2) = m ((c.tc : Thread Cert.DenominatorReferenceIdeal.nD Cert.DenominatorReferenceIdeal.τ).loc Cert.DenominatorReferenceIdeal.main_arg2))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3))
      ∧ r.2.sem = fun _ => 0)

def quiescent_Choose [hChoose : Cert.Choose.Facts] : Prop :=
  ∀ (m : (ℓ : Loc Cert.Choose.nD Cert.Choose.τ Cert.Choose.sig) → Buf (Elt Bits) ℓ) (g : Dev Cert.Choose.nD → PrngReg), Pre_Choose m →
    θ_run (Cert.Choose.defs (F := Bits)) (onTc (τ := Cert.Choose.τ) (Cert.Choose.main (F := Bits))) ⟨m, fun _ => 0, g⟩ (fun r => (∀ c : Dev Cert.Choose.nD,
      r.2.mem ((c.tc : Thread Cert.Choose.nD Cert.Choose.τ).loc Cert.Choose.main_arg0) = m ((c.tc : Thread Cert.Choose.nD Cert.Choose.τ).loc Cert.Choose.main_arg0))
      ∧ r.2.sem = fun _ => 0)

def quiescent_ChooseIdeal [hChooseIdeal : Cert.ChooseIdeal.Facts] : Prop :=
  ∀ (m : (ℓ : Loc Cert.ChooseIdeal.nD Cert.ChooseIdeal.τ Cert.ChooseIdeal.sig) → Buf (Elt Ideal) ℓ) (g : Dev Cert.ChooseIdeal.nD → PrngReg), Pre_ChooseIdeal m →
    θ_run (Cert.ChooseIdeal.defs (F := Ideal)) (onTc (τ := Cert.ChooseIdeal.τ) (Cert.ChooseIdeal.main (F := Ideal))) ⟨m, fun _ => 0, g⟩ (fun r => (∀ c : Dev Cert.ChooseIdeal.nD,
      r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ r.2.sem = fun _ => 0)

def quiescent_ChooseIdeal_pre_scores_ok [hChooseIdeal : Cert.ChooseIdeal.Facts] [hPre_scores_ok : Cert.Pre_scores_ok.Facts] : Prop :=
  ∀ (m : (ℓ : Loc Cert.ChooseIdeal.nD Cert.ChooseIdeal.τ Cert.ChooseIdeal.sig) → Buf (Elt Ideal) ℓ) (g : Dev Cert.ChooseIdeal.nD → PrngReg), Pre_ChooseIdeal_scores_ok m →
    θ_run (Cert.ChooseIdeal.defs (F := Ideal)) (onTc (τ := Cert.ChooseIdeal.τ) (Cert.ChooseIdeal.main (F := Ideal))) ⟨m, fun _ => 0, g⟩ (fun r => (∀ c : Dev Cert.ChooseIdeal.nD,
      r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ r.2.sem = fun _ => 0)

def quiescent_ChooseReferenceIdeal [hChooseReferenceIdeal : Cert.ChooseReferenceIdeal.Facts] : Prop :=
  ∀ (m : (ℓ : Loc Cert.ChooseReferenceIdeal.nD Cert.ChooseReferenceIdeal.τ Cert.ChooseReferenceIdeal.sig) → Buf (Elt Ideal) ℓ) (g : Dev Cert.ChooseReferenceIdeal.nD → PrngReg), Pre_ChooseReferenceIdeal m →
    θ_run (Cert.ChooseReferenceIdeal.defs (F := Ideal)) (onTc (τ := Cert.ChooseReferenceIdeal.τ) (Cert.ChooseReferenceIdeal.main (F := Ideal))) ⟨m, fun _ => 0, g⟩ (fun r => (∀ c : Dev Cert.ChooseReferenceIdeal.nD,
      r.2.mem ((c.tc : Thread Cert.ChooseReferenceIdeal.nD Cert.ChooseReferenceIdeal.τ).loc Cert.ChooseReferenceIdeal.main_arg0) = m ((c.tc : Thread Cert.ChooseReferenceIdeal.nD Cert.ChooseReferenceIdeal.τ).loc Cert.ChooseReferenceIdeal.main_arg0))
      ∧ r.2.sem = fun _ => 0)

def quiescent_ChooseReferenceIdeal_pre_scores_ok [hChooseReferenceIdeal : Cert.ChooseReferenceIdeal.Facts] [hPre_scores_ok : Cert.Pre_scores_ok.Facts] : Prop :=
  ∀ (m : (ℓ : Loc Cert.ChooseReferenceIdeal.nD Cert.ChooseReferenceIdeal.τ Cert.ChooseReferenceIdeal.sig) → Buf (Elt Ideal) ℓ) (g : Dev Cert.ChooseReferenceIdeal.nD → PrngReg), Pre_ChooseReferenceIdeal_scores_ok m →
    θ_run (Cert.ChooseReferenceIdeal.defs (F := Ideal)) (onTc (τ := Cert.ChooseReferenceIdeal.τ) (Cert.ChooseReferenceIdeal.main (F := Ideal))) ⟨m, fun _ => 0, g⟩ (fun r => (∀ c : Dev Cert.ChooseReferenceIdeal.nD,
      r.2.mem ((c.tc : Thread Cert.ChooseReferenceIdeal.nD Cert.ChooseReferenceIdeal.τ).loc Cert.ChooseReferenceIdeal.main_arg0) = m ((c.tc : Thread Cert.ChooseReferenceIdeal.nD Cert.ChooseReferenceIdeal.τ).loc Cert.ChooseReferenceIdeal.main_arg0))
      ∧ r.2.sem = fun _ => 0)

def quiescent_Extract [hExtract : Cert.Extract.Facts] : Prop :=
  ∀ (m : (ℓ : Loc Cert.Extract.nD Cert.Extract.τ Cert.Extract.sig) → Buf (Elt Bits) ℓ) (g : Dev Cert.Extract.nD → PrngReg), Pre_Extract m →
    θ_run (Cert.Extract.defs (F := Bits)) (onTc (τ := Cert.Extract.τ) (Cert.Extract.main (F := Bits))) ⟨m, fun _ => 0, g⟩ (fun r => (∀ c : Dev Cert.Extract.nD,
      r.2.mem ((c.tc : Thread Cert.Extract.nD Cert.Extract.τ).loc Cert.Extract.main_arg0) = m ((c.tc : Thread Cert.Extract.nD Cert.Extract.τ).loc Cert.Extract.main_arg0)
      ∧ r.2.mem ((c.tc : Thread Cert.Extract.nD Cert.Extract.τ).loc Cert.Extract.main_arg1) = m ((c.tc : Thread Cert.Extract.nD Cert.Extract.τ).loc Cert.Extract.main_arg1)
      ∧ r.2.mem ((c.tc : Thread Cert.Extract.nD Cert.Extract.τ).loc Cert.Extract.main_arg2) = m ((c.tc : Thread Cert.Extract.nD Cert.Extract.τ).loc Cert.Extract.main_arg2))
      ∧ r.2.sem = fun _ => 0)

def quiescent_ExtractIdeal [hExtractIdeal : Cert.ExtractIdeal.Facts] : Prop :=
  ∀ (m : (ℓ : Loc Cert.ExtractIdeal.nD Cert.ExtractIdeal.τ Cert.ExtractIdeal.sig) → Buf (Elt Ideal) ℓ) (g : Dev Cert.ExtractIdeal.nD → PrngReg), Pre_ExtractIdeal m →
    θ_run (Cert.ExtractIdeal.defs (F := Ideal)) (onTc (τ := Cert.ExtractIdeal.τ) (Cert.ExtractIdeal.main (F := Ideal))) ⟨m, fun _ => 0, g⟩ (fun r => (∀ c : Dev Cert.ExtractIdeal.nD,
      r.2.mem ((c.tc : Thread Cert.ExtractIdeal.nD Cert.ExtractIdeal.τ).loc Cert.ExtractIdeal.main_arg0) = m ((c.tc : Thread Cert.ExtractIdeal.nD Cert.ExtractIdeal.τ).loc Cert.ExtractIdeal.main_arg0)
      ∧ r.2.mem ((c.tc : Thread Cert.ExtractIdeal.nD Cert.ExtractIdeal.τ).loc Cert.ExtractIdeal.main_arg1) = m ((c.tc : Thread Cert.ExtractIdeal.nD Cert.ExtractIdeal.τ).loc Cert.ExtractIdeal.main_arg1)
      ∧ r.2.mem ((c.tc : Thread Cert.ExtractIdeal.nD Cert.ExtractIdeal.τ).loc Cert.ExtractIdeal.main_arg2) = m ((c.tc : Thread Cert.ExtractIdeal.nD Cert.ExtractIdeal.τ).loc Cert.ExtractIdeal.main_arg2))
      ∧ r.2.sem = fun _ => 0)

def quiescent_ExtractIdeal_pre_extract_ok [hExtractIdeal : Cert.ExtractIdeal.Facts] [hPre_extract_ok : Cert.Pre_extract_ok.Facts] : Prop :=
  ∀ (m : (ℓ : Loc Cert.ExtractIdeal.nD Cert.ExtractIdeal.τ Cert.ExtractIdeal.sig) → Buf (Elt Ideal) ℓ) (g : Dev Cert.ExtractIdeal.nD → PrngReg), Pre_ExtractIdeal_extract_ok m →
    θ_run (Cert.ExtractIdeal.defs (F := Ideal)) (onTc (τ := Cert.ExtractIdeal.τ) (Cert.ExtractIdeal.main (F := Ideal))) ⟨m, fun _ => 0, g⟩ (fun r => (∀ c : Dev Cert.ExtractIdeal.nD,
      r.2.mem ((c.tc : Thread Cert.ExtractIdeal.nD Cert.ExtractIdeal.τ).loc Cert.ExtractIdeal.main_arg0) = m ((c.tc : Thread Cert.ExtractIdeal.nD Cert.ExtractIdeal.τ).loc Cert.ExtractIdeal.main_arg0)
      ∧ r.2.mem ((c.tc : Thread Cert.ExtractIdeal.nD Cert.ExtractIdeal.τ).loc Cert.ExtractIdeal.main_arg1) = m ((c.tc : Thread Cert.ExtractIdeal.nD Cert.ExtractIdeal.τ).loc Cert.ExtractIdeal.main_arg1)
      ∧ r.2.mem ((c.tc : Thread Cert.ExtractIdeal.nD Cert.ExtractIdeal.τ).loc Cert.ExtractIdeal.main_arg2) = m ((c.tc : Thread Cert.ExtractIdeal.nD Cert.ExtractIdeal.τ).loc Cert.ExtractIdeal.main_arg2))
      ∧ r.2.sem = fun _ => 0)

def quiescent_ExtractReferenceIdeal [hExtractReferenceIdeal : Cert.ExtractReferenceIdeal.Facts] : Prop :=
  ∀ (m : (ℓ : Loc Cert.ExtractReferenceIdeal.nD Cert.ExtractReferenceIdeal.τ Cert.ExtractReferenceIdeal.sig) → Buf (Elt Ideal) ℓ) (g : Dev Cert.ExtractReferenceIdeal.nD → PrngReg), Pre_ExtractReferenceIdeal m →
    θ_run (Cert.ExtractReferenceIdeal.defs (F := Ideal)) (onTc (τ := Cert.ExtractReferenceIdeal.τ) (Cert.ExtractReferenceIdeal.main (F := Ideal))) ⟨m, fun _ => 0, g⟩ (fun r => (∀ c : Dev Cert.ExtractReferenceIdeal.nD,
      r.2.mem ((c.tc : Thread Cert.ExtractReferenceIdeal.nD Cert.ExtractReferenceIdeal.τ).loc Cert.ExtractReferenceIdeal.main_arg0) = m ((c.tc : Thread Cert.ExtractReferenceIdeal.nD Cert.ExtractReferenceIdeal.τ).loc Cert.ExtractReferenceIdeal.main_arg0)
      ∧ r.2.mem ((c.tc : Thread Cert.ExtractReferenceIdeal.nD Cert.ExtractReferenceIdeal.τ).loc Cert.ExtractReferenceIdeal.main_arg1) = m ((c.tc : Thread Cert.ExtractReferenceIdeal.nD Cert.ExtractReferenceIdeal.τ).loc Cert.ExtractReferenceIdeal.main_arg1)
      ∧ r.2.mem ((c.tc : Thread Cert.ExtractReferenceIdeal.nD Cert.ExtractReferenceIdeal.τ).loc Cert.ExtractReferenceIdeal.main_arg2) = m ((c.tc : Thread Cert.ExtractReferenceIdeal.nD Cert.ExtractReferenceIdeal.τ).loc Cert.ExtractReferenceIdeal.main_arg2))
      ∧ r.2.sem = fun _ => 0)

def quiescent_ExtractReferenceIdeal_pre_extract_ok [hExtractReferenceIdeal : Cert.ExtractReferenceIdeal.Facts] [hPre_extract_ok : Cert.Pre_extract_ok.Facts] : Prop :=
  ∀ (m : (ℓ : Loc Cert.ExtractReferenceIdeal.nD Cert.ExtractReferenceIdeal.τ Cert.ExtractReferenceIdeal.sig) → Buf (Elt Ideal) ℓ) (g : Dev Cert.ExtractReferenceIdeal.nD → PrngReg), Pre_ExtractReferenceIdeal_extract_ok m →
    θ_run (Cert.ExtractReferenceIdeal.defs (F := Ideal)) (onTc (τ := Cert.ExtractReferenceIdeal.τ) (Cert.ExtractReferenceIdeal.main (F := Ideal))) ⟨m, fun _ => 0, g⟩ (fun r => (∀ c : Dev Cert.ExtractReferenceIdeal.nD,
      r.2.mem ((c.tc : Thread Cert.ExtractReferenceIdeal.nD Cert.ExtractReferenceIdeal.τ).loc Cert.ExtractReferenceIdeal.main_arg0) = m ((c.tc : Thread Cert.ExtractReferenceIdeal.nD Cert.ExtractReferenceIdeal.τ).loc Cert.ExtractReferenceIdeal.main_arg0)
      ∧ r.2.mem ((c.tc : Thread Cert.ExtractReferenceIdeal.nD Cert.ExtractReferenceIdeal.τ).loc Cert.ExtractReferenceIdeal.main_arg1) = m ((c.tc : Thread Cert.ExtractReferenceIdeal.nD Cert.ExtractReferenceIdeal.τ).loc Cert.ExtractReferenceIdeal.main_arg1)
      ∧ r.2.mem ((c.tc : Thread Cert.ExtractReferenceIdeal.nD Cert.ExtractReferenceIdeal.τ).loc Cert.ExtractReferenceIdeal.main_arg2) = m ((c.tc : Thread Cert.ExtractReferenceIdeal.nD Cert.ExtractReferenceIdeal.τ).loc Cert.ExtractReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sel_ok : Cert.Pre_sel_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Blocks_BlocksIdeal : Prop :=
  True

def algebraic_BlocksIdeal_BlocksReferenceIdeal [hBlocksIdeal : Cert.BlocksIdeal.Facts] [hBlocksReferenceIdeal : Cert.BlocksReferenceIdeal.Facts] [hPre_selb_ok : Cert.Pre_selb_ok.Facts] : Prop :=
  ∀ (m : (ℓ : Loc Cert.BlocksIdeal.nD Cert.BlocksIdeal.τ Cert.BlocksIdeal.sig) → Buf (Elt Ideal) ℓ) (g : Dev Cert.BlocksIdeal.nD → PrngReg)
    (m' : (ℓ : Loc Cert.BlocksReferenceIdeal.nD Cert.BlocksReferenceIdeal.τ Cert.BlocksReferenceIdeal.sig) → Buf (Elt Ideal) ℓ) (g' : Dev Cert.BlocksReferenceIdeal.nD → PrngReg), Pre_BlocksIdeal m →
    (∀ c : Dev Cert.BlocksIdeal.nD,
      m' ((c.tc : Thread Cert.BlocksReferenceIdeal.nD Cert.BlocksReferenceIdeal.τ).loc Cert.BlocksReferenceIdeal.main_arg0) = m ((c.tc : Thread Cert.BlocksIdeal.nD Cert.BlocksIdeal.τ).loc Cert.BlocksIdeal.main_arg0)
      ∧ m' ((c.tc : Thread Cert.BlocksReferenceIdeal.nD Cert.BlocksReferenceIdeal.τ).loc Cert.BlocksReferenceIdeal.main_arg1) = m ((c.tc : Thread Cert.BlocksIdeal.nD Cert.BlocksIdeal.τ).loc Cert.BlocksIdeal.main_arg1)) →
    ∃ (v0 : (c : Dev Cert.BlocksIdeal.nD) → Buf (Elt Ideal) ((c.tc : Thread Cert.BlocksIdeal.nD Cert.BlocksIdeal.τ).loc Cert.BlocksIdeal.main_v10)),
      θ_run (Cert.BlocksIdeal.defs (F := Ideal)) (Cert.BlocksIdeal.threads (F := Ideal)) ⟨m, fun _ => 0, g⟩ (fun r => ∀ c : Dev Cert.BlocksIdeal.nD,
          r.2.mem ((c.tc : Thread Cert.BlocksIdeal.nD Cert.BlocksIdeal.τ).loc Cert.BlocksIdeal.main_v10) = v0 c
          ∧ r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
          ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1))
      ∧ θ_run (Cert.BlocksReferenceIdeal.defs (F := Ideal)) (onTc (τ := Cert.BlocksReferenceIdeal.τ) (Cert.BlocksReferenceIdeal.main (F := Ideal))) ⟨m', fun _ => 0, g'⟩ (fun r => ∀ c : Dev Cert.BlocksReferenceIdeal.nD,
          r.2.mem ((c.tc : Thread Cert.BlocksReferenceIdeal.nD Cert.BlocksReferenceIdeal.τ).loc Cert.BlocksReferenceIdeal.main_v4) = v0 c
          ∧ r.2.mem ((c.tc : Thread Cert.BlocksReferenceIdeal.nD Cert.BlocksReferenceIdeal.τ).loc Cert.BlocksReferenceIdeal.main_arg0) = m' ((c.tc : Thread Cert.BlocksReferenceIdeal.nD Cert.BlocksReferenceIdeal.τ).loc Cert.BlocksReferenceIdeal.main_arg0)
          ∧ r.2.mem ((c.tc : Thread Cert.BlocksReferenceIdeal.nD Cert.BlocksReferenceIdeal.τ).loc Cert.BlocksReferenceIdeal.main_arg1) = m' ((c.tc : Thread Cert.BlocksReferenceIdeal.nD Cert.BlocksReferenceIdeal.τ).loc Cert.BlocksReferenceIdeal.main_arg1))

def preserves_RowMax_RowMaxIdeal : Prop :=
  True

def algebraic_RowMaxIdeal_RowMaxReferenceIdeal [hRowMaxIdeal : Cert.RowMaxIdeal.Facts] [hRowMaxReferenceIdeal : Cert.RowMaxReferenceIdeal.Facts] : Prop :=
  ∀ (m : (ℓ : Loc Cert.RowMaxIdeal.nD Cert.RowMaxIdeal.τ Cert.RowMaxIdeal.sig) → Buf (Elt Ideal) ℓ) (g : Dev Cert.RowMaxIdeal.nD → PrngReg)
    (m' : (ℓ : Loc Cert.RowMaxReferenceIdeal.nD Cert.RowMaxReferenceIdeal.τ Cert.RowMaxReferenceIdeal.sig) → Buf (Elt Ideal) ℓ) (g' : Dev Cert.RowMaxReferenceIdeal.nD → PrngReg), Pre_RowMaxIdeal m →
    (∀ c : Dev Cert.RowMaxIdeal.nD,
      m' ((c.tc : Thread Cert.RowMaxReferenceIdeal.nD Cert.RowMaxReferenceIdeal.τ).loc Cert.RowMaxReferenceIdeal.main_arg0) = m ((c.tc : Thread Cert.RowMaxIdeal.nD Cert.RowMaxIdeal.τ).loc Cert.RowMaxIdeal.main_arg0)
      ∧ m' ((c.tc : Thread Cert.RowMaxReferenceIdeal.nD Cert.RowMaxReferenceIdeal.τ).loc Cert.RowMaxReferenceIdeal.main_arg1) = m ((c.tc : Thread Cert.RowMaxIdeal.nD Cert.RowMaxIdeal.τ).loc Cert.RowMaxIdeal.main_arg1)) →
    ∃ (v0 : (c : Dev Cert.RowMaxIdeal.nD) → Buf (Elt Ideal) ((c.tc : Thread Cert.RowMaxIdeal.nD Cert.RowMaxIdeal.τ).loc Cert.RowMaxIdeal.main_v1)),
      θ_run (Cert.RowMaxIdeal.defs (F := Ideal)) (onTc (τ := Cert.RowMaxIdeal.τ) (Cert.RowMaxIdeal.main (F := Ideal))) ⟨m, fun _ => 0, g⟩ (fun r => ∀ c : Dev Cert.RowMaxIdeal.nD,
          r.2.mem ((c.tc : Thread Cert.RowMaxIdeal.nD Cert.RowMaxIdeal.τ).loc Cert.RowMaxIdeal.main_v1) = v0 c
          ∧ r.2.mem ((c.tc : Thread Cert.RowMaxIdeal.nD Cert.RowMaxIdeal.τ).loc Cert.RowMaxIdeal.main_arg0) = m ((c.tc : Thread Cert.RowMaxIdeal.nD Cert.RowMaxIdeal.τ).loc Cert.RowMaxIdeal.main_arg0)
          ∧ r.2.mem ((c.tc : Thread Cert.RowMaxIdeal.nD Cert.RowMaxIdeal.τ).loc Cert.RowMaxIdeal.main_arg1) = m ((c.tc : Thread Cert.RowMaxIdeal.nD Cert.RowMaxIdeal.τ).loc Cert.RowMaxIdeal.main_arg1))
      ∧ θ_run (Cert.RowMaxReferenceIdeal.defs (F := Ideal)) (onTc (τ := Cert.RowMaxReferenceIdeal.τ) (Cert.RowMaxReferenceIdeal.main (F := Ideal))) ⟨m', fun _ => 0, g'⟩ (fun r => ∀ c : Dev Cert.RowMaxReferenceIdeal.nD,
          r.2.mem ((c.tc : Thread Cert.RowMaxReferenceIdeal.nD Cert.RowMaxReferenceIdeal.τ).loc Cert.RowMaxReferenceIdeal.main_v2) = v0 c
          ∧ r.2.mem ((c.tc : Thread Cert.RowMaxReferenceIdeal.nD Cert.RowMaxReferenceIdeal.τ).loc Cert.RowMaxReferenceIdeal.main_arg0) = m' ((c.tc : Thread Cert.RowMaxReferenceIdeal.nD Cert.RowMaxReferenceIdeal.τ).loc Cert.RowMaxReferenceIdeal.main_arg0)
          ∧ r.2.mem ((c.tc : Thread Cert.RowMaxReferenceIdeal.nD Cert.RowMaxReferenceIdeal.τ).loc Cert.RowMaxReferenceIdeal.main_arg1) = m' ((c.tc : Thread Cert.RowMaxReferenceIdeal.nD Cert.RowMaxReferenceIdeal.τ).loc Cert.RowMaxReferenceIdeal.main_arg1))

def preserves_Denominator_DenominatorIdeal : Prop :=
  True

def algebraic_DenominatorIdeal_DenominatorReferenceIdeal [hDenominatorIdeal : Cert.DenominatorIdeal.Facts] [hDenominatorReferenceIdeal : Cert.DenominatorReferenceIdeal.Facts] : Prop :=
  ∀ (m : (ℓ : Loc Cert.DenominatorIdeal.nD Cert.DenominatorIdeal.τ Cert.DenominatorIdeal.sig) → Buf (Elt Ideal) ℓ) (g : Dev Cert.DenominatorIdeal.nD → PrngReg)
    (m' : (ℓ : Loc Cert.DenominatorReferenceIdeal.nD Cert.DenominatorReferenceIdeal.τ Cert.DenominatorReferenceIdeal.sig) → Buf (Elt Ideal) ℓ) (g' : Dev Cert.DenominatorReferenceIdeal.nD → PrngReg), Pre_DenominatorIdeal m →
    (∀ c : Dev Cert.DenominatorIdeal.nD,
      m' ((c.tc : Thread Cert.DenominatorReferenceIdeal.nD Cert.DenominatorReferenceIdeal.τ).loc Cert.DenominatorReferenceIdeal.main_arg0) = m ((c.tc : Thread Cert.DenominatorIdeal.nD Cert.DenominatorIdeal.τ).loc Cert.DenominatorIdeal.main_arg0)
      ∧ m' ((c.tc : Thread Cert.DenominatorReferenceIdeal.nD Cert.DenominatorReferenceIdeal.τ).loc Cert.DenominatorReferenceIdeal.main_arg1) = m ((c.tc : Thread Cert.DenominatorIdeal.nD Cert.DenominatorIdeal.τ).loc Cert.DenominatorIdeal.main_arg1)
      ∧ m' ((c.tc : Thread Cert.DenominatorReferenceIdeal.nD Cert.DenominatorReferenceIdeal.τ).loc Cert.DenominatorReferenceIdeal.main_arg2) = m ((c.tc : Thread Cert.DenominatorIdeal.nD Cert.DenominatorIdeal.τ).loc Cert.DenominatorIdeal.main_arg2)) →
    ∃ (v0 : (c : Dev Cert.DenominatorIdeal.nD) → Buf (Elt Ideal) ((c.tc : Thread Cert.DenominatorIdeal.nD Cert.DenominatorIdeal.τ).loc Cert.DenominatorIdeal.main_v1)),
      θ_run (Cert.DenominatorIdeal.defs (F := Ideal)) (onTc (τ := Cert.DenominatorIdeal.τ) (Cert.DenominatorIdeal.main (F := Ideal))) ⟨m, fun _ => 0, g⟩ (fun r => ∀ c : Dev Cert.DenominatorIdeal.nD,
          r.2.mem ((c.tc : Thread Cert.DenominatorIdeal.nD Cert.DenominatorIdeal.τ).loc Cert.DenominatorIdeal.main_v1) = v0 c
          ∧ r.2.mem ((c.tc : Thread Cert.DenominatorIdeal.nD Cert.DenominatorIdeal.τ).loc Cert.DenominatorIdeal.main_arg0) = m ((c.tc : Thread Cert.DenominatorIdeal.nD Cert.DenominatorIdeal.τ).loc Cert.DenominatorIdeal.main_arg0)
          ∧ r.2.mem ((c.tc : Thread Cert.DenominatorIdeal.nD Cert.DenominatorIdeal.τ).loc Cert.DenominatorIdeal.main_arg1) = m ((c.tc : Thread Cert.DenominatorIdeal.nD Cert.DenominatorIdeal.τ).loc Cert.DenominatorIdeal.main_arg1)
          ∧ r.2.mem ((c.tc : Thread Cert.DenominatorIdeal.nD Cert.DenominatorIdeal.τ).loc Cert.DenominatorIdeal.main_arg2) = m ((c.tc : Thread Cert.DenominatorIdeal.nD Cert.DenominatorIdeal.τ).loc Cert.DenominatorIdeal.main_arg2))
      ∧ θ_run (Cert.DenominatorReferenceIdeal.defs (F := Ideal)) (onTc (τ := Cert.DenominatorReferenceIdeal.τ) (Cert.DenominatorReferenceIdeal.main (F := Ideal))) ⟨m', fun _ => 0, g'⟩ (fun r => ∀ c : Dev Cert.DenominatorReferenceIdeal.nD,
          r.2.mem ((c.tc : Thread Cert.DenominatorReferenceIdeal.nD Cert.DenominatorReferenceIdeal.τ).loc Cert.DenominatorReferenceIdeal.main_v5) = v0 c
          ∧ r.2.mem ((c.tc : Thread Cert.DenominatorReferenceIdeal.nD Cert.DenominatorReferenceIdeal.τ).loc Cert.DenominatorReferenceIdeal.main_arg0) = m' ((c.tc : Thread Cert.DenominatorReferenceIdeal.nD Cert.DenominatorReferenceIdeal.τ).loc Cert.DenominatorReferenceIdeal.main_arg0)
          ∧ r.2.mem ((c.tc : Thread Cert.DenominatorReferenceIdeal.nD Cert.DenominatorReferenceIdeal.τ).loc Cert.DenominatorReferenceIdeal.main_arg1) = m' ((c.tc : Thread Cert.DenominatorReferenceIdeal.nD Cert.DenominatorReferenceIdeal.τ).loc Cert.DenominatorReferenceIdeal.main_arg1)
          ∧ r.2.mem ((c.tc : Thread Cert.DenominatorReferenceIdeal.nD Cert.DenominatorReferenceIdeal.τ).loc Cert.DenominatorReferenceIdeal.main_arg2) = m' ((c.tc : Thread Cert.DenominatorReferenceIdeal.nD Cert.DenominatorReferenceIdeal.τ).loc Cert.DenominatorReferenceIdeal.main_arg2))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)
      ∧ m' ((c.tc : Thread Cert.WeightsReferenceIdeal.nD Cert.WeightsReferenceIdeal.τ).loc Cert.WeightsReferenceIdeal.main_arg3) = m ((c.tc : Thread Cert.WeightsIdeal.nD Cert.WeightsIdeal.τ).loc Cert.WeightsIdeal.main_arg3)) →
    ∃ (v0 : (c : Dev Cert.WeightsIdeal.nD) → Buf (Elt Ideal) ((c.tc : Thread Cert.WeightsIdeal.nD Cert.WeightsIdeal.τ).loc Cert.WeightsIdeal.main_v1_0)) (v1 : (c : Dev Cert.WeightsIdeal.nD) → Buf (Elt Ideal) ((c.tc : Thread Cert.WeightsIdeal.nD Cert.WeightsIdeal.τ).loc Cert.WeightsIdeal.main_v1_1)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0 c
          ∧ r.2.mem ((c.tc : Thread Cert.WeightsIdeal.nD Cert.WeightsIdeal.τ).loc Cert.WeightsIdeal.main_v1_1) = v1 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v6) = v0 c
          ∧ r.2.mem ((c.tc : Thread Cert.WeightsReferenceIdeal.nD Cert.WeightsReferenceIdeal.τ).loc Cert.WeightsReferenceIdeal.main_v10) = v1 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2)
          ∧ r.2.mem ((c.tc : Thread Cert.WeightsReferenceIdeal.nD Cert.WeightsReferenceIdeal.τ).loc Cert.WeightsReferenceIdeal.main_arg3) = m' ((c.tc : Thread Cert.WeightsReferenceIdeal.nD Cert.WeightsReferenceIdeal.τ).loc Cert.WeightsReferenceIdeal.main_arg3))

def preserves_Choose_ChooseIdeal : Prop :=
  True

def algebraic_ChooseIdeal_ChooseReferenceIdeal_pre_scores_ok [hChooseIdeal : Cert.ChooseIdeal.Facts] [hChooseReferenceIdeal : Cert.ChooseReferenceIdeal.Facts] [hPre_scores_ok : Cert.Pre_scores_ok.Facts] : Prop :=
  ∀ (m : (ℓ : Loc Cert.ChooseIdeal.nD Cert.ChooseIdeal.τ Cert.ChooseIdeal.sig) → Buf (Elt Ideal) ℓ) (g : Dev Cert.ChooseIdeal.nD → PrngReg)
    (m' : (ℓ : Loc Cert.ChooseReferenceIdeal.nD Cert.ChooseReferenceIdeal.τ Cert.ChooseReferenceIdeal.sig) → Buf (Elt Ideal) ℓ) (g' : Dev Cert.ChooseReferenceIdeal.nD → PrngReg), Pre_ChooseIdeal_scores_ok m →
    (∀ c : Dev Cert.ChooseIdeal.nD,
      m' ((c.tc : Thread Cert.ChooseReferenceIdeal.nD Cert.ChooseReferenceIdeal.τ).loc Cert.ChooseReferenceIdeal.main_arg0) = m ((c.tc : Thread Cert.ChooseIdeal.nD Cert.ChooseIdeal.τ).loc Cert.ChooseIdeal.main_arg0)) →
    ∃ (v0 : (c : Dev Cert.ChooseIdeal.nD) → Buf (Elt Ideal) ((c.tc : Thread Cert.ChooseIdeal.nD Cert.ChooseIdeal.τ).loc Cert.ChooseIdeal.main_v0)),
      θ_run (Cert.ChooseIdeal.defs (F := Ideal)) (onTc (τ := Cert.ChooseIdeal.τ) (Cert.ChooseIdeal.main (F := Ideal))) ⟨m, fun _ => 0, g⟩ (fun r => ∀ c : Dev Cert.ChooseIdeal.nD,
          r.2.mem ((c.tc : Thread Cert.ChooseIdeal.nD Cert.ChooseIdeal.τ).loc Cert.ChooseIdeal.main_v0) = v0 c
          ∧ r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ θ_run (Cert.ChooseReferenceIdeal.defs (F := Ideal)) (onTc (τ := Cert.ChooseReferenceIdeal.τ) (Cert.ChooseReferenceIdeal.main (F := Ideal))) ⟨m', fun _ => 0, g'⟩ (fun r => ∀ c : Dev Cert.ChooseReferenceIdeal.nD,
          r.2.mem ((c.tc : Thread Cert.ChooseReferenceIdeal.nD Cert.ChooseReferenceIdeal.τ).loc Cert.ChooseReferenceIdeal.main_v0) = v0 c
          ∧ r.2.mem ((c.tc : Thread Cert.ChooseReferenceIdeal.nD Cert.ChooseReferenceIdeal.τ).loc Cert.ChooseReferenceIdeal.main_arg0) = m' ((c.tc : Thread Cert.ChooseReferenceIdeal.nD Cert.ChooseReferenceIdeal.τ).loc Cert.ChooseReferenceIdeal.main_arg0))

def preserves_Extract_ExtractIdeal : Prop :=
  True

def algebraic_ExtractIdeal_ExtractReferenceIdeal_pre_extract_ok [hExtractIdeal : Cert.ExtractIdeal.Facts] [hExtractReferenceIdeal : Cert.ExtractReferenceIdeal.Facts] [hPre_extract_ok : Cert.Pre_extract_ok.Facts] : Prop :=
  ∀ (m : (ℓ : Loc Cert.ExtractIdeal.nD Cert.ExtractIdeal.τ Cert.ExtractIdeal.sig) → Buf (Elt Ideal) ℓ) (g : Dev Cert.ExtractIdeal.nD → PrngReg)
    (m' : (ℓ : Loc Cert.ExtractReferenceIdeal.nD Cert.ExtractReferenceIdeal.τ Cert.ExtractReferenceIdeal.sig) → Buf (Elt Ideal) ℓ) (g' : Dev Cert.ExtractReferenceIdeal.nD → PrngReg), Pre_ExtractIdeal_extract_ok m →
    (∀ c : Dev Cert.ExtractIdeal.nD,
      m' ((c.tc : Thread Cert.ExtractReferenceIdeal.nD Cert.ExtractReferenceIdeal.τ).loc Cert.ExtractReferenceIdeal.main_arg0) = m ((c.tc : Thread Cert.ExtractIdeal.nD Cert.ExtractIdeal.τ).loc Cert.ExtractIdeal.main_arg0)
      ∧ m' ((c.tc : Thread Cert.ExtractReferenceIdeal.nD Cert.ExtractReferenceIdeal.τ).loc Cert.ExtractReferenceIdeal.main_arg1) = m ((c.tc : Thread Cert.ExtractIdeal.nD Cert.ExtractIdeal.τ).loc Cert.ExtractIdeal.main_arg1)
      ∧ m' ((c.tc : Thread Cert.ExtractReferenceIdeal.nD Cert.ExtractReferenceIdeal.τ).loc Cert.ExtractReferenceIdeal.main_arg2) = m ((c.tc : Thread Cert.ExtractIdeal.nD Cert.ExtractIdeal.τ).loc Cert.ExtractIdeal.main_arg2)) →
    ∃ (v0 : (c : Dev Cert.ExtractIdeal.nD) → Buf (Elt Ideal) ((c.tc : Thread Cert.ExtractIdeal.nD Cert.ExtractIdeal.τ).loc Cert.ExtractIdeal.main_v11)),
      θ_run (Cert.ExtractIdeal.defs (F := Ideal)) (onTc (τ := Cert.ExtractIdeal.τ) (Cert.ExtractIdeal.main (F := Ideal))) ⟨m, fun _ => 0, g⟩ (fun r => ∀ c : Dev Cert.ExtractIdeal.nD,
          r.2.mem ((c.tc : Thread Cert.ExtractIdeal.nD Cert.ExtractIdeal.τ).loc Cert.ExtractIdeal.main_v11) = v0 c
          ∧ r.2.mem ((c.tc : Thread Cert.ExtractIdeal.nD Cert.ExtractIdeal.τ).loc Cert.ExtractIdeal.main_arg0) = m ((c.tc : Thread Cert.ExtractIdeal.nD Cert.ExtractIdeal.τ).loc Cert.ExtractIdeal.main_arg0)
          ∧ r.2.mem ((c.tc : Thread Cert.ExtractIdeal.nD Cert.ExtractIdeal.τ).loc Cert.ExtractIdeal.main_arg1) = m ((c.tc : Thread Cert.ExtractIdeal.nD Cert.ExtractIdeal.τ).loc Cert.ExtractIdeal.main_arg1)
          ∧ r.2.mem ((c.tc : Thread Cert.ExtractIdeal.nD Cert.ExtractIdeal.τ).loc Cert.ExtractIdeal.main_arg2) = m ((c.tc : Thread Cert.ExtractIdeal.nD Cert.ExtractIdeal.τ).loc Cert.ExtractIdeal.main_arg2))
      ∧ θ_run (Cert.ExtractReferenceIdeal.defs (F := Ideal)) (onTc (τ := Cert.ExtractReferenceIdeal.τ) (Cert.ExtractReferenceIdeal.main (F := Ideal))) ⟨m', fun _ => 0, g'⟩ (fun r => ∀ c : Dev Cert.ExtractReferenceIdeal.nD,
          r.2.mem ((c.tc : Thread Cert.ExtractReferenceIdeal.nD Cert.ExtractReferenceIdeal.τ).loc Cert.ExtractReferenceIdeal.main_v20) = v0 c
          ∧ r.2.mem ((c.tc : Thread Cert.ExtractReferenceIdeal.nD Cert.ExtractReferenceIdeal.τ).loc Cert.ExtractReferenceIdeal.main_arg0) = m' ((c.tc : Thread Cert.ExtractReferenceIdeal.nD Cert.ExtractReferenceIdeal.τ).loc Cert.ExtractReferenceIdeal.main_arg0)
          ∧ r.2.mem ((c.tc : Thread Cert.ExtractReferenceIdeal.nD Cert.ExtractReferenceIdeal.τ).loc Cert.ExtractReferenceIdeal.main_arg1) = m' ((c.tc : Thread Cert.ExtractReferenceIdeal.nD Cert.ExtractReferenceIdeal.τ).loc Cert.ExtractReferenceIdeal.main_arg1)
          ∧ r.2.mem ((c.tc : Thread Cert.ExtractReferenceIdeal.nD Cert.ExtractReferenceIdeal.τ).loc Cert.ExtractReferenceIdeal.main_arg2) = m' ((c.tc : Thread Cert.ExtractReferenceIdeal.nD Cert.ExtractReferenceIdeal.τ).loc Cert.ExtractReferenceIdeal.main_arg2))

def Claim : Prop :=
  ∃ (hKernel : Cert.Kernel.Facts) (hKernelIdeal : Cert.KernelIdeal.Facts) (hReferenceIdeal : Cert.ReferenceIdeal.Facts) (hBlocks : Cert.Blocks.Facts) (hBlocksIdeal : Cert.BlocksIdeal.Facts) (hBlocksReferenceIdeal : Cert.BlocksReferenceIdeal.Facts) (hRowMax : Cert.RowMax.Facts) (hRowMaxIdeal : Cert.RowMaxIdeal.Facts) (hRowMaxReferenceIdeal : Cert.RowMaxReferenceIdeal.Facts) (hDenominator : Cert.Denominator.Facts) (hDenominatorIdeal : Cert.DenominatorIdeal.Facts) (hDenominatorReferenceIdeal : Cert.DenominatorReferenceIdeal.Facts) (hWeights : Cert.Weights.Facts) (hWeightsIdeal : Cert.WeightsIdeal.Facts) (hWeightsReferenceIdeal : Cert.WeightsReferenceIdeal.Facts) (hChoose : Cert.Choose.Facts) (hChooseIdeal : Cert.ChooseIdeal.Facts) (hChooseReferenceIdeal : Cert.ChooseReferenceIdeal.Facts) (hExtract : Cert.Extract.Facts) (hExtractIdeal : Cert.ExtractIdeal.Facts) (hExtractReferenceIdeal : Cert.ExtractReferenceIdeal.Facts) (hPre_sel_ok : Cert.Pre_sel_ok.Facts) (hPre_selb_ok : Cert.Pre_selb_ok.Facts) (hPre_scores_ok : Cert.Pre_scores_ok.Facts) (hPre_extract_ok : Cert.Pre_extract_ok.Facts),
    quiescent_Kernel (hKernel := hKernel) (hPre_sel_ok := hPre_sel_ok)
    ∧ quiescent_KernelIdeal (hKernelIdeal := hKernelIdeal) (hPre_sel_ok := hPre_sel_ok)
    ∧ quiescent_ReferenceIdeal (hReferenceIdeal := hReferenceIdeal)
    ∧ quiescent_ReferenceIdeal_pre_sel_ok (hReferenceIdeal := hReferenceIdeal) (hPre_sel_ok := hPre_sel_ok)
    ∧ quiescent_Blocks (hBlocks := hBlocks) (hPre_selb_ok := hPre_selb_ok)
    ∧ quiescent_BlocksIdeal (hBlocksIdeal := hBlocksIdeal) (hPre_selb_ok := hPre_selb_ok)
    ∧ quiescent_BlocksReferenceIdeal (hBlocksReferenceIdeal := hBlocksReferenceIdeal)
    ∧ quiescent_BlocksReferenceIdeal_pre_selb_ok (hBlocksReferenceIdeal := hBlocksReferenceIdeal) (hPre_selb_ok := hPre_selb_ok)
    ∧ quiescent_RowMax (hRowMax := hRowMax)
    ∧ quiescent_RowMaxIdeal (hRowMaxIdeal := hRowMaxIdeal)
    ∧ quiescent_RowMaxReferenceIdeal (hRowMaxReferenceIdeal := hRowMaxReferenceIdeal)
    ∧ quiescent_Denominator (hDenominator := hDenominator)
    ∧ quiescent_DenominatorIdeal (hDenominatorIdeal := hDenominatorIdeal)
    ∧ quiescent_DenominatorReferenceIdeal (hDenominatorReferenceIdeal := hDenominatorReferenceIdeal)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_Choose (hChoose := hChoose)
    ∧ quiescent_ChooseIdeal (hChooseIdeal := hChooseIdeal)
    ∧ quiescent_ChooseIdeal_pre_scores_ok (hChooseIdeal := hChooseIdeal) (hPre_scores_ok := hPre_scores_ok)
    ∧ quiescent_ChooseReferenceIdeal (hChooseReferenceIdeal := hChooseReferenceIdeal)
    ∧ quiescent_ChooseReferenceIdeal_pre_scores_ok (hChooseReferenceIdeal := hChooseReferenceIdeal) (hPre_scores_ok := hPre_scores_ok)
    ∧ quiescent_Extract (hExtract := hExtract)
    ∧ quiescent_ExtractIdeal (hExtractIdeal := hExtractIdeal)
    ∧ quiescent_ExtractIdeal_pre_extract_ok (hExtractIdeal := hExtractIdeal) (hPre_extract_ok := hPre_extract_ok)
    ∧ quiescent_ExtractReferenceIdeal (hExtractReferenceIdeal := hExtractReferenceIdeal)
    ∧ quiescent_ExtractReferenceIdeal_pre_extract_ok (hExtractReferenceIdeal := hExtractReferenceIdeal) (hPre_extract_ok := hPre_extract_ok)
    ∧ preserves_Kernel_KernelIdeal
    ∧ algebraic_KernelIdeal_ReferenceIdeal (hKernelIdeal := hKernelIdeal) (hReferenceIdeal := hReferenceIdeal) (hPre_sel_ok := hPre_sel_ok)
    ∧ preserves_Blocks_BlocksIdeal
    ∧ algebraic_BlocksIdeal_BlocksReferenceIdeal (hBlocksIdeal := hBlocksIdeal) (hBlocksReferenceIdeal := hBlocksReferenceIdeal) (hPre_selb_ok := hPre_selb_ok)
    ∧ preserves_RowMax_RowMaxIdeal
    ∧ algebraic_RowMaxIdeal_RowMaxReferenceIdeal (hRowMaxIdeal := hRowMaxIdeal) (hRowMaxReferenceIdeal := hRowMaxReferenceIdeal)
    ∧ preserves_Denominator_DenominatorIdeal
    ∧ algebraic_DenominatorIdeal_DenominatorReferenceIdeal (hDenominatorIdeal := hDenominatorIdeal) (hDenominatorReferenceIdeal := hDenominatorReferenceIdeal)
    ∧ preserves_Weights_WeightsIdeal
    ∧ algebraic_WeightsIdeal_WeightsReferenceIdeal (hWeightsIdeal := hWeightsIdeal) (hWeightsReferenceIdeal := hWeightsReferenceIdeal)
    ∧ preserves_Choose_ChooseIdeal
    ∧ algebraic_ChooseIdeal_ChooseReferenceIdeal_pre_scores_ok (hChooseIdeal := hChooseIdeal) (hChooseReferenceIdeal := hChooseReferenceIdeal) (hPre_scores_ok := hPre_scores_ok)
    ∧ preserves_Extract_ExtractIdeal
    ∧ algebraic_ExtractIdeal_ExtractReferenceIdeal_pre_extract_ok (hExtractIdeal := hExtractIdeal) (hExtractReferenceIdeal := hExtractReferenceIdeal) (hPre_extract_ok := hPre_extract_ok)
-- ==== Pre_extract_ok.lean ====
abbrev S10 : Shape := ⟨1, ![10]⟩
abbrev S640x128 : Shape := ⟨2, ![640, 128]⟩
abbrev S64000x128 : Shape := ⟨2, ![64000, 128]⟩
abbrev S640x100 : Shape := ⟨2, ![640, 100]⟩
abbrev S640x100x1 : Shape := ⟨3, ![640, 100, 1]⟩
abbrev S128 : Shape := ⟨1, ![128]⟩
abbrev S_ : Shape := ⟨0, ![]⟩
abbrev S640x1x128 : Shape := ⟨3, ![640, 1, 128]⟩
abbrev S640x100x128 : Shape := ⟨3, ![640, 100, 128]⟩
abbrev S1x1x128 : Shape := ⟨3, ![1, 1, 128]⟩
abbrev S100 : Shape := ⟨1, ![100]⟩
abbrev S100x1 : Shape := ⟨2, ![100, 1]⟩
abbrev S1x128 : Shape := ⟨2, ![1, 128]⟩
abbrev S100x128 : Shape := ⟨2, ![100, 128]⟩
abbrev S1x100x128 : Shape := ⟨3, ![1, 100, 128]⟩

class Facts : Prop where
  slices_S640x128_S640x100_0_0 : S640x128.Slices ![0, 0] S640x100
  bcast_S640x100_S640x100x1_0_1 : S640x100.BroadcastsInDim S640x100x1 (![0, 1] : Fin 2 → Fin S640x100x1.rank)
  pads_S10_S128_01180 : S10.Pads (![0] : Fin 1 → Nat) ![118] ![0] S128
  h_S_ : 0 < S_.numel
  bcast_S640x128_S640x1x128_0_2 : S640x128.BroadcastsInDim S640x1x128 (![0, 2] : Fin 2 → Fin S640x1x128.rank)
  bcast_S640x100x1_S640x100x128_0_1_2 : S640x100x1.BroadcastsInDim S640x100x128 (![0, 1, 2] : Fin 3 → Fin S640x100x128.rank)
  bcast_S640x1x128_S640x100x128_0_1_2 : S640x1x128.BroadcastsInDim S640x100x128 (![0, 1, 2] : Fin 3 → Fin S640x100x128.rank)
  bcast_S_S128 : S_.BroadcastsInDim S128 (![] : Fin 0 → Fin S128.rank)
  bcast_S128_S1x1x128_2 : S128.BroadcastsInDim S1x1x128 (![2] : Fin 1 → Fin S1x1x128.rank)
  bcast_S1x1x128_S640x100x128_0_1_2 : S1x1x128.BroadcastsInDim S640x100x128 (![0, 1, 2] : Fin 3 → Fin S640x100x128.rank)
  slices_S128_S100_0 : S128.Slices ![0] S100
  bcast_S100_S100x1_0 : S100.BroadcastsInDim S100x1 (![0] : Fin 1 → Fin S100x1.rank)
  bcast_S128_S1x128_1 : S128.BroadcastsInDim S1x128 (![1] : Fin 1 → Fin S1x128.rank)
  bcast_S1x128_S100x128_0_1 : S1x128.BroadcastsInDim S100x128 (![0, 1] : Fin 2 → Fin S100x128.rank)
  bcast_S100x1_S100x128_0_1 : S100x1.BroadcastsInDim S100x128 (![0, 1] : Fin 2 → Fin S100x128.rank)
  bcast_S100x128_S1x100x128_1_2 : S100x128.BroadcastsInDim S1x100x128 (![1, 2] : Fin 2 → Fin S1x100x128.rank)
  bcast_S1x100x128_S640x100x128_0_1_2 : S1x100x128.BroadcastsInDim S640x100x128 (![0, 1, 2] : Fin 3 → Fin S640x100x128.rank)
  bcast_S_S640x100x1 : S_.BroadcastsInDim S640x100x1 (![] : Fin 0 → Fin S640x100x1.rank)
  shapeCasts_S64000x128_S640x100x128 : S64000x128.ShapeCasts S640x100x128
  bcast_S_S640x100x128 : S_.BroadcastsInDim S640x100x128 (![] : Fin 0 → Fin S640x100x128.rank)

variable [Facts]

def fn_pad {F : FTy → Type} [FloatOps F] (arg0 : IVec S10 32) (arg1 : IVec S_ 32) : IVec S128 32 :=
  let v0 : IVec S_ 32 := id arg1
  let v1 : IVec S128 32 := (fun x v => pad S128 ![0] ![118] ![0] x v pads_S10_S128_01180 h_S_) arg0 v0
  v1

def fn_part2 {F : FTy → Type} [FloatOps F] (main_v39 : IVec S640x100x128 1) (main_v40 : FVec F S640x100x128 .f32) (main_cst : FVec F S_ .f32) : IVec S640x100x128 1 :=
  let main_v41 : FVec F S640x100x128 .f32 := broadcastInDim S640x100x128 ![] bcast_S_S640x100x128 main_cst
  let main_v42 : IVec S640x100x128 1 := cmpf .ogt main_v40 main_v41
  let main_v43 : IVec S640x100x128 1 := andi main_v39 main_v42
  main_v43

def fn_part1 {F : FTy → Type} [FloatOps F] (main_arg2 : FVec F S64000x128 .f32) (main_v1 : IVec S640x100x1 32) (main_v3 : IVec S128 32) (main_v21 : IVec S640x100x128 1) : IVec S640x100x128 1 :=
  let main_c_1 : IVec S_ 32 := constantI S_ 32 0#32
  let main_v22 : IVec S640x100x1 32 := broadcastInDim S640x100x1 ![] bcast_S_S640x100x1 main_c_1
  let main_v23 : IVec S640x100x1 1 := cmpi .sge main_v1 main_v22
  let main_c_2 : IVec S_ 32 := constantI S_ 32 784#32
  let main_v24 : IVec S640x100x1 32 := broadcastInDim S640x100x1 ![] bcast_S_S640x100x1 main_c_2
  let main_v25 : IVec S640x100x1 1 := cmpi .slt main_v1 main_v24
  let main_v26 : IVec S640x100x1 1 := andi main_v23 main_v25
  let main_v27 : IVec S640x100x128 1 := noti main_v21
  let main_v28 : IVec S640x100x128 1 := broadcastInDim S640x100x128 ![0, 1, 2] bcast_S640x100x1_S640x100x128_0_1_2 main_v26
  let main_v29 : IVec S640x100x128 1 := andi main_v28 main_v27
  let main_c_3 : IVec S_ 32 := constantI S_ 32 0#32
  let main_v30 : IVec S128 32 := broadcastInDim S128 ![] bcast_S_S128 main_c_3
  let main_v31 : IVec S128 1 := cmpi .sge main_v3 main_v30
  let main_v32 : IVec S1x1x128 1 := broadcastInDim S1x1x128 ![2] bcast_S128_S1x1x128_2 main_v31
  let main_v33 : IVec S640x100x128 1 := broadcastInDim S640x100x128 ![0, 1, 2] bcast_S1x1x128_S640x100x128_0_1_2 main_v32
  let main_v34 : IVec S640x100x128 1 := andi main_v29 main_v33
  let main_c_4 : IVec S_ 32 := constantI S_ 32 100#32
  let main_v35 : IVec S128 32 := broadcastInDim S128 ![] bcast_S_S128 main_c_4
  let main_v36 : IVec S128 1 := cmpi .slt main_v3 main_v35
  let main_v37 : IVec S1x1x128 1 := broadcastInDim S1x1x128 ![2] bcast_S128_S1x1x128_2 main_v36
  let main_v38 : IVec S640x100x128 1 := broadcastInDim S640x100x128 ![0, 1, 2] bcast_S1x1x128_S640x100x128_0_1_2 main_v37
  let main_v39 : IVec S640x100x128 1 := andi main_v34 main_v38
  let main_v40 : FVec F S640x100x128 .f32 := shapeCast S640x100x128 main_arg2 shapeCasts_S64000x128_S640x100x128
  let main_cst : FVec F S_ .f32 := constant S_ .f32 0xFF800000#32
  fn_part2 (F := F) main_v39 main_v40 main_cst

def fn {F : FTy → Type} [FloatOps F] (main_arg0 : IVec S10 32) (main_arg1 : IVec S640x128 32) (main_arg2 : FVec F S64000x128 .f32) : IVec S640x100x128 1 :=
  let main_v0 : IVec S640x100 32 := (extractStridedSlice S640x100 ![0, 0] · slices_S640x128_S640x100_0_0) main_arg1
  let main_v1 : IVec S640x100x1 32 := broadcastInDim S640x100x1 ![0, 1] bcast_S640x100_S640x100x1_0_1 main_v0
  let main_v2 : IVec S128 32 := iotaInDim S128 32 0
  let main_c : IVec S_ 32 := constantI S_ 32 0#32
  let main_v3 : IVec S128 32 := fn_pad (F := F) main_arg0 main_c
  let main_v4 : IVec S640x1x128 32 := broadcastInDim S640x1x128 ![0, 2] bcast_S640x128_S640x1x128_0_2 main_arg1
  let main_v5 : IVec S640x100x128 32 := broadcastInDim S640x100x128 ![0, 1, 2] bcast_S640x100x1_S640x100x128_0_1_2 main_v1
  let main_v6 : IVec S640x100x128 32 := broadcastInDim S640x100x128 ![0, 1, 2] bcast_S640x1x128_S640x100x128_0_1_2 main_v4
  let main_v7 : IVec S640x100x128 1 := cmpi .eq main_v5 main_v6
  let main_c_0 : IVec S_ 32 := constantI S_ 32 100#32
  let main_v8 : IVec S128 32 := broadcastInDim S128 ![] bcast_S_S128 main_c_0
  let main_v9 : IVec S128 1 := cmpi .slt main_v2 main_v8
  let main_v10 : IVec S1x1x128 1 := broadcastInDim S1x1x128 ![2] bcast_S128_S1x1x128_2 main_v9
  let main_v11 : IVec S640x100x128 1 := broadcastInDim S640x100x128 ![0, 1, 2] bcast_S1x1x128_S640x100x128_0_1_2 main_v10
  let main_v12 : IVec S640x100x128 1 := andi main_v7 main_v11
  let main_v13 : IVec S100 32 := (extractStridedSlice S100 ![0] · slices_S128_S100_0) main_v2
  let main_v14 : IVec S100x1 32 := broadcastInDim S100x1 ![0] bcast_S100_S100x1_0 main_v13
  let main_v15 : IVec S1x128 32 := broadcastInDim S1x128 ![1] bcast_S128_S1x128_1 main_v2
  let main_v16 : IVec S100x128 32 := broadcastInDim S100x128 ![0, 1] bcast_S1x128_S100x128_0_1 main_v15
  let main_v17 : IVec S100x128 32 := broadcastInDim S100x128 ![0, 1] bcast_S100x1_S100x128_0_1 main_v14
  let main_v18 : IVec S100x128 1 := cmpi .ne main_v16 main_v17
  let main_v19 : IVec S1x100x128 1 := broadcastInDim S1x100x128 ![1, 2] bcast_S100x128_S1x100x128_1_2 main_v18
  let main_v20 : IVec S640x100x128 1 := broadcastInDim S640x100x128 ![0, 1, 2] bcast_S1x100x128_S640x100x128_0_1_2 main_v19
  let main_v21 : IVec S640x100x128 1 := andi main_v12 main_v20
  fn_part1 (F := F) main_arg2 main_v1 main_v3 main_v21
-- ==== Pre_scores_ok.lean ====
abbrev S640x784 : Shape := ⟨2, ![640, 784]⟩
abbrev S_ : Shape := ⟨0, ![]⟩

class Facts : Prop where
  bcast_S_S640x784 : S_.BroadcastsInDim S640x784 (![] : Fin 0 → Fin S640x784.rank)

variable [Facts]

def fn {F : FTy → Type} [FloatOps F] (main_arg0 : FVec F S640x784 .f32) : IVec S640x784 1 :=
  let main_cst : FVec F S_ .f32 := constant S_ .f32 0xFF800000#32
  let main_v0 : FVec F S640x784 .f32 := broadcastInDim S640x784 ![] bcast_S_S640x784 main_cst
  let main_v1 : IVec S640x784 1 := cmpf .ogt main_arg0 main_v0
  main_v1
-- ==== Pre_sel_ok.lean ====
abbrev S100000x64 : Shape := ⟨2, ![100000, 64]⟩
abbrev S32x20x1x10 : Shape := ⟨4, ![32, 20, 1, 10]⟩
abbrev S_ : Shape := ⟨0, ![]⟩

class Facts : Prop where
  bcast_S_S32x20x1x10 : S_.BroadcastsInDim S32x20x1x10 (![] : Fin 0 → Fin S32x20x1x10.rank)

variable [Facts]

def fn {F : FTy → Type} [FloatOps F] (main_arg0 : FVec F S100000x64 .f32) (main_arg1 : IVec S32x20x1x10 32) : IVec S32x20x1x10 1 :=
  let main_c : IVec S_ 32 := constantI S_ 32 0#32
  let main_v0 : IVec S32x20x1x10 32 := broadcastInDim S32x20x1x10 ![] bcast_S_S32x20x1x10 main_c
  let main_v1 : IVec S32x20x1x10 1 := cmpi .sge main_arg1 main_v0
  let main_c_0 : IVec S_ 32 := constantI S_ 32 100000#32
  let main_v2 : IVec S32x20x1x10 32 := broadcastInDim S32x20x1x10 ![] bcast_S_S32x20x1x10 main_c_0
  let main_v3 : IVec S32x20x1x10 1 := cmpi .slt main_arg1 main_v2
  let main_v4 : IVec S32x20x1x10 1 := andi main_v1 main_v3
  main_v4
-- ==== Pre_selb_ok.lean ====
abbrev S640x100352 : Shape := ⟨2, ![640, 100352]⟩
abbrev S640x128 : Shape := ⟨2, ![640, 128]⟩
abbrev S640x100 : Shape := ⟨2, ![640, 100]⟩
abbrev S_ : Shape := ⟨0, ![]⟩

class Facts : Prop where
  slices_S640x128_S640x100_0_0 : S640x128.Slices ![0, 0] S640x100
  bcast_S_S640x100 : S_.BroadcastsInDim S640x100 (![] : Fin 0 → Fin S640x100.rank)

variable [Facts]

def fn {F : FTy → Type} [FloatOps F] (main_arg0 : FVec F S640x100352 .f32) (main_arg1 : IVec S640x128 32) : IVec S640x100 1 :=
  let main_v0 : IVec S640x100 32 := (extractStridedSlice S640x100 ![0, 0] · slices_S640x128_S640x100_0_0) main_arg1
  let main_c : IVec S_ 32 := constantI S_ 32 0#32
  let main_v1 : IVec S640x100 32 := broadcastInDim S640x100 ![] bcast_S_S640x100 main_c
  let main_v2 : IVec S640x100 1 := cmpi .sge main_v0 main_v1
  let main_c_0 : IVec S_ 32 := constantI S_ 32 784#32
  let main_v3 : IVec S640x100 32 := broadcastInDim S640x100 ![] bcast_S_S640x100 main_c_0
  let main_v4 : IVec S640x100 1 := cmpi .slt main_v0 main_v3
  let main_v5 : IVec S640x100 1 := andi main_v2 main_v4
  main_v5
-- ==== Kernel.lean ====
abbrev S100000x64 : Shape := ⟨2, ![100000, 64]⟩
abbrev S32x20x1x10 : Shape := ⟨4, ![32, 20, 1, 10]⟩
abbrev S6400 : Shape := ⟨1, ![6400]⟩
abbrev S_ : Shape := ⟨0, ![]⟩
abbrev S100000x128 : Shape := ⟨2, ![100000, 128]⟩
abbrev S6400x128 : Shape := ⟨2, ![6400, 128]⟩
abbrev S40 : Shape := ⟨1, ![40]⟩
abbrev S40x128 : Shape := ⟨2, ![40, 128]⟩
abbrev S6400x64 : Shape := ⟨2, ![6400, 64]⟩
abbrev S32x20x10x64 : Shape := ⟨4, ![32, 20, 10, 64]⟩

abbrev nBuf : Table → Nat
  | .hbm => 9
  | .local .scVector .vmem => 2
  | _ => 0

abbrev bufTy : (tb : Table) → Fin (nBuf tb) → BufTy
  | .hbm, ⟨0, _⟩ => ⟨S100000x64, .f32⟩
  | .hbm, ⟨1, _⟩ => ⟨S32x20x1x10, .i32⟩
  | .hbm, ⟨2, _⟩ => ⟨S6400, .i32⟩
  | .hbm, ⟨3, _⟩ => ⟨S_, .i32⟩
  | .hbm, ⟨4, _⟩ => ⟨S_, .f32⟩
  | .hbm, ⟨5, _⟩ => ⟨S100000x128, .f32⟩
  | .hbm, ⟨6, _⟩ => ⟨S6400x128, .f32⟩
  | .hbm, ⟨7, _⟩ => ⟨S6400x64, .f32⟩
  | .hbm, ⟨8, _⟩ => ⟨S32x20x10x64, .f32⟩
  | .local .scVector .vmem, ⟨0, _⟩ => ⟨S40, .i32⟩
  | .local .scVector .vmem, ⟨1, _⟩ => ⟨S40x128, .f32⟩
  | _, _ => ⟨S100000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v0_scv : Ref sig .scVector := ⟨.hbm, 2, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v3 : BitVec 32 := Scalar.addi v2 c0_i32
  let c0_i32_24_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x64 : Shape := ⟨2, ![100000, 64]⟩
abbrev S32x20x1x10 : Shape := ⟨4, ![32, 20, 1, 10]⟩
abbrev S_ : Shape := ⟨0, ![]⟩
abbrev S32x20x1x10x1 : Shape := ⟨5, ![32, 20, 1, 10, 1]⟩
abbrev S1 : Shape := ⟨1, ![1]⟩
abbrev S1x1x1x1x1 : Shape := ⟨5, ![1, 1, 1, 1, 1]⟩
abbrev S32x20x1x10x64 : Shape := ⟨5, ![32, 20, 1, 10, 64]⟩
abbrev S32x20x10x64 : Shape := ⟨4, ![32, 20, 10, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S32x20x1x10, .i32⟩
  | .hbm, ⟨2, _⟩ => ⟨S_, .i32⟩
  | .hbm, ⟨3, _⟩ => ⟨S32x20x1x10, .i32⟩
  | .hbm, ⟨4, _⟩ => ⟨S32x20x1x10, .i1⟩
  | .hbm, ⟨5, _⟩ => ⟨S_, .i32⟩
  | .hbm, ⟨6, _⟩ => ⟨S32x20x1x10, .i32⟩
  | .hbm, ⟨7, _⟩ => ⟨S32x20x1x10, .i32⟩
  | .hbm, ⟨8, _⟩ => ⟨S32x20x1x10, .i32⟩
  | .hbm, ⟨9, _⟩ => ⟨S32x20x1x10x1, .i32⟩
  | .hbm, ⟨10, _⟩ => ⟨S1, .i32⟩
  | .hbm, ⟨11, _⟩ => ⟨S_, .i32⟩
  | .hbm, ⟨12, _⟩ => ⟨S32x20x1x10x1, .i32⟩
  | .hbm, ⟨13, _⟩ => ⟨S32x20x1x10x1, .i1⟩
  | .hbm, ⟨14, _⟩ => ⟨S1x1x1x1x1, .i32⟩
  | .hbm, ⟨15, _⟩ => ⟨S32x20x1x10x1, .i32⟩
  | .hbm, ⟨16, _⟩ => ⟨S32x20x1x10x1, .i1⟩
  | .hbm, ⟨17, _⟩ => ⟨S32x20x1x10x1, .i1⟩
  | .hbm, ⟨18, _⟩ => ⟨S_, .i1⟩
  | .hbm, ⟨19, _⟩ => ⟨S32x20x1x10, .i1⟩
  | .hbm, ⟨20, _⟩ => ⟨S32x20x1x10x64, .f32⟩
  | .hbm, ⟨21, _⟩ => ⟨S32x20x1x10x64, .i1⟩
  | .hbm, ⟨22, _⟩ => ⟨S_, .f32⟩
  | .hbm, ⟨23, _⟩ => ⟨S32x20x1x10x64, .f32⟩
  | .hbm, ⟨24, _⟩ => ⟨S32x20x1x10x64, .f32⟩
  | .hbm, ⟨25, _⟩ => ⟨S32x20x10x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Blocks.lean ====
abbrev S640x100352 : Shape := ⟨2, ![640, 100352]⟩
abbrev S640x128 : Shape := ⟨2, ![640, 128]⟩
abbrev S640x100 : Shape := ⟨2, ![640, 100]⟩
abbrev S640 : Shape := ⟨1, ![640]⟩
abbrev S640x1 : Shape := ⟨2, ![640, 1]⟩
abbrev S_ : Shape := ⟨0, ![]⟩
abbrev S64000 : Shape := ⟨1, ![64000]⟩
abbrev S501760x128 : Shape := ⟨2, ![501760, 128]⟩
abbrev S64000x128 : Shape := ⟨2, ![64000, 128]⟩
abbrev S80 : Shape := ⟨1, ![80]⟩
abbrev S80x128 : Shape := ⟨2, ![80, 128]⟩
abbrev S640x12800 : Shape := ⟨2, ![640, 12800]⟩

abbrev nBuf : Table → Nat
  | .hbm => 14
  | .local .scVector .vmem => 2
  | _ => 0

abbrev bufTy : (tb : Table) → Fin (nBuf tb) → BufTy
  | .hbm, ⟨0, _⟩ => ⟨S640x100352, .f32⟩
  | .hbm, ⟨1, _⟩ => ⟨S640x128, .i32⟩
  | .hbm, ⟨2, _⟩ => ⟨S640x100, .i32⟩
  | .hbm, ⟨3, _⟩ => ⟨S640, .i32⟩
  | .hbm, ⟨4, _⟩ => ⟨S640x1, .i32⟩
  | .hbm, ⟨5, _⟩ => ⟨S_, .i32⟩
  | .hbm, ⟨6, _⟩ => ⟨S640x1, .i32⟩
  | .hbm, ⟨7, _⟩ => ⟨S640x1, .i32⟩
  | .hbm, ⟨8, _⟩ => ⟨S640x100, .i32⟩
  | .hbm, ⟨9, _⟩ => ⟨S640x100, .i32⟩
  | .hbm, ⟨10, _⟩ => ⟨S64000, .i32⟩
  | .hbm, ⟨11, _⟩ => ⟨S501760x128, .f32⟩
  | .hbm, ⟨12, _⟩ => ⟨S64000x128, .f32⟩
  | .hbm, ⟨13, _⟩ => ⟨S640x12800, .f32⟩
  | .local .scVector .vmem, ⟨0, _⟩ => ⟨S80, .i32⟩
  | .local .scVector .vmem, ⟨1, _⟩ => ⟨S80x128, .f32⟩
  | _, _ => ⟨S640x100352, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 51 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | _ => false

abbrev sig : RefSig :=
  ofTables nBuf rfl bufTy 4 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v8_scv : Ref sig .scVector := ⟨.hbm, 11, rfl⟩
abbrev main_v7_scv : Ref sig .scVector := ⟨.hbm, 10, rfl⟩
abbrev main_v9_scv : Ref sig .scVector := ⟨.hbm, 12, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi v2 c0_i32
  let c0_i32_124_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== BlocksReferenceIdeal.lean ====
abbrev S640x100352 : Shape := ⟨2, ![640, 100352]⟩
abbrev S640x128 : Shape := ⟨2, ![640, 128]⟩
abbrev S640x784x128 : Shape := ⟨3, ![640, 784, 128]⟩
abbrev S640x100 : Shape := ⟨2, ![640, 100]⟩
abbrev S640x100x1 : Shape := ⟨3, ![640, 100, 1]⟩
abbrev S_ : Shape := ⟨0, ![]⟩
abbrev S1 : Shape := ⟨1, ![1]⟩
abbrev S1x1x1 : Shape := ⟨3, ![1, 1, 1]⟩
abbrev S640x100x128 : Shape := ⟨3, ![640, 100, 128]⟩
abbrev S640x12800 : Shape := ⟨2, ![640, 12800]⟩

abbrev nBuf : Space → Nat
  | .hbm => 28
  | .vmem => 0
  | .smem => 0
  | _ => 0

abbrev bufTy : (tb : Table) → Fin (tcTables nBuf tb) → BufTy
  | .hbm, ⟨0, _⟩ => ⟨S640x100352, .f32⟩
  | .hbm, ⟨1, _⟩ => ⟨S640x128, .i32⟩
  | .hbm, ⟨2, _⟩ => ⟨S640x784x128, .f32⟩
  | .hbm, ⟨3, _⟩ => ⟨S640x100, .i32⟩
  | .hbm, ⟨4, _⟩ => ⟨S640x100x1, .i32⟩
  | .hbm, ⟨5, _⟩ => ⟨S_, .i32⟩
  | .hbm, ⟨6, _⟩ => ⟨S640x100x1, .i32⟩
  | .hbm, ⟨7, _⟩ => ⟨S640x100x1, .i1⟩
  | .hbm, ⟨8, _⟩ => ⟨S_, .i32⟩
  | .hbm, ⟨9, _⟩ => ⟨S640x100x1, .i32⟩
  | .hbm, ⟨10, _⟩ => ⟨S640x100x1, .i32⟩
  | .hbm, ⟨11, _⟩ => ⟨S640x100x1, .i32⟩
  | .hbm, ⟨12, _⟩ => ⟨S1, .i32⟩
  | .hbm, ⟨13, _⟩ => ⟨S_, .i32⟩
  | .hbm, ⟨14, _⟩ => ⟨S640x100x1, .i32⟩
  | .hbm, ⟨15, _⟩ => ⟨S640x100x1, .i1⟩
  | .hbm, ⟨16, _⟩ => ⟨S1x1x1, .i32⟩
  | .hbm, ⟨17, _⟩ => ⟨S640x100x1, .i32⟩
  | .hbm, ⟨18, _⟩ => ⟨S640x100x1, .i1⟩
  | .hbm, ⟨19, _⟩ => ⟨S640x100x1, .i1⟩
  | .hbm, ⟨20, _⟩ => ⟨S_, .i1⟩
  | .hbm, ⟨21, _⟩ => ⟨S640x100, .i1⟩
  | .hbm, ⟨22, _⟩ => ⟨S640x100x128, .f32⟩
  | .hbm, ⟨23, _⟩ => ⟨S640x100x128, .i1⟩
  | .hbm, ⟨24, _⟩ => ⟨S_, .f32⟩
  | .hbm, ⟨25, _⟩ => ⟨S640x100x128, .f32⟩
  | .hbm, ⟨26, _⟩ => ⟨S640x100x128, .f32⟩
  | .hbm, ⟨27, _⟩ => ⟨S640x12800, .f32⟩
  | _, _ => ⟨S640x100352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩

abbrev nD : Nat := 1
abbrev τ : Topo := Topo.v7x

variable {F : FTy → Type} [FloatOps F]
-- ==== RowMax.lean ====
abbrev S640x64 : Shape := ⟨2, ![640, 64]⟩
abbrev S100000x64 : Shape := ⟨2, ![100000, 64]⟩
abbrev S_ : Shape := ⟨0, ![]⟩
abbrev S100352x64 : Shape := ⟨2, ![100352, 64]⟩
abbrev S640x1 : Shape := ⟨2, ![640, 1]⟩
abbrev S3584x64 : Shape := ⟨2, ![3584, 64]⟩
abbrev S640x128 : Shape := ⟨2, ![640, 128]⟩
abbrev S64x3584 : Shape := ⟨2, ![64, 3584]⟩
abbrev S640x3584 : Shape := ⟨2, ![640, 3584]⟩
abbrev S640 : Shape := ⟨1, ![640]⟩

abbrev nBuf : Space → Nat
  | .hbm => 6
  | .vmem => 5
  | .smem => 0
  | _ => 0

abbrev bufTy : (tb : Table) → Fin (tcTables nBuf tb) → BufTy
  | .hbm, ⟨0, _⟩ => ⟨S640x64, .f32⟩
  | .hbm, ⟨1, _⟩ => ⟨S100000x64, .f32⟩
  | .hbm, ⟨2, _⟩ => ⟨S_, .i32⟩
  | .hbm, ⟨3, _⟩ => ⟨S_, .f32⟩
  | .hbm, ⟨4, _⟩ => ⟨S100352x64, .f32⟩
  | .hbm, ⟨5, _⟩ => ⟨S640x1, .f32⟩
  | .local _ .vmem, ⟨0, _⟩ => ⟨S640x64, .f32⟩
  | .local _ .vmem, ⟨1, _⟩ => ⟨S3584x64, .f32⟩
  | .local _ .vmem, ⟨2, _⟩ => ⟨S3584x64, .f32⟩
  | .local _ .vmem, ⟨3, _⟩ => ⟨S640x1, .f32⟩
  | .local _ .vmem, ⟨4, _⟩ => ⟨S640x128, .f32⟩
  | _, _ => ⟨S640x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v24 : BitVec 1 := Scalar.cmpi .eq arg0 c27_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RowMaxReferenceIdeal.lean ====
abbrev S640x64 : Shape := ⟨2, ![640, 64]⟩
abbrev S100000x64 : Shape := ⟨2, ![100000, 64]⟩
abbrev S640x100000 : Shape := ⟨2, ![640, 100000]⟩
abbrev S_ : Shape := ⟨0, ![]⟩
abbrev S640 : Shape := ⟨1, ![640]⟩
abbrev S640x1 : Shape := ⟨2, ![640, 1]⟩

abbrev nBuf : Space → Nat
  | .hbm => 6
  | .vmem => 0
  | .smem => 0
  | _ => 0

abbrev bufTy : (tb : Table) → Fin (tcTables nBuf tb) → BufTy
  | .hbm, ⟨0, _⟩ => ⟨S640x64, .f32⟩
  | .hbm, ⟨1, _⟩ => ⟨S100000x64, .f32⟩
  | .hbm, ⟨2, _⟩ => ⟨S640x100000, .f32⟩
  | .hbm, ⟨3, _⟩ => ⟨S_, .f32⟩
  | .hbm, ⟨4, _⟩ => ⟨S640, .f32⟩
  | .hbm, ⟨5, _⟩ => ⟨S640x1, .f32⟩
  | _, _ => ⟨S640x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Denominator.lean ====
abbrev S640x64 : Shape := ⟨2, ![640, 64]⟩
abbrev S100000x64 : Shape := ⟨2, ![100000, 64]⟩
abbrev S640x1 : Shape := ⟨2, ![640, 1]⟩
abbrev S_ : Shape := ⟨0, ![]⟩
abbrev S100352x64 : Shape := ⟨2, ![100352, 64]⟩
abbrev S3584x64 : Shape := ⟨2, ![3584, 64]⟩
abbrev S640x256 : Shape := ⟨2, ![640, 256]⟩
abbrev S64x3584 : Shape := ⟨2, ![64, 3584]⟩
abbrev S640x3584 : Shape := ⟨2, ![640, 3584]⟩
abbrev S640x128 : Shape := ⟨2, ![640, 128]⟩

abbrev nBuf : Space → Nat
  | .hbm => 7
  | .vmem => 6
  | .smem => 0
  | _ => 0

abbrev bufTy : (tb : Table) → Fin (tcTables nBuf tb) → BufTy
  | .hbm, ⟨0, _⟩ => ⟨S640x64, .f32⟩
  | .hbm, ⟨1, _⟩ => ⟨S100000x64, .f32⟩
  | .hbm, ⟨2, _⟩ => ⟨S640x1, .f32⟩
  | .hbm, ⟨3, _⟩ => ⟨S_, .i32⟩
  | .hbm, ⟨4, _⟩ => ⟨S_, .f32⟩
  | .hbm, ⟨5, _⟩ => ⟨S100352x64, .f32⟩
  | .hbm, ⟨6, _⟩ => ⟨S640x1, .f32⟩
  | .local _ .vmem, ⟨0, _⟩ => ⟨S640x64, .f32⟩
  | .local _ .vmem, ⟨1, _⟩ => ⟨S3584x64, .f32⟩
  | .local _ .vmem, ⟨2, _⟩ => ⟨S3584x64, .f32⟩
  | .local _ .vmem, ⟨3, _⟩ => ⟨S640x1, .f32⟩
  | .local _ .vmem, ⟨4, _⟩ => ⟨S640x1, .f32⟩
  | .local _ .vmem, ⟨5, _⟩ => ⟨S640x256, .f32⟩
  | _, _ => ⟨S640x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v84 : BitVec 1 := Scalar.cmpi .eq arg0 c27_i32
  let v85 : BitVec 32 := Scalar.extui v84
  let c0_i32_14 : BitVec 32 := 0#32
  let v86 : BitVec 1 := Scalar.cmpi .ne v85 c0_i32_14
  v86

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DenominatorReferenceIdeal.lean ====
abbrev S640x64 : Shape := ⟨2, ![640, 64]⟩
abbrev S100000x64 : Shape := ⟨2, ![100000, 64]⟩
abbrev S640x1 : Shape := ⟨2, ![640, 1]⟩
abbrev S640x100000 : Shape := ⟨2, ![640, 100000]⟩
abbrev S_ : Shape := ⟨0, ![]⟩
abbrev S640 : Shape := ⟨1, ![640]⟩

abbrev nBuf : Space → Nat
  | .hbm => 10
  | .vmem => 0
  | .smem => 0
  | _ => 0

abbrev bufTy : (tb : Table) → Fin (tcTables nBuf tb) → BufTy
  | .hbm, ⟨0, _⟩ => ⟨S640x64, .f32⟩
  | .hbm, ⟨1, _⟩ => ⟨S100000x64, .f32⟩
  | .hbm, ⟨2, _⟩ => ⟨S640x1, .f32⟩
  | .hbm, ⟨3, _⟩ => ⟨S640x100000, .f32⟩
  | .hbm, ⟨4, _⟩ => ⟨S640x100000, .f32⟩
  | .hbm, ⟨5, _⟩ => ⟨S640x100000, .f32⟩
  | .hbm, ⟨6, _⟩ => ⟨S640x100000, .f32⟩
  | .hbm, ⟨7, _⟩ => ⟨S_, .f32⟩
  | .hbm, ⟨8, _⟩ => ⟨S640, .f32⟩
  | .hbm, ⟨9, _⟩ => ⟨S640x1, .f32⟩
  | _, _ => ⟨S640x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Weights.lean ====
abbrev S640x64 : Shape := ⟨2, ![640, 64]⟩
abbrev S100000x64 : Shape := ⟨2, ![100000, 64]⟩
abbrev S640x1 : Shape := ⟨2, ![640, 1]⟩
abbrev S_ : Shape := ⟨0, ![]⟩
abbrev S100352x64 : Shape := ⟨2, ![100352, 64]⟩
abbrev S640x100352 : Shape := ⟨2, ![640, 100352]⟩
abbrev S640x3584 : Shape := ⟨2, ![640, 3584]⟩
abbrev S3584x64 : Shape := ⟨2, ![3584, 64]⟩
abbrev S640x128 : Shape := ⟨2, ![640, 128]⟩
abbrev S64x3584 : Shape := ⟨2, ![64, 3584]⟩
abbrev S640 : Shape := ⟨1, ![640]⟩

abbrev nBuf : Space → Nat
  | .hbm => 9
  | .vmem => 9
  | .smem => 0
  | _ => 0

abbrev bufTy : (tb : Table) → Fin (tcTables nBuf tb) → BufTy
  | .hbm, ⟨0, _⟩ => ⟨S640x64, .f32⟩
  | .hbm, ⟨1, _⟩ => ⟨S100000x64, .f32⟩
  | .hbm, ⟨2, _⟩ => ⟨S640x1, .f32⟩
  | .hbm, ⟨3, _⟩ => ⟨S640x1, .f32⟩
  | .hbm, ⟨4, _⟩ => ⟨S_, .i32⟩
  | .hbm, ⟨5, _⟩ => ⟨S_, .f32⟩
  | .hbm, ⟨6, _⟩ => ⟨S100352x64, .f32⟩
  | .hbm, ⟨7, _⟩ => ⟨S640x100352, .f32⟩
  | .hbm, ⟨8, _⟩ => ⟨S640x3584, .f32⟩
  | .local _ .vmem, ⟨0, _⟩ => ⟨S640x64, .f32⟩
  | .local _ .vmem, ⟨1, _⟩ => ⟨S3584x64, .f32⟩
  | .local _ .vmem, ⟨2, _⟩ => ⟨S3584x64, .f32⟩
  | .local _ .vmem, ⟨3, _⟩ => ⟨S640x1, .f32⟩
  | .local _ .vmem, ⟨4, _⟩ => ⟨S640x1, .f32⟩
  | .local _ .vmem, ⟨5, _⟩ => ⟨S640x3584, .f32⟩
  | .local _ .vmem, ⟨6, _⟩ => ⟨S640x3584, .f32⟩
  | .local _ .vmem, ⟨7, _⟩ => ⟨S640x128, .f32⟩
  | .local _ .vmem, ⟨8, _⟩ => ⟨S640x128, .f32⟩
  | _, _ => ⟨S640x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S640x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WeightsReferenceIdeal.lean ====
abbrev S640x64 : Shape := ⟨2, ![640, 64]⟩
abbrev S100000x64 : Shape := ⟨2, ![100000, 64]⟩
abbrev S640x1 : Shape := ⟨2, ![640, 1]⟩
abbrev S640x100000 : Shape := ⟨2, ![640, 100000]⟩
abbrev S_ : Shape := ⟨0, ![]⟩
abbrev S640x100352 : Shape := ⟨2, ![640, 100352]⟩
abbrev S640x28x28x128 : Shape := ⟨4, ![640, 28, 28, 128]⟩
abbrev S640x28x28 : Shape := ⟨3, ![640, 28, 28]⟩
abbrev S640x28x128 : Shape := ⟨3, ![640, 28, 128]⟩
abbrev S640x3584 : Shape := ⟨2, ![640, 3584]⟩

abbrev nBuf : Space → Nat
  | .hbm => 20
  | .vmem => 0
  | .smem => 0
  | _ => 0

abbrev bufTy : (tb : Table) → Fin (tcTables nBuf tb) → BufTy
  | .hbm, ⟨0, _⟩ => ⟨S640x64, .f32⟩
  | .hbm, ⟨1, _⟩ => ⟨S100000x64, .f32⟩
  | .hbm, ⟨2, _⟩ => ⟨S640x1, .f32⟩
  | .hbm, ⟨3, _⟩ => ⟨S640x1, .f32⟩
  | .hbm, ⟨4, _⟩ => ⟨S640x100000, .f32⟩
  | .hbm, ⟨5, _⟩ => ⟨S640x100000, .f32⟩
  | .hbm, ⟨6, _⟩ => ⟨S640x100000, .f32⟩
  | .hbm, ⟨7, _⟩ => ⟨S640x100000, .f32⟩
  | .hbm, ⟨8, _⟩ => ⟨S_, .i32⟩
  | .hbm, ⟨9, _⟩ => ⟨S_, .f32⟩
  | .hbm, ⟨10, _⟩ => ⟨S640x100352, .f32⟩
  | .hbm, ⟨11, _⟩ => ⟨S640x100352, .f32⟩
  | .hbm, ⟨12, _⟩ => ⟨S640x100352, .f32⟩
  | .hbm, ⟨13, _⟩ => ⟨S640x28x28x128, .f32⟩
  | .hbm, ⟨14, _⟩ => ⟨S_, .f32⟩
  | .hbm, ⟨15, _⟩ => ⟨S640x28x28, .f32⟩
  | .hbm, ⟨16, _⟩ => ⟨S_, .f32⟩
  | .hbm, ⟨17, _⟩ => ⟨S_, .f32⟩
  | .hbm, ⟨18, _⟩ => ⟨S640x28x128, .f32⟩
  | .hbm, ⟨19, _⟩ => ⟨S640x3584, .f32⟩
  | _, _ => ⟨S640x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Choose.lean ====
abbrev S640x784 : Shape := ⟨2, ![640, 784]⟩
abbrev S640x128 : Shape := ⟨2, ![640, 128]⟩
abbrev S640 : Shape := ⟨1, ![640]⟩
abbrev S640x1 : Shape := ⟨2, ![640, 1]⟩

abbrev nBuf : Space → Nat
  | .hbm => 2
  | .vmem => 3
  | .smem => 0
  | _ => 0

abbrev bufTy : (tb : Table) → Fin (tcTables nBuf tb) → BufTy
  | .hbm, ⟨0, _⟩ => ⟨S640x784, .f32⟩
  | .hbm, ⟨1, _⟩ => ⟨S640x128, .i32⟩
  | .local _ .vmem, ⟨0, _⟩ => ⟨S640x784, .f32⟩
  | .local _ .vmem, ⟨1, _⟩ => ⟨S640x128, .i32⟩
  | .local _ .vmem, ⟨2, _⟩ => ⟨S640x784, .f32⟩
  | _, _ => ⟨S640x784, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c100_i32 : BitVec 32 := 100#32
  let v8 : BitVec 32 := Scalar.addi c0_i32_5 c100_i32
  let c1_i32 : BitVec 32 := 1#32
  ⟨c0_i32_5, v8, c1_i32⟩
abbrev stage0_0 : Fin 1 → Memref sig .tc .vmem S640x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ChooseReferenceIdeal.lean ====
abbrev S640x784 : Shape := ⟨2, ![640, 784]⟩
abbrev S640x100 : Shape := ⟨2, ![640, 100]⟩
abbrev S_ : Shape := ⟨0, ![]⟩
abbrev S640x128 : Shape := ⟨2, ![640, 128]⟩

abbrev nBuf : Space → Nat
  | .hbm => 6
  | .vmem => 0
  | .smem => 0
  | _ => 0

abbrev bufTy : (tb : Table) → Fin (tcTables nBuf tb) → BufTy
  | .hbm, ⟨0, _⟩ => ⟨S640x784, .f32⟩
  | .hbm, ⟨1, _⟩ => ⟨S640x100, .f32⟩
  | .hbm, ⟨2, _⟩ => ⟨S640x100, .i32⟩
  | .hbm, ⟨3, _⟩ => ⟨S_, .i32⟩
  | .hbm, ⟨4, _⟩ => ⟨S_, .i32⟩
  | .hbm, ⟨5, _⟩ => ⟨S640x128, .i32⟩
  | _, _ => ⟨S640x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Extract.lean ====
abbrev S10 : Shape := ⟨1, ![10]⟩
abbrev S640x128 : Shape := ⟨2, ![640, 128]⟩
abbrev S64000x128 : Shape := ⟨2, ![64000, 128]⟩
abbrev S640x100 : Shape := ⟨2, ![640, 100]⟩
abbrev S640x12800 : Shape := ⟨2, ![640, 12800]⟩
abbrev S640x100x1 : Shape := ⟨3, ![640, 100, 1]⟩
abbrev S_ : Shape := ⟨0, ![]⟩
abbrev S128 : Shape := ⟨1, ![128]⟩
abbrev S1x1x128 : Shape := ⟨3, ![1, 1, 128]⟩
abbrev S640x100x128 : Shape := ⟨3, ![640, 100, 128]⟩
abbrev S640x16 : Shape := ⟨2, ![640, 16]⟩
abbrev S80x12800 : Shape := ⟨2, ![80, 12800]⟩
abbrev S80x16 : Shape := ⟨2, ![80, 16]⟩
abbrev S80x128 : Shape := ⟨2, ![80, 128]⟩
abbrev S80 : Shape := ⟨1, ![80]⟩
abbrev S80x1 : Shape := ⟨2, ![80, 1]⟩
abbrev S128x16 : Shape := ⟨2, ![128, 16]⟩
abbrev S1 : Shape := ⟨1, ![1]⟩

abbrev nBuf : Space → Nat
  | .hbm => 16
  | .vmem => 8
  | .smem => 1
  | _ => 0

abbrev bufTy : (tb : Table) → Fin (tcTables nBuf tb) → BufTy
  | .hbm, ⟨0, _⟩ => ⟨S10, .i32⟩
  | .hbm, ⟨1, _⟩ => ⟨S640x128, .i32⟩
  | .hbm, ⟨2, _⟩ => ⟨S64000x128, .f32⟩
  | .hbm, ⟨3, _⟩ => ⟨S640x100, .i32⟩
  | .hbm, ⟨4, _⟩ => ⟨S640x12800, .f32⟩
  | .hbm, ⟨5, _⟩ => ⟨S640x100x1, .i32⟩
  | .hbm, ⟨6, _⟩ => ⟨S_, .i32⟩
  | .hbm, ⟨7, _⟩ => ⟨S640x100x1, .i32⟩
  | .hbm, ⟨8, _⟩ => ⟨S640x100x1, .i32⟩
  | .hbm, ⟨9, _⟩ => ⟨S128, .i32⟩
  | .hbm, ⟨10, _⟩ => ⟨S1x1x128, .i32⟩
  | .hbm, ⟨11, _⟩ => ⟨S640x100x128, .i32⟩
  | .hbm, ⟨12, _⟩ => ⟨S640x100x128, .i32⟩
  | .hbm, ⟨13, _⟩ => ⟨S640x100x128, .i32⟩
  | .hbm, ⟨14, _⟩ => ⟨S640x12800, .i32⟩
  | .hbm, ⟨15, _⟩ => ⟨S640x16, .i32⟩
  | .local _ .vmem, ⟨0, _⟩ => ⟨S80x12800, .i32⟩
  | .local _ .vmem, ⟨1, _⟩ => ⟨S80x12800, .i32⟩
  | .local _ .vmem, ⟨2, _⟩ => ⟨S80x12800, .f32⟩
  | .local _ .vmem, ⟨3, _⟩ => ⟨S80x12800, .f32⟩
  | .local _ .vmem, ⟨4, _⟩ => ⟨S80x16, .i32⟩
  | .local _ .vmem, ⟨5, _⟩ => ⟨S80x16, .i32⟩
  | .local _ .vmem, ⟨6, _⟩ => ⟨S80x12800, .f32⟩
  | .local _ .vmem, ⟨7, _⟩ => ⟨S80x128, .i32⟩
  | .local _ .smem, ⟨0, _⟩ => ⟨S10, .i32⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_7 : BitVec 32 := 0#32
  let c100_i32 : BitVec 32 := 100#32
  let v12 : BitVec 32 := Scalar.addi c0_i32_7 c100_i32
  let c1_i32 : BitVec 32 := 1#32
  ⟨c0_i32_7, v12, c1_i32⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S80x12800 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExtractReferenceIdeal.lean ====
abbrev S10 : Shape := ⟨1, ![10]⟩
abbrev S640x128 : Shape := ⟨2, ![640, 128]⟩
abbrev S64000x128 : Shape := ⟨2, ![64000, 128]⟩
abbrev S640x100 : Shape := ⟨2, ![640, 100]⟩
abbrev S640x100x1 : Shape := ⟨3, ![640, 100, 1]⟩
abbrev S_ : Shape := ⟨0, ![]⟩
abbrev S128 : Shape := ⟨1, ![128]⟩
abbrev S1x1x128 : Shape := ⟨3, ![1, 1, 128]⟩
abbrev S640x100x128 : Shape := ⟨3, ![640, 100, 128]⟩
abbrev S640x12800 : Shape := ⟨2, ![640, 12800]⟩
abbrev S10x1 : Shape := ⟨2, ![10, 1]⟩
abbrev S640x10 : Shape := ⟨2, ![640, 10]⟩
abbrev S640x16 : Shape := ⟨2, ![640, 16]⟩

abbrev nBuf : Space → Nat
  | .hbm => 30
  | .vmem => 0
  | .smem => 0
  | _ => 0

abbrev bufTy : (tb : Table) → Fin (tcTables nBuf tb) → BufTy
  | .hbm, ⟨0, _⟩ => ⟨S10, .i32⟩
  | .hbm, ⟨1, _⟩ => ⟨S640x128, .i32⟩
  | .hbm, ⟨2, _⟩ => ⟨S64000x128, .f32⟩
  | .hbm, ⟨3, _⟩ => ⟨S640x100, .i32⟩
  | .hbm, ⟨4, _⟩ => ⟨S640x100x1, .i32⟩
  | .hbm, ⟨5, _⟩ => ⟨S_, .i32⟩
  | .hbm, ⟨6, _⟩ => ⟨S640x100x1, .i32⟩
  | .hbm, ⟨7, _⟩ => ⟨S640x100x1, .i32⟩
  | .hbm, ⟨8, _⟩ => ⟨S128, .i32⟩
  | .hbm, ⟨9, _⟩ => ⟨S1x1x128, .i32⟩
  | .hbm, ⟨10, _⟩ => ⟨S640x100x128, .i32⟩
  | .hbm, ⟨11, _⟩ => ⟨S640x100x128, .i32⟩
  | .hbm, ⟨12, _⟩ => ⟨S640x100x128, .i32⟩
  | .hbm, ⟨13, _⟩ => ⟨S640x12800, .i32⟩
  | .hbm, ⟨14, _⟩ => ⟨S640x12800, .f32⟩
  | .hbm, ⟨15, _⟩ => ⟨S640x12800, .f32⟩
  | .hbm, ⟨16, _⟩ => ⟨S640x12800, .f32⟩
  | .hbm, ⟨17, _⟩ => ⟨S640x12800, .i32⟩
  | .hbm, ⟨18, _⟩ => ⟨S_, .i32⟩
  | .hbm, ⟨19, _⟩ => ⟨S10, .i32⟩
  | .hbm, ⟨20, _⟩ => ⟨S10, .i1⟩
  | .hbm, ⟨21, _⟩ => ⟨S_, .i32⟩
  | .hbm, ⟨22, _⟩ => ⟨S10, .i32⟩
  | .hbm, ⟨23, _⟩ => ⟨S10, .i32⟩
  | .hbm, ⟨24, _⟩ => ⟨S10, .i32⟩
  | .hbm, ⟨25, _⟩ => ⟨S10x1, .i32⟩
  | .hbm, ⟨26, _⟩ => ⟨S640x10, .i32⟩
  | .hbm, ⟨27, _⟩ => ⟨S_, .i32⟩
  | .hbm, ⟨28, _⟩ => ⟨S_, .i32⟩
  | .hbm, ⟨29, _⟩ => ⟨S640x16, .i32⟩
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_call0_v0 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Chunk.lean ====
/-
  One step of a row gather on a SparseCore tile, and a run of such steps one after another, for any mesh, any shapes, any
  buffers. A step fetches its part of an index list into a scratch list, gathers the rows that the list names from a table
  into a scratch block of rows, and writes the block out; each of the three transfers is waited for before the next.
-/
module

public import Idealize.ShloMosaic.Lib.SparseCore.Ops
public import Idealize.ShloMosaic.Lib.SparseCore.Stream
public import Idealize.ShloMosaic.Lib.Tactic

@[expose] public section

noncomputable section

namespace Cert.Proof.Chunk

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)

local notation "𝕄" => MT nD τ sig Ix (Elt F) Name U Lvl

/-! ## Steps one after another -/

/-- The programs `f 0, f 1, …` run one after another. -/
def seq {p : Proc τ} : (n : ℕ) → (Fin n → Prog (TpuEff nD τ sig (Elt F) Λ p) PUnit) → Prog (TpuEff nD τ sig (Elt F) Λ p) PUnit
  | 0, _ => pure ⟨⟩
  | n + 1, f => f 0 >>= fun _ => seq n fun r => f r.succ

/-- Steps that each keep `I` and turn their own `A r` into `B r`, run one after another, keep `I` and turn every `A r` into
    its `B r`. -/
theorem wp_seq {c : Thread nD τ} {bd : Option 𝒱.V} {I : sProp 𝕄} :
    ∀ (n : ℕ) (f : Fin n → Prog (TpuEff nD τ sig (Elt F) Λ c.2) PUnit) (A B : Fin n → sProp 𝕄)
      (_ : ∀ r, iprop(I ∗ A r) ⊢ wp frame (wpE defs 𝒱 c bd) Set.univ (f r) fun _ => iprop(I ∗ B r)),
      iprop(I ∗ bigSep Finset.univ A) ⊢ wp frame (wpE defs 𝒱 c bd) Set.univ (seq n f) fun _ => iprop(I ∗ bigSep Finset.univ B)
  | 0, f, A, B, _ => by
    rw [seq, wp_pure, Finset.univ_eq_empty, bigSep_empty, bigSep_empty]
    iintro H
    imodintro
    iexact H
  | n + 1, f, A, B, h => by
    rw [seq, wp_bind, Idealize.ShloMosaic.bigSep_univ_succ, Idealize.ShloMosaic.bigSep_univ_succ]
    iintro ⟨HI, HA, HAs⟩
    iapply (wp_wand frame (wpE defs 𝒱 c bd) Set.univ) $$ [HI HA]
    · iapply (h 0)
      isplitl [HI]; · iexact HI
      iexact HA
    iintro %u ⟨HI, HB⟩
    iapply (wp_wand frame (wpE defs 𝒱 c bd) Set.univ) $$ [HI HAs]
    · iapply (wp_seq n (fun r => f r.succ) (fun r => A r.succ) (fun r => B r.succ) fun r => h r.succ)
      isplitl [HI]; · iexact HI
      iexact HAs
    iintro %u' ⟨HI, HBs⟩
    isplitl [HI]; · iexact HI
    isplitl [HB]; · iexact HB
    iexact HBs

/-! ## One step -/

variable {s₀ s si : Shape}

/-- The step. -/
abbrev step (c : Thread nD τ) (lst : Memref sig c.2.kind .hbm si .i32) (tab : Memref sig c.2.kind .hbm s₀ .f32)
    (out : Memref sig c.2.kind .hbm s .f32) (lv : Memref sig c.2.kind .vmem si .i32) (rv : Memref sig c.2.kind .vmem s .f32)
    {a : Nat} (hg : s₀.Gathers a s) (hn : si.numel = s.size hg.axis') (sA sB sC : DmaSem sig) (hp : c.2.kind = .scVector) (hr : s₀.StreamRows a)
    (hlst : lst.view.WordExact) (hlv : lv.view.WordExact) (htab : tab.view.WordExact) (hrv : rv.view.WordExact) (hout : out.view.WordExact)
    (hA : DmaTarget.Typed (nD := nD) .hbm (.dma sA) (.here lv)) (hC : DmaTarget.Typed (nD := nD) .vmem (.dma sC) (.here out)) :
    Prog (TpuEff nD τ sig (Elt F) Λ c.2) PUnit := do
  Prog.lift (.enqueueDma lst (.here lv) (.dma sA) hlst hlv hA)
  Prog.lift (.waitDma2 sA lst lv hlst hlv)
  SparseCore.enqueueIndirectGather hp tab rv hg lv hn sB htab rfl (Or.inl rfl) hr
  SparseCore.waitIndirectGather sB tab rv htab hrv
  Prog.lift (.enqueueDma rv (.here out) (.dma sC) hrv hout hC)
  Prog.lift (.waitDma2 sC rv out hrv hout)

/-- The row numbers of two equal lists are the same. -/
theorem rows_congr {o z : ℕ} {w w' : si.Idx → Elt F .i32} (hw : w = w') (hn : si.numel = o) (h : ∀ x, (w x).toNat < z) (h' : ∀ x, (w' x).toNat < z) :
    SparseCore.rows w hn h = SparseCore.rows w' hn h' := by subst hw; rfl

/-- On the elements of a view, contents written with what the view reads of `g` are `g`. -/
theorem write_read_on {κ : Kind} {sp : Space} {s : Shape} {e : EltTy} (v : Memref sig κ sp s e) (f g : v.view.ty.Contents (Elt F)) :
    ∀ i ∈ v.view.set, v.view.write (Elt F) f (v.view.read (Elt F) g) Finset.univ i = g i := by
  intro i hi
  rw [View.write_read_eq_piecewise]
  exact Finset.piecewise_eq_of_mem _ _ _ hi

variable (c : Thread nD τ) (bd : Option 𝒱.V)

/-- What the steps of a tile share: the list and the table, each at a share, the scratch list and the scratch rows, the
    gather's semaphore at zero, and what the tile owes. -/
abbrev shared (ιd : Ix) (lstL tabL : Loc nD τ sig) (qi qt : PosShare TreeShare) (fi : Buf (Elt F) lstL) (ft : Buf (Elt F) tabL)
    (lvL rvL : Loc nD τ sig) (lvS : Finset (Idx lvL)) (rvS : Finset (Idx rvL)) (sB : DmaSem sig) (O : CellTallies nD τ sig Ix) (W : Waits sig Ix) : sProp 𝕄 :=
  iprop((lstL ↦{qi} fi) ∗ (tabL ↦{qt} ft) ∗ (∃ f, lvL ↦[lvS]{fullShare} f) ∗ (∃ f, rvL ↦[rvS]{fullShare} f)
    ∗ semVal (c, SemLoc.dma sB) 0 ∗ Transfers.MayWaits c ιd O ∗ ∃ W', ⌜∀ p ∈ W', p ∈ W ∨ p.2 = ιd⌝ ∗ owes c O W')

set_option maxHeartbeats 4000000 in
/-- The step, holding what the steps share, its own part of the output and its two semaphores: it leaves in its part of the output
    the gathered rows, which are `OUT` there. -/
theorem wp_step [Infinite Name] [EC.LandsIn (upEmb : UEmb _ 𝕄)]
    {lst : Memref sig c.2.kind .hbm si .i32} {tab : Memref sig c.2.kind .hbm s₀ .f32}
    {out : Memref sig c.2.kind .hbm s .f32} {lv : Memref sig c.2.kind .vmem si .i32} {rv : Memref sig c.2.kind .vmem s .f32}
    {a : Nat} {hg : s₀.Gathers a s} {hn : si.numel = s.size hg.axis'} {sA sB sC : DmaSem sig} {hp : c.2.kind = .scVector} {hr : s₀.StreamRows a}
    {hlst : lst.view.WordExact} {hlv : lv.view.WordExact} {htab : tab.view.WordExact} {hrv : rv.view.WordExact} {hout : out.view.WordExact}
    {hA : DmaTarget.Typed (nD := nD) .hbm (.dma sA) (.here lv)} {hC : DmaTarget.Typed (nD := nD) .vmem (.dma sC) (.here out)}
    (ιd : Ix) {qi qt : PosShare TreeShare} {fi : Buf (Elt F) (lst.view.loc c)} {ft : Buf (Elt F) (tab.view.loc c)}
    {O : CellTallies nD τ sig Ix} {W : Waits sig Ix}
    (hsi : 0 < si.numel) (hs : 0 < s.numel)
    (hN : ∑ j, (rv.slice (s.rowRect hg.axis' j) (s.stride_rowRect hg.axis' j)).view.dmaCredit = rv.view.dmaCredit)
    (hin : ∀ x, (lst.view.read (Elt F) fi x).toNat < s₀.size hg.axis)
    (fo OUT : Buf (Elt F) (out.view.loc c))
    (hOUT : out.view.read (Elt F) OUT = SparseCore.gatherPayload hg (tab.view.read (Elt F) ft) (SparseCore.rows (lst.view.read (Elt F) fi) hn hin)) :
    iprop(shared c ιd (lst.view.loc c) (tab.view.loc c) qi qt fi ft (lv.view.loc c) (rv.view.loc c) lv.view.set rv.view.set sB O W
        ∗ ((out.view.loc c ↦[out.view.set]{fullShare} fo) ∗ semVal (c, SemLoc.dma sA) 0 ∗ semVal (c, SemLoc.dma sC) 0))
      ⊢ wp (M := 𝕄) frame (wpE defs 𝒱 c bd) Set.univ (step c lst tab out lv rv hg hn sA sB sC hp hr hlst hlv htab hrv hout hA hC)
          fun _ => iprop(shared c ιd (lst.view.loc c) (tab.view.loc c) qi qt fi ft (lv.view.loc c) (rv.view.loc c) lv.view.set rv.view.set sB O W
            ∗ ((out.view.loc c ↦[out.view.set]{fullShare} OUT) ∗ semVal (c, SemLoc.dma sA) 0 ∗ semVal (c, SemLoc.dma sC) 0)) := by
  unfold step shared
  iintro ⟨⟨Hi, Ht, ⟨%f₁, Hl⟩, ⟨%f₂, Hr⟩, HB, #Hmw, %W', %hW', HO⟩, Ho, HA, HC⟩
  ihave Hi' := (pointsTo_split_subset (q := qi) (f := fi) (S := Finset.univ) (Finset.subset_univ lst.view.set)).1 $$ Hi
  icases Hi' with ⟨Hi, Hir⟩
  ihave Ht' := (pointsTo_split_subset (q := qt) (f := ft) (S := Finset.univ) (Finset.subset_univ tab.view.set)).1 $$ Ht
  icases Ht' with ⟨Ht, Htr⟩
  -- the list's part is fetched
  iapply (Transfers.wp_dmaLocal EC 𝒱 c bd ιd _ (View.amount_dma _ _) (View.dmaCredit_pos _ hsi) (Finset.Subset.refl _)) $$ [Hi Hl HA]
  · isplitl [Hi]; · iexact Hi
    isplitl [Hl]; · iexact Hl
    iexact HA
  iintro Hfl
  iapply (Transfers.wp_waitLocalO EC 𝒱 c bd ιd rfl) $$ [Hfl HO]
  · isplitl [Hfl]; · iexact Hfl
    isplitl [HO]; · iexact HO
    iapply (Transfers.MayWaits.elim (SemLoc.dma sA)) $$ Hmw
  iintro ⟨⟨Hl, Hi⟩, HA, HO⟩
  -- the rows are gathered
  have hrd : lv.view.read (Elt F) (lv.view.write (Elt F) f₁ (ReadAs.same.apply (lst.view.read (Elt F) fi)) Finset.univ) = lst.view.read (Elt F) fi :=
    View.read_write_univ _ _
  iapply (SparseCore.wp_indirectGatherLocal EC 𝒱 c bd (hg := hg) (hsp := Or.inl rfl) (hr := hr) (hp := hp) (he := rfl) ιd rv.view.dmaCredit hN hs (fun x => by rw [hrd]; exact hin x)) $$ [Ht Hr Hl HB]
  · isplitl [Ht]; · iexact Ht
    isplitl [Hr]; · iexact Hr
    isplitl [Hl]; · iexact Hl
    iexact HB
  iintro Hfl
  iapply (Transfers.wp_waitLocalO EC 𝒱 c bd ιd rfl) $$ [Hfl HO]
  · isplitl [Hfl]; · iexact Hfl
    isplitl [HO]; · iexact HO
    iapply (Transfers.MayWaits.elim (SemLoc.dma sB)) $$ Hmw
  iintro ⟨⟨Hr, Ht, Hl⟩, HB, HO⟩
  -- and written out
  iapply (Transfers.wp_dmaLocal EC 𝒱 c bd ιd _ (View.amount_dma _ _) (View.dmaCredit_pos _ hs) (Finset.Subset.refl _)) $$ [Hr Ho HC]
  · isplitl [Hr]; · iexact Hr
    isplitl [Ho]; · iexact Ho
    iexact HC
  iintro Hfl
  iapply (Transfers.wp_waitLocalO EC 𝒱 c bd ιd rfl) $$ [Hfl HO]
  · isplitl [Hfl]; · iexact Hfl
    isplitl [HO]; · iexact HO
    iapply (Transfers.MayWaits.elim (SemLoc.dma sC)) $$ Hmw
  iintro ⟨⟨Ho, Hr⟩, HC, HO⟩
  have hrr : ReadAs.same.apply (rv.view.read (Elt F) (rv.view.write (Elt F) f₂ (SparseCore.gatherPayload hg (tab.view.read (Elt F) ft)
      (SparseCore.rows (lv.view.read (Elt F) (lv.view.write (Elt F) f₁ (ReadAs.same.apply (lst.view.read (Elt F) fi)) Finset.univ)) hn
        fun x => by rw [hrd]; exact hin x)) Finset.univ)) = out.view.read (Elt F) OUT := by
    rw [hOUT, ← rows_congr hrd]
    exact View.read_write_univ _ _
  rw [hrr]
  ihave Ho := (Entails.of_eq (pointsTo_congr (write_read_on out fo OUT))) $$ Ho
  iapply (Entails.of_eq (wp_ret frame (wpE defs 𝒱 c bd) Set.univ PUnit.unit _).symm)
  imodintro
  ihave Hi := (pointsTo_split_subset (q := qi) (f := fi) (S := Finset.univ) (Finset.subset_univ lst.view.set)).2 $$ [Hi Hir]
  · isplitl [Hi] <;> iassumption
  ihave Ht := (pointsTo_split_subset (q := qt) (f := ft) (S := Finset.univ) (Finset.subset_univ tab.view.set)).2 $$ [Ht Htr]
  · isplitl [Ht] <;> iassumption
  isplitr [Ho HA HC]
  · isplitl [Hi]; · iexact Hi
    isplitl [Ht]; · iexact Ht
    isplitl [Hl]; · iexists _; iexact Hl
    isplitl [Hr]; · iexists _; iexact Hr
    isplitl [HB]; · iexact HB
    isplitr; · iexact Hmw
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Ho]; · iexact Ho
  isplitl [HA]; · iexact HA
  iexact HC

end Cert.Proof.Chunk

end
-- ==== Proof.Rows.lean ====
/-
  How a row gather's buffers are dealt to the tiles of the SparseCores and taken back, and what the tiles together leave.
  The list of row numbers and the table are read by every tile, each at a share; the output is cut into parts numbered by
  core, tile and step. What is left is, at each output row, the table's row that the list names there.
-/
module

public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.ValueIdxCore
public import Idealize.ShloMosaic.Lib.Tactic

@[expose] public section

noncomputable section

namespace Cert.Proof.Rows

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type}

/-! ## The gathered rows -/

/-- Row `r` of the result is row `I r` of the table (the row number taken within the table). -/
def gathered {z L O : ℕ} {e : EltTy} (hz : 0 < z) (I : (⟨1, ![O]⟩ : Shape).Idx → BitVec 32) (T : (⟨2, ![z, L]⟩ : Shape).Idx → Elt F e) :
    (⟨2, ![O, L]⟩ : Shape).Idx → Elt F e :=
  fun J => T (ix2 ⟨(I (ix1 (J 0))).toNat % z, Nat.mod_lt _ hz⟩ (J 1))

/-- What one step gathers is its part of the gathered rows: the step's `k`-th list entry is entry `o + k` of the list,
    and its `k`-th output row is output row `o + k`. -/
theorem payload_eq {z L O k o : ℕ} {e : EltTy} (hz : 0 < z) (I : (⟨1, ![O]⟩ : Shape).Idx → BitVec 32) (T : (⟨2, ![z, L]⟩ : Shape).Idx → Elt F e)
    (hg : (⟨2, ![z, L]⟩ : Shape).Gathers 0 ⟨2, ![k, L]⟩) (w : (⟨1, ![k]⟩ : Shape).Idx → Elt F .i32) (g : (⟨2, ![z, L]⟩ : Shape).Idx → Elt F e)
    (hn : (⟨1, ![k]⟩ : Shape).numel = (⟨2, ![k, L]⟩ : Shape).size hg.axis') (hin : ∀ x, (w x).toNat < (⟨2, ![z, L]⟩ : Shape).size hg.axis)
    (f : (⟨1, ![k]⟩ : Shape).Idx → (⟨1, ![O]⟩ : Shape).Idx) (f' : (⟨2, ![k, L]⟩ : Shape).Idx → (⟨2, ![O, L]⟩ : Shape).Idx)
    (hw : ∀ x, w x = I (f x)) (hgT : ∀ y, g y = T y) (hf : ∀ x, (f x 0).val = o + (x 0).val)
    (hf' : ∀ x, (f' x 0).val = o + (x 0).val) (hf1 : ∀ x, (f' x 1).val = (x 1).val) (x : (⟨2, ![k, L]⟩ : Shape).Idx) :
    gathered hz I T (f' x) = SparseCore.gatherPayload hg g (SparseCore.rows w hn hin) x := by
  unfold gathered SparseCore.gatherPayload
  rw [hgT]
  refine congrArg T (funext fun a => ?_)
  match a with
  | 0 =>
    refine Fin.ext ?_
    have hx : ∀ y : (⟨1, ![k]⟩ : Shape).Idx, (y 0).val = (x 0).val → (I (ix1 (f' x 0))).toNat % z = (w y).toNat := fun y hy => by
      rw [hw, show f y = ix1 (f' x 0) from funext fun b => match b with | 0 => Fin.ext ((hf y).trans ((congrArg (o + ·) hy).trans (hf' x).symm))]
      refine Nat.mod_eq_of_lt ?_
      have h := hin y
      rw [hw, show f y = ix1 (f' x 0) from funext fun b => match b with | 0 => Fin.ext ((hf y).trans ((congrArg (o + ·) hy).trans (hf' x).symm))] at h
      exact h
    have hrow := Shape.Gathers.idx_axis hg (SparseCore.rows w hn hin) x
    refine Eq.trans ?_ (congrArg Fin.val hrow).symm
    refine hx ((⟨1, ![k]⟩ : Shape).rowMajor.symm ((x hg.axis').cast hn.symm)) ?_
    rw [← Shape.rowMajor_val_one, Equiv.apply_symm_apply]; rfl
  | 1 =>
    refine Fin.ext ?_
    rw [Shape.Gathers.idx_of_ne hg _ _ 1 (show ¬ (1 : ℕ) = 0 by decide)]
    show (f' x 1).val = _
    rw [hf1]; rfl

/-! ## The parts of the output, the shares of the list and the table -/

variable {nD : Nat} {τ : Topo} {sig : RefSig} {Ix : Type} [DecidableEq Ix] {Name : Type} [DecidableEq Name]
variable {U : Type} [URA U] {Lvl : Type} [Preorder Lvl]

local notation "𝕄" => MT nD τ sig Ix (Elt F) Name U Lvl

/-- The elements of a buffer that `key` puts in part `k`. -/
def part {ℓ : Loc nD τ sig} (key : Idx ℓ → ℕ) (k : ℕ) : Finset (Idx ℓ) := Finset.univ.filter fun J => key J = k

theorem mem_part {ℓ : Loc nD τ sig} {key : Idx ℓ → ℕ} {k : ℕ} {J : Idx ℓ} : J ∈ part key k ↔ key J = k := by simp [part]

/-- The number of step `r` of tile `i` of core `c`, of `n` steps a tile. -/
abbrev num (nc n c i r : ℕ) : ℕ := (i * nc + c) * n + r

/-- A buffer is its parts. -/
theorem pointsTo_parts {nc ns n : ℕ} {ℓ : Loc nD τ sig} (key : Idx ℓ → ℕ) (hkey : ∀ J, key J < ns * nc * n) (q : PosShare TreeShare) (f : Buf (Elt F) ℓ) :
    (ℓ ↦{q} f : sProp 𝕄)
      = bigSep Finset.univ fun c : Fin nc => bigSep Finset.univ fun i : Fin ns => bigSep Finset.univ fun r : Fin n => ℓ ↦[part key (num nc n c.val i.val r.val)]{q} f := by
  have hd : ∀ p ∈ (Finset.univ : Finset (Fin nc × Fin ns × Fin n)), ∀ p' ∈ (Finset.univ : Finset (Fin nc × Fin ns × Fin n)), p ≠ p' →
      Disjoint (part key (num nc n p.1.val p.2.1.val p.2.2.val)) (part key (num nc n p'.1.val p'.2.1.val p'.2.2.val)) := by
    rintro ⟨c, i, r⟩ - ⟨c', i', r'⟩ - hne
    refine Finset.disjoint_left.mpr fun J h h' => hne ?_
    have e := (mem_part.mp h).symm.trans (mem_part.mp h')
    have h1 : (i.val * nc + c.val) = (i'.val * nc + c'.val) ∧ r.val = r'.val := by
      have a := congrArg (· / n) e; have b := congrArg (· % n) e
      have hn : 0 < n := r.pos
      simp only [num, Nat.mul_comm _ n, Nat.mul_add_div hn, Nat.mul_add_mod, Nat.div_eq_of_lt r.isLt, Nat.div_eq_of_lt r'.isLt, Nat.mod_eq_of_lt r.isLt,
        Nat.mod_eq_of_lt r'.isLt, Nat.add_zero] at a b
      exact ⟨by simpa [Nat.mul_comm] using a, b⟩
    have h2 : i.val = i'.val ∧ c.val = c'.val := by
      have a := congrArg (· / nc) h1.1; have b := congrArg (· % nc) h1.1
      have hn : 0 < nc := c.pos
      simp only [Nat.mul_comm _ nc, Nat.mul_add_div hn, Nat.mul_add_mod, Nat.div_eq_of_lt c.isLt, Nat.div_eq_of_lt c'.isLt, Nat.mod_eq_of_lt c.isLt,
        Nat.mod_eq_of_lt c'.isLt, Nat.add_zero] at a b
      exact ⟨a, b⟩
    exact Prod.ext (Fin.ext h2.2) (Prod.ext (Fin.ext h2.1) (Fin.ext h1.2))
  have hc : (Finset.univ : Finset (Fin nc × Fin ns × Fin n)).biUnion (fun p => part key (num nc n p.1.val p.2.1.val p.2.2.val)) = Finset.univ := by
    refine Finset.eq_univ_of_forall fun J => Finset.mem_biUnion.mpr ?_
    have h := hkey J
    have hn : 0 < n := Nat.pos_of_ne_zero fun e => by simp [e] at h
    have hnc : 0 < nc := Nat.pos_of_ne_zero fun e => by simp [e] at h
    have h1 : key J / n < ns * nc := (Nat.div_lt_iff_lt_mul hn).mpr h
    have h2 : key J / n / nc < ns := (Nat.div_lt_iff_lt_mul hnc).mpr h1
    refine ⟨(⟨key J / n % nc, Nat.mod_lt _ hnc⟩, ⟨key J / n / nc, h2⟩, ⟨key J % n, Nat.mod_lt _ hn⟩), Finset.mem_univ _, mem_part.mpr ?_⟩
    show key J = (key J / n / nc * nc + key J / n % nc) * n + key J % n
    rw [Nat.div_add_mod' (key J / n) nc, Nat.div_add_mod']
  have h := pointsTo_biUnion (Ix := Ix) (Name := Name) (U := U) (Lvl := Lvl) (q := q) (f := f) (Finset.univ : Finset (Fin nc × Fin ns × Fin n)) _ hd
  rw [hc, bigSep_univ_prod] at h
  refine h.trans (bigSep_congr fun c _ => ?_)
  rw [bigSep_univ_prod]

/-- The share of tile `i` of core `c`, of 2 cores of 16 tiles. -/
def tileShare {nc ns : ℕ} (hc : nc = 2 ^ 1) (hs : ns = 2 ^ 4) (c : Fin nc) (i : Fin ns) : PosShare TreeShare :=
  ShareLeaves.leaf 4 (ShareLeaves.leaf 1 fullShare (Fin.cast hc c)) (Fin.cast hs i)

/-- A buffer is every tile's share of it. -/
theorem pointsTo_shares {nc ns : ℕ} (hc : nc = 2 ^ 1) (hs : ns = 2 ^ 4) {ℓ : Loc nD τ sig} (f : Buf (Elt F) ℓ) :
    (ℓ ↦{fullShare} f : sProp 𝕄) = bigSep Finset.univ fun c : Fin nc => bigSep Finset.univ fun i : Fin ns => ℓ ↦{tileShare hc hs c i} f := by
  subst hc hs
  rw [ShareLeaves.pointsTo_leaves _ f 1 fullShare]
  refine bigSep_congr fun c _ => ?_
  rw [ShareLeaves.pointsTo_leaves _ f 4]
  rfl

/-- What tile `i` of core `c` is handed and hands back: its share of the list and of the table, and its parts of the output. -/
abbrev tile {nc ns : ℕ} (hc : nc = 2 ^ 1) (hs : ns = 2 ^ 4) (n : ℕ) {ℓi ℓt ℓo : Loc nD τ sig} (key : Idx ℓo → ℕ)
    (fi : Buf (Elt F) ℓi) (ft : Buf (Elt F) ℓt) (fo : Buf (Elt F) ℓo) (c : Fin nc) (i : Fin ns) : sProp 𝕄 :=
  iprop((ℓi ↦{tileShare hc hs c i} fi) ∗ (ℓt ↦{tileShare hc hs c i} ft)
    ∗ bigSep Finset.univ fun r : Fin n => ℓo ↦[part key (num nc n c.val i.val r.val)]{fullShare} fo)

/-- The three buffers are what all the tiles are handed. -/
theorem tiles_eq {nc ns : ℕ} (hc : nc = 2 ^ 1) (hs : ns = 2 ^ 4) (n : ℕ) {ℓi ℓt ℓo : Loc nD τ sig} (key : Idx ℓo → ℕ) (hkey : ∀ J, key J < ns * nc * n)
    (fi : Buf (Elt F) ℓi) (ft : Buf (Elt F) ℓt) (fo : Buf (Elt F) ℓo) :
    (bigSep Finset.univ fun c : Fin nc => bigSep Finset.univ fun i : Fin ns => tile hc hs n key fi ft fo c i : sProp 𝕄)
      = iprop((ℓi ↦{fullShare} fi) ∗ (ℓt ↦{fullShare} ft) ∗ ℓo ↦{fullShare} fo) := by
  rw [pointsTo_shares hc hs fi, pointsTo_shares hc hs ft, pointsTo_parts (nc := nc) (ns := ns) (n := n) key hkey]
  rw [← bigSep_sep', ← bigSep_sep']
  refine bigSep_congr fun c _ => ?_
  rw [← bigSep_sep', ← bigSep_sep']

/-! ## A tile's semaphores -/

/-- The cells at zero are the gather's, each step's two, and the rest. -/
theorem sems_eq {n : ℕ} {thr : Thread nD τ} (cells : Finset (GSem nD τ sig)) (sB : DmaSem sig) (sA sC : Fin n → DmaSem sig)
    (inj : Function.Injective (Sum.elim (fun _ : Unit => sB) (Sum.elim sA sC)))
    (sub : ∀ s : DmaSem sig, (thr, SemLoc.dma s) ∈ cells) :
    ∃ rest : sProp 𝕄, (bigSep cells fun g => semVal g 0 : sProp 𝕄)
      = iprop((semVal (thr, SemLoc.dma sB) 0 ∗ (bigSep Finset.univ fun r => semVal (thr, SemLoc.dma (sA r)) 0)
          ∗ bigSep Finset.univ fun r => semVal (thr, SemLoc.dma (sC r)) 0) ∗ rest) := by
  classical
  let f : Unit ⊕ (Fin n ⊕ Fin n) → GSem nD τ sig := fun j => (thr, SemLoc.dma (Sum.elim (fun _ : Unit => sB) (Sum.elim sA sC) j))
  refine ⟨bigSep (cells \ Finset.univ.image f) fun g => semVal g 0, ?_⟩
  rw [SparseCore.bigSep_sdiff_split' (t := Finset.univ.image f) fun x mem => by obtain ⟨j, _, rfl⟩ := Finset.mem_image.mp mem; exact sub _,
    SparseCore.bigSep_image_of_injOn fun j _ j' _ e => inj (by simpa [f] using e)]
  rw [bigSep_univ_sum, bigSep_univ_sum, bigSep_univ_of_subsingleton (() : Unit)]
  rfl

/-! ## Reading held buffers out of the final state -/

/-- Buffers held at a valuation are, in the state, at that valuation. -/
theorem held_read {thr : Thread nD τ} (S : Finset (DevRef τ sig)) (W : Valuation τ sig (Elt F)) (s' : Phys nD τ sig (Elt F)) :
    iprop(StableHlo.held thr S W ∗ SI s') ⊢ (⌜∀ b ∈ S, s'.mem.mem (thr.1, b) = W b⌝ : sProp 𝕄) := by
  classical
  induction S using Finset.induction_on with
  | empty => iintro -; ipureintro; exact fun b hb => absurd hb (Finset.notMem_empty b)
  | insert b S hb ih =>
    unfold StableHlo.held at ih ⊢
    rw [SparseCore.bigSep_insert' hb]
    iintro ⟨⟨Hb, HS⟩, HSI⟩
    ihave H := (persistent_entails_right (SI_pointsTo_agree (st := s') (ℓ := (thr.1, b)) (I := Finset.univ) (q := fullShare) (f := W b))) $$ [HSI Hb]
    · isplitl [HSI] <;> iassumption
    icases H with ⟨%h1, HSI, -⟩
    ihave H := ih $$ [HS HSI]
    · isplitl [HS]; · iexact HS
      iexact HSI
    icases H with %h2
    ipureintro
    intro b' hb'
    rcases Finset.mem_insert.mp hb' with rfl | hb'
    · exact funext fun i => h1 i (Finset.mem_univ i)
    · exact h2 b' hb'

end Cert.Proof.Rows

end
-- ==== Proof.Gather.lean ====
/-
  The gather of the selected table rows, run: thirty-two tiles on the two SparseCores, each five steps of forty rows
  (Chunk.lean), every tile reading the whole list and the whole table at a share and writing its own five parts of the
  output (Rows.lean); before it @main pads the table to 128 columns and flattens the list, after it @main cuts the first 64
  columns back out. Every execution ends with the two arguments unchanged, every semaphore at zero, and the result at the
  composed value.
-/
module

public import proofs.«01_k».proof.Defs
public import proofs.«01_k».proof.Proof.Chunk
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.Kernel
public import proofs.«01_k».proof.Proof.Gen.Kernel.Skeleton

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunk Cert.Proof.Rows

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 ^ 1 := rfl
theorem nSub_zero : (K (F := F)).nSub 0 = 2 ^ 4 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev iLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

local notation "iV" => (Memref.whole Cert.Kernel.main_v0_scv : Memref Cert.Kernel.sig Kind.scVector Space.hbm Cert.Kernel.S6400 EltTy.i32)
local notation "tV" => (Memref.whole Cert.Kernel.main_v1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S6400x128 EltTy.f32)
local notation "sV" => (Memref.whole Cert.Kernel.cc0_scratch0 : Memref Cert.Kernel.sig Kind.scVector Space.vmem Cert.Kernel.S40 EltTy.i32)
local notation "rV" => (Memref.whole Cert.Kernel.cc0_scratch1 : Memref Cert.Kernel.sig Kind.scVector Space.vmem Cert.Kernel.S40x128 EltTy.f32)

/-- The part of an output element: its row, by forties. -/
abbrev key (d : Dev nD) : Idx (oLoc d) → ℕ := fun J => ((J : S6400x128.Idx) 0).val / 40
theorem key_lt (d : Dev nD) (J : Idx (oLoc d)) : key d J < 2 ^ 4 * 2 ^ 1 * 5 := by
  have h : ((J : S6400x128.Idx) 0).val < 6400 := ((J : S6400x128.Idx) 0).isLt
  show _ / 40 < _
  omega

/-- What the tiles leave: the rows the list names. -/
abbrev out (d : Dev nD) (fi : Buf (Elt F) (iLoc d)) (ft : Buf (Elt F) (tLoc d)) : Buf (Elt F) (oLoc d) :=
  gathered (F := F) (z := 100000) (L := 128) (O := 6400) (e := .f32) (by decide) fi ft

/-! ## One tile -/

section Tile

variable [FloatOps F] (d : Dev nD) (L : grid0.Coords)

abbrev cV (L : grid0.Coords) : Fin τ.nSC := (L 0).castLE hcore0
abbrev jV (L : grid0.Coords) : Fin τ.nSub := (L 1).castLE hsub0

abbrev iRect (L : grid0.Coords) (r : Fin 5) : Rect S6400 := Rect.unit (s := S6400) (k0_off1 L (BitVec.ofNat 32 (40 * r.val))) S40.size (k0_off1_inb L r)
abbrev oRect (L : grid0.Coords) (r : Fin 5) : Rect S6400x128 := Rect.unit (s := S6400x128) (k0_off2 L (BitVec.ofNat 32 (40 * r.val))) S40x128.size (k0_off2_inb L r)
abbrev iK (L : grid0.Coords) (r : Fin 5) : Memref sig .scVector .hbm S40 .i32 := (iV).slice (iRect L r) (fun _ => rfl)
abbrev oK (L : grid0.Coords) (r : Fin 5) : Memref sig .scVector .hbm S40x128 .f32 := (oV).slice (oRect L r) (fun _ => rfl)
abbrev tK : Memref sig .scVector .hbm S100000x128 .f32 := (tV).slice (Rect.unit (s := S100000x128) ![0, 0] S100000x128.size inb_S100000x128_S100000x128_0_0) (fun _ => rfl)

/-- The two semaphores of step `r`. -/
abbrev semA (r : Fin 5) : DmaSem sig := ⟨1 + 2 * r.val, by show _ < 11; omega⟩
abbrev semC (r : Fin 5) : DmaSem sig := ⟨2 + 2 * r.val, by show _ < 11; omega⟩

abbrev stepK (d : Dev nD) (L : grid0.Coords) (r : Fin 5) : Prog (TpuEff nD τ sig (Elt F) Λ₀ (V d (cV L) (jV L)).2) PUnit :=
  step (V d (cV L) (jV L)) (iK L r) tK (oK L r) sV rV gathers_S100000x128_S40x128 rfl (semA r) cc0_scratch2.sem (semC r) rfl (by decide)
    (View.wordExact_bits rfl) (Memref.isWhole_whole _).wordExact (View.wordExact_bits rfl) (Memref.isWhole_whole _).wordExact (View.wordExact_bits rfl)
    ⟨Or.inl rfl, trivial⟩ ⟨Or.inl rfl, trivial⟩

set_option maxRecDepth 65536 in
set_option maxHeartbeats 4000000 in
theorem kernel_eq : (cc0_k (F := F) L tV (Memref.isWhole_whole _) iV (Memref.isWhole_whole _) oV (Memref.isWhole_whole _)
      sV (Memref.isWhole_whole _) rV (Memref.isWhole_whole _) cc0_scratch2 cc0_scoped0 cc0_scoped1 cc0_scoped2 cc0_scoped3 cc0_scoped4
      cc0_scoped5 cc0_scoped6 cc0_scoped7 cc0_scoped8 cc0_scoped9)
    = seq (p := (V d (cV L) (jV L)).2) 5 (stepK d L) := rfl

/-! ### Its parts of the output, its semaphores and its scratch -/

omit [FloatOps F] in
theorem off1_eq : ∀ (L : grid0.Coords) (r : Fin 5), k0_off1 L (BitVec.ofNat 32 (40 * r.val)) 0 = num 2 5 (L 0).val (L 1).val r.val * 40 := by decide +kernel
omit [FloatOps F] in
theorem off2_eq : ∀ (L : grid0.Coords) (r : Fin 5), k0_off2 L (BitVec.ofNat 32 (40 * r.val)) 0 = num 2 5 (L 0).val (L 1).val r.val * 40 := by decide +kernel

omit [FloatOps F] in
theorem set_oK (r : Fin 5) : (oK L r).view.set = part (key d) (num 2 5 (L 0).val (L 1).val r.val) := by
  show ((View.whole (main_v2_scv : Ref sig .scVector)).slice (oRect L r)).set = _
  rw [View.set_slice_whole]
  ext J
  rw [mem_part, Rect.mem_set_unit]
  have h0 := off2_eq L r
  have h1 : ((J : S6400x128.Idx) 1).val < 128 := ((J : S6400x128.Idx) 1).isLt
  constructor
  · intro h
    have h := h 0
    rw [h0] at h
    have hs : S40x128.size 0 = 40 := rfl
    show ((J : S6400x128.Idx) 0).val / 40 = _
    omega
  · intro h a
    have h : ((J : S6400x128.Idx) 0).val / 40 = _ := h
    match a with
    | 0 =>
      have hs : S40x128.size 0 = 40 := rfl
      rw [h0, hs]
      omega
    | 1 => exact ⟨Nat.zero_le _, by show _ < 0 + 128; omega⟩

omit [FloatOps F] in
theorem pts_oK (r : Fin 5) (f : Buf (Elt F) (oLoc d)) :
    ((oK L r).view.loc (V d (cV L) (jV L)) ↦[(oK L r).view.set]{fullShare} f : sProp 𝕄)
      = oLoc d ↦[part (key d) (num 2 5 (L 0).val (L 1).val r.val)]{fullShare} f := by
  rw [set_oK d]

omit [FloatOps F] in
theorem sems_V : ∃ rest : sProp 𝕄, (ownSems0 (V d (cV L) (jV L)) : sProp 𝕄)
    = iprop((semVal (V d (cV L) (jV L), SemLoc.dma cc0_scratch2.sem) 0
        ∗ (bigSep Finset.univ fun r => semVal (V d (cV L) (jV L), SemLoc.dma (semA r)) 0)
        ∗ bigSep Finset.univ fun r => semVal (V d (cV L) (jV L), SemLoc.dma (semC r)) 0) ∗ rest) :=
  sems_eq _ _ semA semC (by decide) fun s => mem_ownCells.mpr ⟨rfl, by
    revert s; show ∀ s : DmaSem sig, (SemLoc.dma s : SemLoc sig).isScoped .scVector = true; decide⟩

omit [FloatOps F] in
/-- The two scratch buffers are among the tile's own: they are them, at some contents, and the rest. -/
theorem bufs_V : ∃ rest : sProp 𝕄, (ownBufs (V d (cV L) (jV L)) : sProp 𝕄)
    = iprop((∃ f, (V d (cV L) (jV L)).loc cc0_scratch0 ↦{fullShare} f) ∗ (∃ f, (V d (cV L) (jV L)).loc cc0_scratch1 ↦{fullShare} f) ∗ rest) := by
  unfold SparseCore.Cfg.ownBufs
  refine ⟨bigSep (((ownRefs (τ := τ) (.scVector (cV L) (jV L))).erase ((Proc.scVector (cV L) (jV L)).devRef cc0_scratch0)).erase
      ((Proc.scVector (cV L) (jV L)).devRef cc0_scratch1)) fun b => iprop(∃ f, ((d, b) : Loc nD τ sig) ↦{fullShare} f),
    (SparseCore.bigSep_erase' (SparseCore.Cfg.mem_ownRefs_of_owner (p := Proc.scVector (cV L) (jV L))
    (b := (Proc.scVector (cV L) (jV L)).devRef cc0_scratch0) rfl)).trans ?_⟩
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The tile's run -/

omit [FloatOps F] in
theorem hN : ∀ h : S100000x128.Gathers 0 S40x128, ∑ j, ((rV).slice (S40x128.rowRect h.axis' j) (S40x128.stride_rowRect h.axis' j)).view.dmaCredit
    = (rV).view.dmaCredit := by decide

omit [FloatOps F] in
theorem hin (fi : Buf (Elt F) (iLoc d)) (hi : ∀ j : S6400.Idx, (fi j : BitVec 32).toNat < 100000) (r : Fin 5) (x : S40.Idx) :
    ((iK L r).view.read (Elt F) fi x).toNat < S100000x128.size gathers_S100000x128_S40x128.axis := hi _

omit [FloatOps F] in
theorem read_tK (ft : Buf (Elt F) (tLoc d)) (y : S100000x128.Idx) : tK.view.read (Elt F) ft y = ft y := by
  rw [View.read_apply]
  refine (cast_eq _ _).trans (congrArg ft (funext fun a => Fin.ext ?_))
  show (![0, 0] : Fin 2 → ℕ) a + 1 * (y a).val = _
  match a with
  | 0 => show 0 + 1 * _ = _; omega
  | 1 => show 0 + 1 * _ = _; omega

omit [FloatOps F] in
/-- What step `r` gathers is its part of the gathered rows. -/
theorem out_eq (fi : Buf (Elt F) (iLoc d)) (ft : Buf (Elt F) (tLoc d)) (hi : ∀ j : S6400.Idx, (fi j : BitVec 32).toNat < 100000) (r : Fin 5) :
    (oK L r).view.read (Elt F) (out d fi ft)
      = SparseCore.gatherPayload gathers_S100000x128_S40x128 (tK.view.read (Elt F) ft)
          (SparseCore.rows ((iK L r).view.read (Elt F) fi) (rfl : S40.numel = S40x128.size gathers_S100000x128_S40x128.axis') (hin d L fi hi r)) := by
  funext x
  rw [View.read_apply]
  refine (cast_eq _ _).trans ?_
  exact payload_eq (F := F) (z := 100000) (L := 128) (O := 6400) (k := 40) (o := num 2 5 (L 0).val (L 1).val r.val * 40) (e := .f32) (by decide) fi ft
    gathers_S100000x128_S40x128 _ _ rfl (hin d L fi hi r) (fun x => (iK L r).view.emb x) (fun x => (oK L r).view.emb x)
    (fun x => (View.read_apply _ _).trans (cast_eq _ _))
    (read_tK d ft)
    (fun x => by show k0_off1 L (BitVec.ofNat 32 (40 * r.val)) 0 + 1 * (x 0).val = _; rw [off1_eq]; omega)
    (fun x => by show k0_off2 L (BitVec.ofNat 32 (40 * r.val)) 0 + 1 * (x 0).val = _; rw [off2_eq]; omega)
    (fun x => by show 0 + 1 * (x 1).val = _; omega) x

omit [FloatOps F] in
theorem hnum : 0 < S40.numel := by decide
omit [FloatOps F] in
theorem hnum' : 0 < S40x128.numel := by decide

/-- Step `r`, at the tile's own buffers. -/
theorem step_body (fi : Buf (Elt F) (iLoc d)) (ft : Buf (Elt F) (tLoc d)) (fo : Buf (Elt F) (oLoc d))
    (hi : ∀ j : S6400.Idx, (fi j : BitVec 32).toNat < 100000) (q : PosShare TreeShare) (O : CellTallies nD τ sig (HIx 1)) (W : Waits sig (HIx 1)) (r : Fin 5) :
    (iprop(shared (V d (cV L) (jV L)) (default : HIx 1) (iLoc d) (tLoc d) q q fi ft
        ((sV).view.loc (V d (cV L) (jV L))) ((rV).view.loc (V d (cV L) (jV L))) (sV).view.set (rV).view.set cc0_scratch2.sem O W
        ∗ ((oLoc d ↦[part (key d) (num 2 5 (L 0).val (L 1).val r.val)]{fullShare} fo)
          ∗ semVal (V d (cV L) (jV L), SemLoc.dma (semA r)) 0 ∗ semVal (V d (cV L) (jV L), SemLoc.dma (semC r)) 0)) : sProp 𝕄)
      ⊢ wp (M := 𝕄) frame (wpE (defs₀ (F := F)) 𝒱₀ (V d (cV L) (jV L)) none) Set.univ (stepK d L r) fun _ =>
        iprop(shared (V d (cV L) (jV L)) (default : HIx 1) (iLoc d) (tLoc d) q q fi ft
        ((sV).view.loc (V d (cV L) (jV L))) ((rV).view.loc (V d (cV L) (jV L))) (sV).view.set (rV).view.set cc0_scratch2.sem O W
        ∗ ((oLoc d ↦[part (key d) (num 2 5 (L 0).val (L 1).val r.val)]{fullShare} out d fi ft)
          ∗ semVal (V d (cV L) (jV L), SemLoc.dma (semA r)) 0 ∗ semVal (V d (cV L) (jV L), SemLoc.dma (semC r)) 0)) := by
  rw [← pts_oK d L r, ← pts_oK d L r]
  exact wp_step (si := S40) (s₀ := S100000x128) (s := S40x128) countersEmb 𝒱₀ (V d (cV L) (jV L)) none (lst := iK L r) (tab := tK) (out := oK L r) (lv := sV) (rv := rV)
    (hg := gathers_S100000x128_S40x128) (hn := rfl) (sA := semA r) (sB := cc0_scratch2.sem) (sC := semC r) (default : HIx 1) hnum hnum' (hN _) (hin d L fi hi r) fo (out d fi ft) (out_eq d L fi ft hi r)

/-- Tile `L` gathers its part of the list's rows: it ends with the list and the table as they were and its parts of the output at
    the rows the list names. -/
theorem tile_body (hF : (K (F := F)).Facts) (fi : Buf (Elt F) (iLoc d)) (ft : Buf (Elt F) (tLoc d)) (fo : Buf (Elt F) (oLoc d))
    (hi : ∀ j : S6400.Idx, (fi j : BitVec 32).toNat < 100000)
    (c : Fin ((K (F := F)).nCore 0)) (i : Fin ((K (F := F)).nSub 0)) (hc : c.val = (L 0).val) (hs : i.val = (L 1).val)
    (O : CellTallies nD τ sig (HIx 1)) (W : Waits sig (HIx 1)) (hO : ∀ g, O g none = 0) :
    (iprop(levAts (K (F := F)).L (K (F := F)).lev ∗ emp
        ∗ tile nCore_zero nSub_zero 5 (key d) fi ft fo c i
        ∗ scopedBufs (V d (cV L) (jV L)) ∗ scopedSems0 (V d (cV L) (jV L)) ∗ owes (V d (cV L) (jV L)) O W) : sProp 𝕄)
      ⊢ wp (M := 𝕄) frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4
            cc0_scoped5 cc0_scoped6 cc0_scoped7 cc0_scoped8 cc0_scoped9)
          fun _ => iprop(tile nCore_zero nSub_zero 5 (key d) fi ft (out d fi ft) c i
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [kernel_eq d L, (K (F := F)).scopedBufs_V hF d (cV L) (jV L), SparseCore.Cfg.scopedSems0_V (Val := Elt F) d (cV L) (jV L)]
  obtain ⟨srest, hsem⟩ := sems_V (F := F) d L
  obtain ⟨brest, hbuf⟩ := bufs_V (F := F) d L
  rw [hsem, hbuf, tile, tile, hc, hs]
  have hss : (sV).view.set = Finset.univ := View.set_whole _
  have hrs : (rV).view.set = Finset.univ := View.set_whole _
  have hall := wp_seq (defs := defs₀ (F := F)) 𝒱₀ (c := V d (cV L) (jV L)) (bd := none) 5 _ _ _ (step_body d L fi ft fo hi (tileShare nCore_zero nSub_zero c i) O W)
  rw [bigSep_sep', bigSep_sep', bigSep_sep', bigSep_sep'] at hall
  iintro ⟨#Hlv, -, ⟨Hi, Ht, Ho⟩, ⟨⟨%f₁, Hs⟩, ⟨%f₂, Hr⟩, Hbufs⟩, ⟨⟨HB, HA, HC⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (V d (cV L) (jV L)) none) Set.univ) $$ [Hi Ht Ho Hs Hr HB HA HC HO Hmw]
  · iapply hall
    isplitr [Ho HA HC]
    · isplitl [Hi]; · iexact Hi
      isplitl [Ht]; · iexact Ht
      isplitl [Hs]; · iexists f₁; rw [hss]; iexact Hs
      isplitl [Hr]; · iexists f₂; rw [hrs]; iexact Hr
      isplitl [HB]; · iexact HB
      isplitl [Hmw]; · iexact Hmw
      iexists W; isplitr; · ipureintro; exact fun p hp => .inl hp
      iexact HO
    isplitl [Ho]; · iexact Ho
    isplitl [HA]; · iexact HA
    iexact HC
  iintro %u ⟨⟨Hi, Ht, ⟨%g₁, Hs⟩, ⟨%g₂, Hr⟩, HB, -, HO⟩, Ho, HA, HC⟩
  isplitl [Hi Ht Ho]
  · isplitl [Hi]; · iexact Hi
    isplitl [Ht]; · iexact Ht
    iexact Ho
  isplitl [Hs Hr Hbufs]
  · isplitl [Hs]; · iexists g₁; rw [hss]; iexact Hs
    isplitl [Hr]; · iexists g₂; rw [hrs]; iexact Hr
    iexact Hbufs
  isplitl [HA HB HC Hsems]
  · isplitr [Hsems]
    · isplitl [HB]; · iexact HB
      isplitl [HA]; · iexact HA
      iexact HC
    iexact Hsems
  iexact HO

end Tile

end Cert.Proof.Gather

end
-- ==== Proof.GatherRun.lean ====
module

public import proofs.«01_k».proof.Defs
public import proofs.«01_k».proof.Proof.Gather
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.Kernel
public import proofs.«01_k».proof.Proof.Gen.Kernel.Skeleton

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunk Cert.Proof.Rows

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S6400 EltTy.i32)
local notation "tV" => (Memref.whole Cert.Kernel.main_v1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S6400x128 EltTy.f32)
local notation "sV" => (Memref.whole Cert.Kernel.cc0_scratch0 : Memref Cert.Kernel.sig Kind.scVector Space.vmem Cert.Kernel.S40 EltTy.i32)
local notation "rV" => (Memref.whole Cert.Kernel.cc0_scratch1 : Memref Cert.Kernel.sig Kind.scVector Space.vmem Cert.Kernel.S40x128 EltTy.f32)

/-! ## @main's host operations -/

section Main

variable [FloatOps F]

/-- Before the call: the list flattened, the padding value, its conversion, the table padded to 128 columns. -/
def opsBefore : List (HloOp τ sig (Elt F)) :=
  [StableHlo.reshape main_arg1 main_v0 (rfl : (.i32 : EltTy) = .i32) shapeCasts_S32x20x1x10_S6400,
    StableHlo.nullary main_c (constantI S_ 32 0#32),
    StableHlo.TRef.unary (.of main_c : StableHlo.TRef sig ⟨S_, .i32⟩) main_call0.v0 (sitofp (F := F) .f32),
    StableHlo.TRef.binary (.of main_arg0 : StableHlo.TRef sig ⟨S100000x64, .f32⟩) main_call0.v0 main_call0.v1
      (fun x v => pad S100000x128 ![0, 0] ![0, 64] ![0, 0] x v pads_S100000x64_S100000x128_000_0640 h_S_)]

/-- After it: the first 64 columns, in the result's shape. -/
def opsAfter : List (HloOp τ sig (Elt F)) :=
  [StableHlo.unary main_v2 main_v3 ((extractStridedSlice S6400x64 ![0, 0] · slices_S6400x128_S6400x64_0_0) :
      (⟨S6400x128, .f32⟩ : BufTy).Contents (Elt F) → (⟨S6400x64, .f32⟩ : BufTy).Contents (Elt F)),
    StableHlo.reshape main_v3 main_v4 (rfl : (.f32 : EltTy) = .f32) shapeCasts_S6400x64_S32x20x10x64]

theorem main_eq (d : Dev nD) : main (F := F) d
    = StableHlo.seq opsBefore >>= fun _ => (K (F := F)).run d 0 >>= fun _ => StableHlo.seq opsAfter >>= fun _ => pure ⟨⟩ := rfl

theorem before_sub : ∀ op ∈ opsBefore (F := F), op.bufs ⊆ Pipeline.ucRefs τ sig :=
  List.forall_iff_forall_mem.mp
    ⟨Pipeline.sub_ucRefs _ (show ({Proc.devRef .tc main_arg1, Proc.devRef .tc main_v0} : Finset (DevRef τ sig)) ⊆ StableHlo.tcRefs τ sig by decide),
      Pipeline.sub_ucRefs _ (show ({Proc.devRef .tc main_c} : Finset (DevRef τ sig)) ⊆ StableHlo.tcRefs τ sig by decide),
      Pipeline.sub_ucRefs _ (show ({Proc.devRef .tc main_c, Proc.devRef .tc main_call0_v0} : Finset (DevRef τ sig)) ⊆ StableHlo.tcRefs τ sig by decide),
      Pipeline.sub_ucRefs _ (show ({Proc.devRef .tc main_arg0, Proc.devRef .tc main_call0_v0, Proc.devRef .tc main_v1} : Finset (DevRef τ sig))
        ⊆ StableHlo.tcRefs τ sig by decide)⟩
theorem before_fresh : ∀ op ∈ opsBefore (F := F), op.fresh = ∅ := List.forall_iff_forall_mem.mp ⟨rfl, rfl, rfl, rfl⟩
theorem after_sub : ∀ op ∈ opsAfter (F := F), op.bufs ⊆ Pipeline.ucRefs τ sig :=
  List.forall_iff_forall_mem.mp
    ⟨Pipeline.sub_ucRefs _ (show ({Proc.devRef .tc main_v2, Proc.devRef .tc main_v3} : Finset (DevRef τ sig)) ⊆ StableHlo.tcRefs τ sig by decide),
      Pipeline.sub_ucRefs _ (show ({Proc.devRef .tc main_v3, Proc.devRef .tc main_v4} : Finset (DevRef τ sig)) ⊆ StableHlo.tcRefs τ sig by decide)⟩
theorem after_fresh : ∀ op ∈ opsAfter (F := F), op.fresh = ∅ := List.forall_iff_forall_mem.mp ⟨rfl, rfl⟩

variable (m : (ℓ : Loc nD τ sig) → Buf (Elt F) ℓ) (ρ : Dev nD → PrngReg)

abbrev i' : DevRef τ sig := Proc.devRef .tc main_v0
abbrev t' : DevRef τ sig := Proc.devRef .tc main_v1
abbrev o' : DevRef τ sig := Proc.devRef .tc main_v2

/-- The device's buffers before the call, after it, and at the end. -/
def V1 (d : Dev nD) : Valuation τ sig (Elt F) := StableHlo.after opsBefore fun b => m (d, b)
def V2 (d : Dev nD) : Valuation τ sig (Elt F) := Function.update (V1 m d) o' (out d (V1 m d i') (V1 m d t'))
def V3 (d : Dev nD) : Valuation τ sig (Elt F) := StableHlo.after opsAfter (V2 m d)

theorem V1_i (d : Dev nD) : V1 m d i' = shapeCast S6400 (m ((d.tc : Thread nD τ).loc main_arg1)) shapeCasts_S32x20x1x10_S6400 := by
  delta V1 opsBefore
  after_results_simp
  rfl

/-! ## What the handshakes carry -/

abbrev handed (d : Dev nD) (fo : Buf (Elt F) (oLoc d)) (c : Fin ((K (F := F)).nCore 0)) (i : Fin ((K (F := F)).nSub 0)) : sProp 𝕄 :=
  tile (ℓi := iLoc d) (ℓt := tLoc d) nCore_zero nSub_zero 5 (key d) (V1 m d i') (V1 m d t') fo c i

/-- Each core is handed its tiles' shares and parts and hands them back, the output's parts at the gathered rows. -/
def P : (K (F := F)).Pay (nD := nD) (Val := Elt F) (Name := ℕ) (U := UU) where
  st := fun q d c => match q with | 0 => bigSep Finset.univ fun i => handed m d (V1 m d o') c i
  dn := fun q d c => match q with | 0 => bigSep Finset.univ fun i => handed m d (out d (V1 m d i') (V1 m d t')) c i
  go := fun q d c i => match q with | 0 => handed m d (V1 m d o') c i
  td := fun q d c i => match q with | 0 => handed m d (out d (V1 m d i') (V1 m d t')) c i
  x := fun _ _ => iprop(emp)

instance P_storable : (P (F := F) m).IsStorable where
  st q d c := match q with
    | 0 => (inferInstance : BI.Storable (upEmb : UEmb _ 𝕄) (bigSep Finset.univ fun i => handed m d (V1 m d o') c i))
  dn q d c := match q with
    | 0 => (inferInstance : BI.Storable (upEmb : UEmb _ 𝕄) (bigSep Finset.univ fun i => handed m d (out d (V1 m d i') (V1 m d t')) c i))
  go q d c i := match q with
    | 0 => (inferInstance : BI.Storable (upEmb : UEmb _ 𝕄) (handed m d (V1 m d o') c i))
  td q d c i := match q with
    | 0 => (inferInstance : BI.Storable (upEmb : UEmb _ 𝕄) (handed m d (out d (V1 m d i') (V1 m d t')) c i))

/-- What the proof asks of the launch memory: every selected index is a row of the table. -/
def PreOK : Prop := ∀ (d : Dev nD) (j : S32x20x1x10.Idx), (m ((d.tc : Thread nD τ).loc main_arg1) j : BitVec 32).toNat < 100000

theorem list_ok (hpre : PreOK m) (d : Dev nD) (j : S6400.Idx) : (V1 m d i' j : BitVec 32).toNat < 100000 := by
  rw [V1_i]; exact hpre d _

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3 cc0_scoped4
          cc0_scoped5 cc0_scoped6 cc0_scoped7 cc0_scoped8 cc0_scoped9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (V1 m d i') (V1 m d t') (V1 m d o') (list_ok m hpre d) c i rfl rfl O W hO).trans
    (wp_mono frame _ _ fun _ => obl_post)

theorem vecSplit : (K (F := F)).VecSplit' (P m) 0 := by
  intro d c
  show (bigSep Finset.univ fun i => handed m d (V1 m d o') c i) ⊢ |={Set.univ}=> iprop(
      (bigSep Finset.univ fun i => handed m d (V1 m d o') c i)
      ∗ ((bigSep Finset.univ fun i => handed m d (out d (V1 m d i') (V1 m d t')) c i)
          -∗ bigSep Finset.univ fun i => handed m d (out d (V1 m d i') (V1 m d t')) c i))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The call's three buffers out of the held ones. -/
theorem held_call (d : Dev nD) (W : Valuation τ sig (Elt F)) :
    (StableHlo.held (d.tc : Thread nD τ) (Pipeline.ucRefs τ sig) W : sProp 𝕄)
      = iprop(((iLoc d ↦{fullShare} W i') ∗ (tLoc d ↦{fullShare} W t') ∗ oLoc d ↦{fullShare} W o')
          ∗ StableHlo.held (d.tc : Thread nD τ) (Pipeline.ucRefs τ sig \ {i', t', o'}) W) := by
  rw [StableHlo.held_sub_split (d.tc : Thread nD τ) (T := {i', t', o'}) (by decide) W]
  congr 1
  unfold StableHlo.held
  rw [SparseCore.bigSep_insert' (by decide), SparseCore.bigSep_insert' (by decide), bigSep_singleton]

theorem st0_eq (d : Dev nD) : (bigSep Finset.univ fun c : Fin ((K (F := F)).nCore 0) => (P m).st 0 d c)
    = iprop((iLoc d ↦{fullShare} V1 m d i') ∗ (tLoc d ↦{fullShare} V1 m d t') ∗ oLoc d ↦{fullShare} V1 m d o') :=
  tiles_eq (ℓi := iLoc d) (ℓt := tLoc d) nCore_zero nSub_zero 5 (key d) (key_lt d) (V1 m d i') (V1 m d t') (V1 m d o')
theorem dn0_eq (d : Dev nD) : (bigSep Finset.univ fun c : Fin ((K (F := F)).nCore 0) => (P m).dn 0 d c)
    = iprop((iLoc d ↦{fullShare} V1 m d i') ∗ (tLoc d ↦{fullShare} V1 m d t') ∗ oLoc d ↦{fullShare} out d (V1 m d i') (V1 m d t')) :=
  tiles_eq (ℓi := iLoc d) (ℓt := tLoc d) nCore_zero nSub_zero 5 (key d) (key_lt d) (V1 m d i') (V1 m d t') (out d (V1 m d i') (V1 m d t'))

theorem held_V2 (d : Dev nD) :
    (StableHlo.held (d.tc : Thread nD τ) (Pipeline.ucRefs τ sig) (V2 m d) : sProp 𝕄)
      = iprop(((iLoc d ↦{fullShare} V1 m d i') ∗ (tLoc d ↦{fullShare} V1 m d t') ∗ oLoc d ↦{fullShare} out d (V1 m d i') (V1 m d t'))
          ∗ StableHlo.held (d.tc : Thread nD τ) (Pipeline.ucRefs τ sig \ {i', t', o'}) (V1 m d)) := by
  rw [held_call, StableHlo.held_congr (d.tc : Thread nD τ) (V := V2 m d) (V' := V1 m d) fun b hb =>
      Function.update_of_ne (fun e => (Finset.mem_sdiff.mp hb).2 (e ▸ (by decide : o' ∈ ({i', t', o'} : Finset (DevRef τ sig))))) _ _]
  delta V2
  rw [Function.update_self, Function.update_of_ne (show i' ≠ o' by decide), Function.update_of_ne (show t' ≠ o' by decide)]

abbrev FIN (d : Dev nD) : sProp 𝕄 := StableHlo.held (d.tc : Thread nD τ) (Pipeline.ucRefs τ sig) (V3 m d)

theorem start_held (d : Dev nD) : (unscopedBufs d (fun b => m ((SparseCore.T d).loc b)) : sProp 𝕄)
    = StableHlo.held (d.tc : Thread nD τ) (Pipeline.ucRefs τ sig) (fun b => m (d, b)) := Pipeline.unscopedBufs_held d (fun b => m (d, b))

/-- @main on device `d`'s TensorCore: the operations before the call, the call, the operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held, main_eq]
  iintro ⟨#Hctx, Hst, ⟨Hb, Hheld, Hts, -⟩, -⟩
  iapply (StableHlo.wp_seq 𝒱 none Set.univ d (Pipeline.ucRefs τ sig) _ opsBefore before_sub before_fresh (fun b => m (d, b))) $$ [Hb Hheld]
  · isplitl [Hb]; · iexact Hb
    iexact Hheld
  rw [show (StableHlo.after opsBefore fun b => m (d, b)) = V1 m d from rfl]
  iintro ⟨Hb, Hheld⟩
  ihave Hheld := (Entails.of_eq (held_call (F := F) d (V1 m d))) $$ Hheld
  icases Hheld with ⟨Hbufs, Hrest⟩
  rw [wp_bind]
  iapply ((K (F := F)).wp_run (D (F := F)) 𝒱 (EH := EH) (P := P m) κ d 0) $$ [Hst Hbufs Hb Hrest Hts]
  isplitr; · iexact Hctx
  isplitl [Hst]; · iexact Hst
  isplitl [Hbufs]; · rw [st0_eq]; iexact Hbufs
  iintro ⟨Hst, Hdn⟩
  ihave Hdn := (Entails.of_eq (dn0_eq m d)) $$ Hdn
  ihave Hheld := (Entails.of_eq (held_V2 m d).symm) $$ [Hdn Hrest]
  · isplitl [Hdn]; · iexact Hdn
    iexact Hrest
  iapply (StableHlo.wp_seq 𝒱 none Set.univ d (Pipeline.ucRefs τ sig) _ opsAfter after_sub after_fresh (V2 m d)) $$ [Hb Hheld]
  · isplitl [Hb]; · iexact Hb
    iexact Hheld
  rw [show StableHlo.after opsAfter (V2 m d) = V3 m d from rfl]
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) :=
  held_read (thr := (d.tc : Thread nD τ)) (Pipeline.ucRefs τ sig) (V3 m d) s'

/-! ## The run -/

/-- The result's value, from the two arguments. -/
def result (d : Dev nD) : S32x20x10x64.Idx → Elt F .f32 :=
  shapeCast S32x20x10x64 (extractStridedSlice S6400x64 ![0, 0]
    (gathered (F := F) (z := 100000) (L := 128) (O := 6400) (e := .f32) (by decide)
      (shapeCast S6400 (m ((d.tc : Thread nD τ).loc main_arg1)) shapeCasts_S32x20x1x10_S6400)
      (pad S100000x128 ![0, 0] ![0, 64] ![0, 0] (m ((d.tc : Thread nD τ).loc main_arg0)) (sitofp (F := F) .f32 (constantI S_ 32 0#32))
        pads_S100000x64_S100000x128_000_0640 h_S_)) slices_S6400x128_S6400x64_0_0) shapeCasts_S6400x64_S32x20x10x64

theorem V1_t (d : Dev nD) : V1 m d t' = pad S100000x128 ![0, 0] ![0, 64] ![0, 0] (m ((d.tc : Thread nD τ).loc main_arg0)) (sitofp (F := F) .f32 (constantI S_ 32 0#32))
        pads_S100000x64_S100000x128_000_0640 h_S_ := by
  delta V1 opsBefore
  after_results_simp
  rfl

theorem V3_result (d : Dev nD) : V3 m d (Proc.devRef .tc main_v4) = result m d := by
  delta V3 opsAfter
  after_results_simp
  delta V2
  rw [Function.update_self, V1_i, V1_t]
  rfl

theorem V3_arg0 (d : Dev nD) : V3 m d (Proc.devRef .tc main_arg0) = m ((d.tc : Thread nD τ).loc main_arg0) := by
  delta V3 opsAfter
  after_results_simp
  delta V2
  rw [Function.update_of_ne (show Proc.devRef .tc main_arg0 ≠ o' by decide)]
  delta V1 opsBefore
  after_results_simp

theorem V3_arg1 (d : Dev nD) : V3 m d (Proc.devRef .tc main_arg1) = m ((d.tc : Thread nD τ).loc main_arg1) := by
  delta V3 opsAfter
  after_results_simp
  delta V2
  rw [Function.update_of_ne (show Proc.devRef .tc main_arg1 ≠ o' by decide)]
  delta V1 opsBefore
  after_results_simp

/-- Every device ends with the result at its value and the arguments unchanged; every semaphore ends at zero. -/
def QC : PUnit × MemSt nD τ sig (Elt F) → Prop := fun r => (∀ c : Dev nD, r.2.mem ((c.tc : Thread nD τ).loc main_v4) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

theorem mem_v4 : (Proc.devRef .tc main_v4 : DevRef τ sig) ∈ Pipeline.ucRefs τ sig := by decide
theorem mem_arg0 : (Proc.devRef .tc main_arg0 : DevRef τ sig) ∈ Pipeline.ucRefs τ sig := by decide
theorem mem_arg1 : (Proc.devRef .tc main_arg1 : DevRef τ sig) ∈ Pipeline.ucRefs τ sig := by decide

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨(h c (Proc.devRef .tc main_v4) mem_v4).trans (V3_result m c), (h c (Proc.devRef .tc main_arg0) mem_arg0).trans (V3_arg0 m c),
      (h c (Proc.devRef .tc main_arg1) mem_arg1).trans (V3_arg1 m c)⟩, hz⟩)

end Main

end Cert.Proof.Gather

end
-- ==== Proof.Take.lean ====
/-
  What the kernel's run and the reference's run each end with, read at an index: the table's row that the
  selected index names, at the same column. The kernel's side reads the padded table through the gathered
  rows; the reference's side is a host gather, which wraps negative indices, checks the range and fills
  what lies outside it: with every index a row of the table, none of the three changes anything.
-/
module

public import proofs.«01_k».proof.Defs
public import proofs.«01_k».proof.Proof.GatherRun
public import proofs.«01_k».proof.Proof.Gen.ReferenceIdeal
public import Idealize.ShloMosaic.Lib.ValueIdxCore
public import Idealize.ShloMosaic.Lib.ReduceAll
public import Idealize.ShloMosaic.Lib.KernelVsHost
public import Idealize.ShloMosaic.Lib.Pipeline.Value

@[expose] public section

noncomputable section

namespace Cert.Proof.Take

open Idealize.ShloMosaic Idealize.ShloMosaic.ValueIdx Idealize.SL.Sem
open Cert.Proof.Rows

variable {F : FTy → Type} [FloatOps F]

/-- The selected index that result index `j` reads. -/
abbrev selIdx (j : Cert.Kernel.S32x20x10x64.Idx) : Cert.Kernel.S32x20x1x10.Idx := ix4 (j 0) (j 1) (0 : Fin 1) (j 2)

/-- The table's rows at the selected indices. -/
def picked (T : Cert.Kernel.S100000x64.Idx → Elt F .f32) (I : Cert.Kernel.S32x20x1x10.Idx → BitVec 32) :
    Cert.Kernel.S32x20x10x64.Idx → Elt F .f32 :=
  fun j => T (ix2 ⟨(I (selIdx j)).toNat % 100000, Nat.mod_lt _ (by decide)⟩ (⟨(j 3).val, (j 3).isLt⟩ : Fin 64))

/-! ## The kernel's side -/

section Kernel

open Cert.Kernel Cert.Kernel.Gen

/-- The row of the flat list of 6400 that result index `j` reads. -/
def flatRow (j : S32x20x10x64.Idx) : Fin 6400 :=
  ⟨((j 0).val * 20 + (j 1).val) * 10 + (j 2).val, by
    have h0 : (j 0).val < 32 := (j 0).isLt
    have h1 : (j 1).val < 20 := (j 1).isLt
    have h2 : (j 2).val < 10 := (j 2).isLt
    omega⟩

theorem flat_apply (I : S32x20x1x10.Idx → BitVec 32) (j : S32x20x10x64.Idx) :
    shapeCast S6400 I shapeCasts_S32x20x1x10_S6400 (ix1 (flatRow j)) = I (selIdx j) :=
  shapeCast_apply I _ _ _ (by
    rw [Shape.rowMajor_val_four, Shape.rowMajor_val_one]
    show (((j 0).val * 20 + (j 1).val) * 1 + 0) * 10 + (j 2).val = ((j 0).val * 20 + (j 1).val) * 10 + (j 2).val
    omega)

/-- A column of the result, as a column of the padded table. -/
abbrev wideCol (j : S32x20x10x64.Idx) : Fin 128 := ⟨(j 3).val, Nat.lt_trans (show (j 3).val < 64 from (j 3).isLt) (by decide)⟩
abbrev col (j : S32x20x10x64.Idx) : Fin 64 := ⟨(j 3).val, (j 3).isLt⟩

theorem wide_apply (T : S100000x64.Idx → Elt F .f32) (v : S_.Idx → Elt F .f32) (r : Fin 100000) (j : S32x20x10x64.Idx) :
    pad S100000x128 ![0, 0] ![0, 64] ![0, 0] T v pads_S100000x64_S100000x128_000_0640 h_S_ (ix2 r (wideCol j)) = T (ix2 r (col j)) :=
  pad_apply_of_inside _ _ _ _ _ _ _ _ _ (fun a => match a with
    | ⟨0, _⟩ => show r.val = 0 + r.val * (0 + 1) by omega
    | ⟨1, _⟩ => show (j 3).val = 0 + (j 3).val * (0 + 1) by omega)

theorem result_eq (m : (ℓ : Loc nD τ sig) → Buf (Elt F) ℓ) (d : Dev nD) :
    Gather.result m d = picked (F := F) (m ((d.tc : Thread nD τ).loc main_arg0)) (m ((d.tc : Thread nD τ).loc main_arg1)) := by
  funext j
  refine (shapeCast_apply _ shapeCasts_S6400x64_S32x20x10x64 j (ix2 (flatRow j) (col j)) ?_).trans ?_
  · rw [Shape.rowMajor_val_four, Shape.rowMajor_val_two]; rfl
  refine (extractStridedSlice_apply _ _ slices_S6400x128_S6400x64_0_0 _ (ix2 (flatRow j) (wideCol j)) fun a => ?_).trans ?_
  · match a with
    | ⟨0, _⟩ => exact (Nat.zero_add _).symm
    | ⟨1, _⟩ => exact (Nat.zero_add _).symm
  refine (wide_apply _ _ _ j).trans ?_
  unfold picked
  exact congrArg (fun v : BitVec 32 => (m ((d.tc : Thread nD τ).loc main_arg0) : S100000x64.Idx → Elt F .f32)
    (ix2 ⟨v.toNat % 100000, Nat.mod_lt _ (by decide)⟩ (col j))) (flat_apply _ j)

end Kernel

/-! ## The reference's side -/

section Reference

open Cert.ReferenceIdeal Cert.ReferenceIdeal.Gen

/-- The list index of a gathered element. -/
abbrev startIdx (y : S32x20x1x10x64.Idx) : S32x20x1x10x1.Idx :=
  fun a => match a with
    | ⟨0, _⟩ => ⟨(y 0).val, (y 0).isLt⟩ | ⟨1, _⟩ => ⟨(y 1).val, (y 1).isLt⟩ | ⟨2, _⟩ => ⟨(y 2).val, (y 2).isLt⟩
    | ⟨3, _⟩ => ⟨(y 3).val, (y 3).isLt⟩ | ⟨4, _⟩ => ⟨0, Nat.one_pos⟩

/-- The host gather of rows, at an index: the named row, clamped into the table, at the same column. -/
theorem gather_apply (T : S100000x64.Idx → Elt F .f32) (I : IVec S32x20x1x10x1 32) (y : S32x20x1x10x64.Idx) :
    Host.gather gather_S100000x64_S32x20x1x10x1_S32x20x1x10x64_4_0_n_n_0_4_164 T I y
      = T (ix2 ⟨min (I (startIdx y)).toInt.toNat 99999, by omega⟩ (⟨(y 4).val, (y 4).isLt⟩ : Fin 64)) := by
  unfold Host.gather
  congr 1
  funext a
  refine Fin.ext ?_
  show gather_S100000x64_S32x20x1x10x1_S32x20x1x10x64_4_0_n_n_0_4_164.start y I a
    + gather_S100000x64_S32x20x1x10x1_S32x20x1x10x64_4_0_n_n_0_4_164.batchCoord y a
    + gather_S100000x64_S32x20x1x10x1_S32x20x1x10x64_4_0_n_n_0_4_164.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x64_S32x20x1x10x1_S32x20x1x10x64_4_0_n_n_0_4_164.startIndexMap from List.mem_singleton.mpr rfl)]
    have hsi : gather_S100000x64_S32x20x1x10x1_S32x20x1x10x64_4_0_n_n_0_4_164.siIdx y
        ⟨List.idxOf (0 : Fin 2) gather_S100000x64_S32x20x1x10x1_S32x20x1x10x64_4_0_n_n_0_4_164.startIndexMap,
          List.idxOf_lt_length_iff.2 (List.mem_singleton.mpr rfl)⟩ = startIdx y := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  · unfold GatherDims.start
    rw [dif_neg (show ¬ (1 : Fin 2) ∈ gather_S100000x64_S32x20x1x10x1_S32x20x1x10x64_4_0_n_n_0_4_164.startIndexMap from
      fun h => absurd (List.mem_singleton.mp h) (by decide))]
    unfold GatherDims.offCoord
    rw [dif_pos (show (1 : Fin 2) ∈ gather_S100000x64_S32x20x1x10x1_S32x20x1x10x64_4_0_n_n_0_4_164.sKept from
      (GatherDims.mem_sKept _ _).mpr ⟨fun h => absurd (List.mem_singleton.mp h) (by decide), List.not_mem_nil⟩)]
    rw [Nat.zero_add]
    rfl

/-- A selected index in the table, through the wrap of negative indices. -/
theorem wrap_eq (v : BitVec 32) (hv : v.toNat < 100000) : Scalar.select (IntOp.cmpi .slt v 0#32) (v + 100000#32) v = v := by
  have h : ¬ v.toInt < 0 := by rw [BitVec.toInt_eq_toNat_cond]; split <;> omega
  rw [show IntOp.cmpi .slt v 0#32 = 0#1 by
    show BitVec.ofBool (decide (v.toInt < 0)) = 0#1
    rw [decide_eq_false h]; rfl]
  rfl

/-- It is inside the range that the gather's check asks for. -/
theorem range_eq (v : BitVec 32) (hv : v.toNat < 100000) : IntOp.andi (IntOp.cmpi .sge v 0#32) (IntOp.cmpi .sle v 99999#32) = 1#1 := by
  have h : v.toInt = v.toNat := by rw [BitVec.toInt_eq_toNat_cond]; split <;> omega
  show BitVec.ofBool (decide ((0 : ℤ) ≤ v.toInt)) &&& BitVec.ofBool (decide (v.toInt ≤ 99999)) = 1#1
  rw [h, decide_eq_true (by omega), decide_eq_true (by omega)]
  rfl

theorem row_eq (v : BitVec 32) (hv : v.toNat < 100000) : min v.toInt.toNat 99999 = v.toNat % 100000 := by
  have h : v.toInt = v.toNat := by rw [BitVec.toInt_eq_toNat_cond]; split <;> omega
  omega

/-- The indices, negative ones wrapped, as the gather's start indices. -/
def starts (I : S32x20x1x10.Idx → BitVec 32) : S32x20x1x10x1.Idx → BitVec 32 :=
  broadcastInDim S32x20x1x10x1 ![0, 1, 2, 3] bcast_S32x20x1x10_S32x20x1x10x1_0_1_2_3
    (select (cmpi .slt I (broadcastInDim S32x20x1x10 ![] bcast_S_S32x20x1x10 (constantI S_ 32 0#32)))
      (addi I (broadcastInDim S32x20x1x10 ![] bcast_S_S32x20x1x10 (constantI S_ 32 100000#32))) I)

/-- Where the start indices are inside the table. -/
def checked (I : S32x20x1x10.Idx → BitVec 32) : S32x20x1x10.Idx → BitVec 1 :=
  Host.reduce IntOp.andi
      (andi (cmpi .sge (starts I) (broadcastInDim S32x20x1x10x1 ![] bcast_S_S32x20x1x10x1 (constantI S_ 32 0#32)))
        (cmpi .sle (starts I) (broadcastInDim S32x20x1x10x1 ![0, 1, 2, 3, 4] bcast_S1x1x1x1x1_S32x20x1x10x1_0_1_2_3_4
          (broadcastInDim S1x1x1x1x1 ![4] bcast_S1_S1x1x1x1x1_4 (constantI S1 32 99999#32)))))
      (constantI S_ 1 1#1) reducesTo_S32x20x1x10x1_S32x20x1x10_d4 h_S_

/-- The term that the reference's run ends with. -/
def fetched (T : S100000x64.Idx → Elt F .f32) (I : S32x20x1x10.Idx → BitVec 32) : S32x20x10x64.Idx → Elt F .f32 :=
  shapeCast S32x20x10x64 (select (broadcastInDim S32x20x1x10x64 ![0, 1, 2, 3] bcast_S32x20x1x10_S32x20x1x10x64_0_1_2_3
      (checked I))
    (Host.gather gather_S100000x64_S32x20x1x10x1_S32x20x1x10x64_4_0_n_n_0_4_164 T (starts I))
    (broadcastInDim S32x20x1x10x64 ![] bcast_S_S32x20x1x10x64 (constant (F := F) S_ .f32 0x7FC00000#32)))
    shapeCasts_S32x20x1x10x64_S32x20x10x64

theorem pick_row (T : S100000x64.Idx → Elt F .f32) (u v : BitVec 32) (e : u = v) (hv : v.toNat < 100000)
    (h : min u.toInt.toNat 99999 < 100000) (c : Fin 64) :
    T (ix2 ⟨min u.toInt.toNat 99999, h⟩ c) = T (ix2 ⟨v.toNat % 100000, Nat.mod_lt _ (by decide)⟩ c) := by
  subst e
  congr 2
  exact Fin.ext (row_eq u hv)

variable (T : S100000x64.Idx → Elt F .f32) (I : S32x20x1x10.Idx → BitVec 32) (hI : ∀ j, (I j).toNat < 100000)

include hI in
/-- The start index of a list entry is the selected index there. -/
theorem starts_apply (i : S32x20x1x10x1.Idx) :
    starts I i = I (ix4 ⟨(i 0).val, (i 0).isLt⟩ ⟨(i 1).val, (i 1).isLt⟩ ⟨0, Nat.one_pos⟩ ⟨(i 3).val, (i 3).isLt⟩) := by
  refine Eq.trans (?_ : _ = Scalar.select (IntOp.cmpi .slt (I _) 0#32) (I _ + 100000#32) (I _)) (wrap_eq _ (hI _))
  unfold starts broadcastInDim select
  have e : (fun a : Fin 4 => if h1 : S32x20x1x10.size a = 1 then (⟨0, by omega⟩ : Fin (S32x20x1x10.size a))
      else ⟨(i ((![0, 1, 2, 3] : Fin 4 → Fin 5) a)).val, by
        rcases bcast_S32x20x1x10_S32x20x1x10x1_0_1_2_3.2 a with h2 | h2
        · exact absurd h2 h1
        · rw [h2]; exact (i _).isLt⟩)
      = (ix4 ⟨(i 0).val, (i 0).isLt⟩ ⟨(i 1).val, (i 1).isLt⟩ ⟨0, Nat.one_pos⟩ ⟨(i 3).val, (i 3).isLt⟩ : S32x20x1x10.Idx) := by
    funext a
    match a with
    | ⟨0, _⟩ => rfl
    | ⟨1, _⟩ => rfl
    | ⟨2, _⟩ => rfl
    | ⟨3, _⟩ => rfl
  exact congrArg (fun k => Scalar.select (IntOp.cmpi .slt (I k) 0#32) (I k + 100000#32) (I k)) e

include hI in
theorem checked_one (k : S32x20x1x10.Idx) : checked I k = 1#1 :=
  Host.reduce_andi_one _ _ _ _ k rfl fun i => range_eq (starts I i) (by rw [starts_apply I hI]; exact hI _)

include hI in
theorem fetched_eq : fetched (F := F) T I = picked (F := F) T I := by
  funext j
  refine (shapeCast_apply _ shapeCasts_S32x20x1x10x64_S32x20x10x64 j
    (ix5 ⟨(j 0).val, (j 0).isLt⟩ ⟨(j 1).val, (j 1).isLt⟩ (⟨0, Nat.one_pos⟩ : Fin 1) ⟨(j 2).val, (j 2).isLt⟩ ⟨(j 3).val, (j 3).isLt⟩) ?_).trans ?_
  · rw [Shape.rowMajor_val_four, Shape.rowMajor_val_five]
    show ((((j 0).val * 20 + (j 1).val) * 1 + 0) * 10 + (j 2).val) * 64 + (j 3).val
      = (((j 0).val * 20 + (j 1).val) * 10 + (j 2).val) * 64 + (j 3).val
    omega
  · show Scalar.select (checked I _) (Host.gather gather_S100000x64_S32x20x1x10x1_S32x20x1x10x64_4_0_n_n_0_4_164 T (starts I) _) _ = _
    rw [checked_one I hI, select_one, gather_apply]
    exact pick_row T (starts I _) (I (selIdx j)) (starts_apply I hI _) (hI _) _ _

end Reference

end Cert.Proof.Take

end
-- ==== Proof.BlockTile.lean ====
/-
  One tile of the gather of the selected blocks: as in the gather of the selected rows (Gather.lean), with twenty-five steps of
  eighty rows on each of the thirty-two tiles, over a table of 501760 rows.
-/
module

public import proofs.«01_k».proof.Defs
public import proofs.«01_k».proof.Proof.Chunk
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.Blocks
public import proofs.«01_k».proof.Proof.Gen.Blocks.Skeleton

@[expose] public section

noncomputable section

namespace Cert.Proof.Blocks

open Cert.Blocks Cert.Blocks.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunk Cert.Proof.Rows

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 ^ 1 := rfl
theorem nSub_zero : (K (F := F)).nSub 0 = 2 ^ 4 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev iLoc (d : Dev nD) : Loc nD τ sig := (SparseCore.T d).loc main_v7
abbrev tLoc (d : Dev nD) : Loc nD τ sig := (SparseCore.T d).loc main_v8
abbrev oLoc (d : Dev nD) : Loc nD τ sig := (SparseCore.T d).loc main_v9

local notation "iV" => (Memref.whole Cert.Blocks.main_v7_scv : Memref Cert.Blocks.sig Kind.scVector Space.hbm Cert.Blocks.S64000 EltTy.i32)
local notation "tV" => (Memref.whole Cert.Blocks.main_v8_scv : Memref Cert.Blocks.sig Kind.scVector Space.hbm Cert.Blocks.S501760x128 EltTy.f32)
local notation "oV" => (Memref.whole Cert.Blocks.main_v9_scv : Memref Cert.Blocks.sig Kind.scVector Space.hbm Cert.Blocks.S64000x128 EltTy.f32)
local notation "sV" => (Memref.whole Cert.Blocks.cc0_scratch0 : Memref Cert.Blocks.sig Kind.scVector Space.vmem Cert.Blocks.S80 EltTy.i32)
local notation "rV" => (Memref.whole Cert.Blocks.cc0_scratch1 : Memref Cert.Blocks.sig Kind.scVector Space.vmem Cert.Blocks.S80x128 EltTy.f32)

/-- The part of an output element: its row, by eighties. -/
abbrev key (d : Dev nD) : Idx (oLoc d) → ℕ := fun J => ((J : S64000x128.Idx) 0).val / 80
theorem key_lt (d : Dev nD) (J : Idx (oLoc d)) : key d J < 2 ^ 4 * 2 ^ 1 * 25 := by
  have h : ((J : S64000x128.Idx) 0).val < 64000 := ((J : S64000x128.Idx) 0).isLt
  show _ / 80 < _
  omega

/-- What the tiles leave: the rows the list names. -/
abbrev out (d : Dev nD) (fi : Buf (Elt F) (iLoc d)) (ft : Buf (Elt F) (tLoc d)) : Buf (Elt F) (oLoc d) :=
  gathered (F := F) (z := 501760) (L := 128) (O := 64000) (e := .f32) (by decide) fi ft

/-! ## One tile -/

section Tile

variable [FloatOps F] (d : Dev nD) (L : grid0.Coords)

abbrev cV (L : grid0.Coords) : Fin τ.nSC := (L 0).castLE hcore0
abbrev jV (L : grid0.Coords) : Fin τ.nSub := (L 1).castLE hsub0

abbrev iRect (L : grid0.Coords) (r : Fin 25) : Rect S64000 := Rect.unit (s := S64000) (k0_off1 L (BitVec.ofNat 32 (80 * r.val))) S80.size (k0_off1_inb L r)
abbrev oRect (L : grid0.Coords) (r : Fin 25) : Rect S64000x128 := Rect.unit (s := S64000x128) (k0_off2 L (BitVec.ofNat 32 (80 * r.val))) S80x128.size (k0_off2_inb L r)
abbrev iK (L : grid0.Coords) (r : Fin 25) : Memref sig .scVector .hbm S80 .i32 := (iV).slice (iRect L r) (fun _ => rfl)
abbrev oK (L : grid0.Coords) (r : Fin 25) : Memref sig .scVector .hbm S80x128 .f32 := (oV).slice (oRect L r) (fun _ => rfl)
abbrev tK : Memref sig .scVector .hbm S501760x128 .f32 := (tV).slice (Rect.unit (s := S501760x128) ![0, 0] S501760x128.size inb_S501760x128_S501760x128_0_0) (fun _ => rfl)

/-- The two semaphores of step `r`. -/
abbrev semA (r : Fin 25) : DmaSem sig := ⟨1 + 2 * r.val, by show _ < 51; omega⟩
abbrev semC (r : Fin 25) : DmaSem sig := ⟨2 + 2 * r.val, by show _ < 51; omega⟩

abbrev stepK (d : Dev nD) (L : grid0.Coords) (r : Fin 25) : Prog (TpuEff nD τ sig (Elt F) Λ₀ (V d (cV L) (jV L)).2) PUnit :=
  step (V d (cV L) (jV L)) (iK L r) tK (oK L r) sV rV gathers_S501760x128_S80x128 rfl (semA r) cc0_scratch2.sem (semC r) rfl (by decide)
    (View.wordExact_bits rfl) (Memref.isWhole_whole _).wordExact (View.wordExact_bits rfl) (Memref.isWhole_whole _).wordExact (View.wordExact_bits rfl)
    ⟨Or.inl rfl, trivial⟩ ⟨Or.inl rfl, trivial⟩

set_option maxRecDepth 65536 in
set_option maxHeartbeats 4000000 in
theorem kernel_eq : (cc0_k (F := F) L tV (Memref.isWhole_whole _) iV (Memref.isWhole_whole _) oV (Memref.isWhole_whole _)
      sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9
      cc0_scoped10 cc0_scoped11 cc0_scoped12 cc0_scoped13 cc0_scoped14 cc0_scoped15 cc0_scoped16 cc0_scoped17 cc0_scoped18 cc0_scoped19
      cc0_scoped20 cc0_scoped21 cc0_scoped22 cc0_scoped23 cc0_scoped24 cc0_scoped25 cc0_scoped26 cc0_scoped27 cc0_scoped28 cc0_scoped29
      cc0_scoped30 cc0_scoped31 cc0_scoped32 cc0_scoped33 cc0_scoped34 cc0_scoped35 cc0_scoped36 cc0_scoped37 cc0_scoped38 cc0_scoped39
      cc0_scoped40 cc0_scoped41 cc0_scoped42 cc0_scoped43 cc0_scoped44 cc0_scoped45 cc0_scoped46 cc0_scoped47 cc0_scoped48 cc0_scoped49)
    = seq (p := (V d (cV L) (jV L)).2) 25 (stepK d L) := rfl

/-! ### Its parts of the output, its semaphores and its scratch -/

omit [FloatOps F] in
theorem off1_eq : ∀ (L : grid0.Coords) (r : Fin 25), k0_off1 L (BitVec.ofNat 32 (80 * r.val)) 0 = num 2 25 (L 0).val (L 1).val r.val * 80 := by decide +kernel
omit [FloatOps F] in
theorem off2_eq : ∀ (L : grid0.Coords) (r : Fin 25), k0_off2 L (BitVec.ofNat 32 (80 * r.val)) 0 = num 2 25 (L 0).val (L 1).val r.val * 80 := by decide +kernel

omit [FloatOps F] in
theorem set_oK (r : Fin 25) : (oK L r).view.set = part (key d) (num 2 25 (L 0).val (L 1).val r.val) := by
  show ((View.whole (main_v9_scv : Ref sig .scVector)).slice (oRect L r)).set = _
  rw [View.set_slice_whole]
  ext J
  rw [mem_part, Rect.mem_set_unit]
  have h0 := off2_eq L r
  have h1 : ((J : S64000x128.Idx) 1).val < 128 := ((J : S64000x128.Idx) 1).isLt
  constructor
  · intro h
    have h := h 0
    rw [h0] at h
    have hs : S80x128.size 0 = 80 := rfl
    show ((J : S64000x128.Idx) 0).val / 80 = _
    omega
  · intro h a
    have h : ((J : S64000x128.Idx) 0).val / 80 = _ := h
    match a with
    | 0 =>
      have hs : S80x128.size 0 = 80 := rfl
      rw [h0, hs]
      omega
    | 1 => exact ⟨Nat.zero_le _, by show _ < 0 + 128; omega⟩

omit [FloatOps F] in
theorem pts_oK (r : Fin 25) (f : Buf (Elt F) (oLoc d)) :
    ((oK L r).view.loc (V d (cV L) (jV L)) ↦[(oK L r).view.set]{fullShare} f : sProp 𝕄)
      = oLoc d ↦[part (key d) (num 2 25 (L 0).val (L 1).val r.val)]{fullShare} f := by
  rw [set_oK d]

omit [FloatOps F] in
theorem sems_V : ∃ rest : sProp 𝕄, (ownSems0 (V d (cV L) (jV L)) : sProp 𝕄)
    = iprop((semVal (V d (cV L) (jV L), SemLoc.dma cc0_scratch2.sem) 0
        ∗ (bigSep Finset.univ fun r => semVal (V d (cV L) (jV L), SemLoc.dma (semA r)) 0)
        ∗ bigSep Finset.univ fun r => semVal (V d (cV L) (jV L), SemLoc.dma (semC r)) 0) ∗ rest) :=
  sems_eq _ _ semA semC (by decide) fun s => mem_ownCells.mpr ⟨rfl, by
    revert s; show ∀ s : DmaSem sig, (SemLoc.dma s : SemLoc sig).isScoped .scVector = true; decide⟩

omit [FloatOps F] in
/-- The two scratch buffers are among the tile's own: they are them, at some contents, and the rest. -/
theorem bufs_V : ∃ rest : sProp 𝕄, (ownBufs (V d (cV L) (jV L)) : sProp 𝕄)
    = iprop((∃ f, (V d (cV L) (jV L)).loc cc0_scratch0 ↦{fullShare} f) ∗ (∃ f, (V d (cV L) (jV L)).loc cc0_scratch1 ↦{fullShare} f) ∗ rest) := by
  unfold SparseCore.Cfg.ownBufs
  refine ⟨bigSep (((ownRefs (τ := τ) (.scVector (cV L) (jV L))).erase ((Proc.scVector (cV L) (jV L)).devRef cc0_scratch0)).erase
      ((Proc.scVector (cV L) (jV L)).devRef cc0_scratch1)) fun b => iprop(∃ f, ((d, b) : Loc nD τ sig) ↦{fullShare} f),
    (SparseCore.bigSep_erase' (SparseCore.Cfg.mem_ownRefs_of_owner (p := Proc.scVector (cV L) (jV L))
    (b := (Proc.scVector (cV L) (jV L)).devRef cc0_scratch0) rfl)).trans ?_⟩
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The tile's run -/

omit [FloatOps F] in
theorem hN : ∀ h : S501760x128.Gathers 0 S80x128, ∑ j, ((rV).slice (S80x128.rowRect h.axis' j) (S80x128.stride_rowRect h.axis' j)).view.dmaCredit
    = (rV).view.dmaCredit := by decide

omit [FloatOps F] in
theorem hin (fi : Buf (Elt F) (iLoc d)) (hi : ∀ j : S64000.Idx, (fi j : BitVec 32).toNat < 501760) (r : Fin 25) (x : S80.Idx) :
    ((iK L r).view.read (Elt F) fi x).toNat < S501760x128.size gathers_S501760x128_S80x128.axis := hi _

omit [FloatOps F] in
theorem read_tK (ft : Buf (Elt F) (tLoc d)) (y : S501760x128.Idx) : tK.view.read (Elt F) ft y = ft y := by
  rw [View.read_apply]
  refine (cast_eq _ _).trans (congrArg ft (funext fun a => Fin.ext ?_))
  show (![0, 0] : Fin 2 → ℕ) a + 1 * (y a).val = _
  match a with
  | 0 => show 0 + 1 * _ = _; omega
  | 1 => show 0 + 1 * _ = _; omega

omit [FloatOps F] in
/-- What step `r` gathers is its part of the gathered rows. -/
theorem out_eq (fi : Buf (Elt F) (iLoc d)) (ft : Buf (Elt F) (tLoc d)) (hi : ∀ j : S64000.Idx, (fi j : BitVec 32).toNat < 501760) (r : Fin 25) :
    (oK L r).view.read (Elt F) (out d fi ft)
      = SparseCore.gatherPayload gathers_S501760x128_S80x128 (tK.view.read (Elt F) ft)
          (SparseCore.rows ((iK L r).view.read (Elt F) fi) (rfl : S80.numel = S80x128.size gathers_S501760x128_S80x128.axis') (hin d L fi hi r)) := by
  funext x
  rw [View.read_apply]
  refine (cast_eq _ _).trans ?_
  exact payload_eq (F := F) (z := 501760) (L := 128) (O := 64000) (k := 80) (o := num 2 25 (L 0).val (L 1).val r.val * 80) (e := .f32) (by decide) fi ft
    gathers_S501760x128_S80x128 _ _ rfl (hin d L fi hi r) (fun x => (iK L r).view.emb x) (fun x => (oK L r).view.emb x)
    (fun x => (View.read_apply _ _).trans (cast_eq _ _))
    (read_tK d ft)
    (fun x => by show k0_off1 L (BitVec.ofNat 32 (80 * r.val)) 0 + 1 * (x 0).val = _; rw [off1_eq]; omega)
    (fun x => by show k0_off2 L (BitVec.ofNat 32 (80 * r.val)) 0 + 1 * (x 0).val = _; rw [off2_eq]; omega)
    (fun x => by show 0 + 1 * (x 1).val = _; omega) x

omit [FloatOps F] in
theorem hnum : 0 < S80.numel := by decide
omit [FloatOps F] in
theorem hnum' : 0 < S80x128.numel := by decide

/-- Step `r`, at the tile's own buffers. -/
theorem step_body (fi : Buf (Elt F) (iLoc d)) (ft : Buf (Elt F) (tLoc d)) (fo : Buf (Elt F) (oLoc d))
    (hi : ∀ j : S64000.Idx, (fi j : BitVec 32).toNat < 501760) (q : PosShare TreeShare) (O : CellTallies nD τ sig (HIx 1)) (W : Waits sig (HIx 1)) (r : Fin 25) :
    (iprop(shared (V d (cV L) (jV L)) (default : HIx 1) (iLoc d) (tLoc d) q q fi ft
        ((sV).view.loc (V d (cV L) (jV L))) ((rV).view.loc (V d (cV L) (jV L))) (sV).view.set (rV).view.set cc0_scratch2.sem O W
        ∗ ((oLoc d ↦[part (key d) (num 2 25 (L 0).val (L 1).val r.val)]{fullShare} fo)
          ∗ semVal (V d (cV L) (jV L), SemLoc.dma (semA r)) 0 ∗ semVal (V d (cV L) (jV L), SemLoc.dma (semC r)) 0)) : sProp 𝕄)
      ⊢ wp (M := 𝕄) frame (wpE (defs₀ (F := F)) 𝒱₀ (V d (cV L) (jV L)) none) Set.univ (stepK d L r) fun _ =>
        iprop(shared (V d (cV L) (jV L)) (default : HIx 1) (iLoc d) (tLoc d) q q fi ft
        ((sV).view.loc (V d (cV L) (jV L))) ((rV).view.loc (V d (cV L) (jV L))) (sV).view.set (rV).view.set cc0_scratch2.sem O W
        ∗ ((oLoc d ↦[part (key d) (num 2 25 (L 0).val (L 1).val r.val)]{fullShare} out d fi ft)
          ∗ semVal (V d (cV L) (jV L), SemLoc.dma (semA r)) 0 ∗ semVal (V d (cV L) (jV L), SemLoc.dma (semC r)) 0)) := by
  rw [← pts_oK d L r, ← pts_oK d L r]
  exact wp_step (si := S80) (s₀ := S501760x128) (s := S80x128) countersEmb 𝒱₀ (V d (cV L) (jV L)) none (lst := iK L r) (tab := tK) (out := oK L r) (lv := sV) (rv := rV)
    (hg := gathers_S501760x128_S80x128) (hn := rfl) (sA := semA r) (sB := cc0_scratch2.sem) (sC := semC r) (default : HIx 1) hnum hnum' (hN _) (hin d L fi hi r) fo (out d fi ft) (out_eq d L fi ft hi r)

set_option maxRecDepth 65536 in
/-- Tile `L` gathers its part of the list's rows: it ends with the list and the table as they were and its parts of the output at
    the rows the list names. -/
theorem tile_body (hF : (K (F := F)).Facts) (fi : Buf (Elt F) (iLoc d)) (ft : Buf (Elt F) (tLoc d)) (fo : Buf (Elt F) (oLoc d))
    (hi : ∀ j : S64000.Idx, (fi j : BitVec 32).toNat < 501760)
    (c : Fin ((K (F := F)).nCore 0)) (i : Fin ((K (F := F)).nSub 0)) (hc : c.val = (L 0).val) (hs : i.val = (L 1).val)
    (O : CellTallies nD τ sig (HIx 1)) (W : Waits sig (HIx 1)) (hO : ∀ g, O g none = 0) :
    (iprop(levAts (K (F := F)).L (K (F := F)).lev ∗ emp
        ∗ tile nCore_zero nSub_zero 25 (key d) fi ft fo c i
        ∗ scopedBufs (V d (cV L) (jV L)) ∗ scopedSems0 (V d (cV L) (jV L)) ∗ owes (V d (cV L) (jV L)) O W) : sProp 𝕄)
      ⊢ wp (M := 𝕄) frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19
            cc0_scoped20 cc0_scoped21 cc0_scoped22 cc0_scoped23 cc0_scoped24 cc0_scoped25 cc0_scoped26 cc0_scoped27 cc0_scoped28 cc0_scoped29
            cc0_scoped30 cc0_scoped31 cc0_scoped32 cc0_scoped33 cc0_scoped34 cc0_scoped35 cc0_scoped36 cc0_scoped37 cc0_scoped38 cc0_scoped39
            cc0_scoped40 cc0_scoped41 cc0_scoped42 cc0_scoped43 cc0_scoped44 cc0_scoped45 cc0_scoped46 cc0_scoped47 cc0_scoped48 cc0_scoped49)
          fun _ => iprop(tile nCore_zero nSub_zero 25 (key d) fi ft (out d fi ft) c i
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [kernel_eq d L, (K (F := F)).scopedBufs_V hF d (cV L) (jV L), SparseCore.Cfg.scopedSems0_V (Val := Elt F) d (cV L) (jV L)]
  obtain ⟨srest, hsem⟩ := sems_V (F := F) d L
  obtain ⟨brest, hbuf⟩ := bufs_V (F := F) d L
  rw [hsem, hbuf, tile, tile, hc, hs]
  have hss : (sV).view.set = Finset.univ := View.set_whole _
  have hrs : (rV).view.set = Finset.univ := View.set_whole _
  have hall := wp_seq (defs := defs₀ (F := F)) 𝒱₀ (c := V d (cV L) (jV L)) (bd := none) 25 _ _ _ (step_body d L fi ft fo hi (tileShare nCore_zero nSub_zero c i) O W)
  rw [bigSep_sep', bigSep_sep', bigSep_sep', bigSep_sep'] at hall
  iintro ⟨#Hlv, -, ⟨Hi, Ht, Ho⟩, ⟨⟨%f₁, Hs⟩, ⟨%f₂, Hr⟩, Hbufs⟩, ⟨⟨HB, HA, HC⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (V d (cV L) (jV L)) none) Set.univ) $$ [Hi Ht Ho Hs Hr HB HA HC HO Hmw]
  · iapply hall
    isplitr [Ho HA HC]
    · isplitl [Hi]; · iexact Hi
      isplitl [Ht]; · iexact Ht
      isplitl [Hs]; · iexists f₁; rw [hss]; iexact Hs
      isplitl [Hr]; · iexists f₂; rw [hrs]; iexact Hr
      isplitl [HB]; · iexact HB
      isplitl [Hmw]; · iexact Hmw
      iexists W; isplitr; · ipureintro; exact fun p hp => .inl hp
      iexact HO
    isplitl [Ho]; · iexact Ho
    isplitl [HA]; · iexact HA
    iexact HC
  iintro %u ⟨⟨Hi, Ht, ⟨%g₁, Hs⟩, ⟨%g₂, Hr⟩, HB, -, HO⟩, Ho, HA, HC⟩
  isplitl [Hi Ht Ho]
  · isplitl [Hi]; · iexact Hi
    isplitl [Ht]; · iexact Ht
    iexact Ho
  isplitl [Hs Hr Hbufs]
  · isplitl [Hs]; · iexists g₁; rw [hss]; iexact Hs
    isplitl [Hr]; · iexists g₂; rw [hrs]; iexact Hr
    iexact Hbufs
  isplitl [HA HB HC Hsems]
  · isplitr [Hsems]
    · isplitl [HB]; · iexact HB
      isplitl [HA]; · iexact HA
      iexact HC
    iexact Hsems
  iexact HO

end Tile

end Cert.Proof.Blocks

end
-- ==== Proof.BlockRun.lean ====
/-
  The gather of the selected blocks, run: @main adds to every selected block the blocks of the rows before it, flattens the list
  and splits the argument into one table of blocks; the tiles gather (BlockTile.lean); @main puts each row's blocks side by side.
  Every execution ends with the two arguments unchanged, every semaphore at zero, and the result at the composed value.
-/
module

public import proofs.«01_k».proof.Defs
public import proofs.«01_k».proof.Proof.BlockTile
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import Idealize.ShloMosaic.Lib.ValueIdxCore
public import Idealize.ShloMosaic.Lib.Pipeline.Value
public import proofs.«01_k».proof.Proof.Gen.Blocks
public import proofs.«01_k».proof.Proof.Gen.Blocks.Skeleton

@[expose] public section

noncomputable section

namespace Cert.Proof.Blocks

open Cert.Blocks Cert.Blocks.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunk Cert.Proof.Rows

variable {F : FTy → Type}

local notation "𝕄" => MT nD τ sig (HIx 1) (Elt F) ℕ UU ℕ
local notation "iV" => (Memref.whole Cert.Blocks.main_v7_scv : Memref Cert.Blocks.sig Kind.scVector Space.hbm Cert.Blocks.S64000 EltTy.i32)
local notation "tV" => (Memref.whole Cert.Blocks.main_v8_scv : Memref Cert.Blocks.sig Kind.scVector Space.hbm Cert.Blocks.S501760x128 EltTy.f32)
local notation "oV" => (Memref.whole Cert.Blocks.main_v9_scv : Memref Cert.Blocks.sig Kind.scVector Space.hbm Cert.Blocks.S64000x128 EltTy.f32)
local notation "sV" => (Memref.whole Cert.Blocks.cc0_scratch0 : Memref Cert.Blocks.sig Kind.scVector Space.vmem Cert.Blocks.S80 EltTy.i32)
local notation "rV" => (Memref.whole Cert.Blocks.cc0_scratch1 : Memref Cert.Blocks.sig Kind.scVector Space.vmem Cert.Blocks.S80x128 EltTy.f32)

/-! ## @main's host operations -/

section Main

variable [FloatOps F]

/-- Before the call: the selected block of each row, as a row of the table of all blocks; the list flattened; the table. -/
def opsBefore : List (HloOp τ sig (Elt F)) :=
  [StableHlo.unary main_arg1 main_v0 ((extractStridedSlice S640x100 ![0, 0] · slices_S640x128_S640x100_0_0) :
      (⟨S640x128, .i32⟩ : BufTy).Contents (Elt F) → (⟨S640x100, .i32⟩ : BufTy).Contents (Elt F)),
    StableHlo.nullary main_v1 (iotaInDim S640 32 0),
    StableHlo.unary main_v1 main_v2 (broadcastInDim S640x1 ![0] bcast_S640_S640x1_0 :
      (⟨S640, .i32⟩ : BufTy).Contents (Elt F) → (⟨S640x1, .i32⟩ : BufTy).Contents (Elt F)),
    StableHlo.nullary main_c (constantI S_ 32 784#32),
    StableHlo.unary main_c main_v3 (broadcastInDim S640x1 ![] bcast_S_S640x1 :
      (⟨S_, .i32⟩ : BufTy).Contents (Elt F) → (⟨S640x1, .i32⟩ : BufTy).Contents (Elt F)),
    StableHlo.binary main_v3 main_v2 main_v4 (muli :
      (⟨S640x1, .i32⟩ : BufTy).Contents (Elt F) → (⟨S640x1, .i32⟩ : BufTy).Contents (Elt F) → (⟨S640x1, .i32⟩ : BufTy).Contents (Elt F)),
    StableHlo.unary main_v4 main_v5 (broadcastInDim S640x100 ![0, 1] bcast_S640x1_S640x100_0_1 :
      (⟨S640x1, .i32⟩ : BufTy).Contents (Elt F) → (⟨S640x100, .i32⟩ : BufTy).Contents (Elt F)),
    StableHlo.binary main_v0 main_v5 main_v6 (addi :
      (⟨S640x100, .i32⟩ : BufTy).Contents (Elt F) → (⟨S640x100, .i32⟩ : BufTy).Contents (Elt F) → (⟨S640x100, .i32⟩ : BufTy).Contents (Elt F)),
    StableHlo.reshape main_v6 main_v7 (rfl : (.i32 : EltTy) = .i32) shapeCasts_S640x100_S64000,
    StableHlo.reshape main_arg0 main_v8 (rfl : (.f32 : EltTy) = .f32) shapeCasts_S640x100352_S501760x128]

/-- After it: each row's blocks side by side. -/
def opsAfter : List (HloOp τ sig (Elt F)) :=
  [StableHlo.reshape main_v9 main_v10 (rfl : (.f32 : EltTy) = .f32) shapeCasts_S64000x128_S640x12800]

theorem main_eq (d : Dev nD) : main (F := F) d
    = StableHlo.seq opsBefore >>= fun _ => (K (F := F)).run d 0 >>= fun _ => StableHlo.seq opsAfter >>= fun _ => pure ⟨⟩ := rfl

theorem before_sub : ∀ op ∈ opsBefore (F := F), op.bufs ⊆ Pipeline.ucRefs τ sig :=
  List.forall_iff_forall_mem.mp
    ⟨Pipeline.sub_ucRefs _ (show ({Proc.devRef .tc main_arg1, Proc.devRef .tc main_v0} : Finset (DevRef τ sig)) ⊆ StableHlo.tcRefs τ sig by decide),
      Pipeline.sub_ucRefs _ (show ({Proc.devRef .tc main_v1} : Finset (DevRef τ sig)) ⊆ StableHlo.tcRefs τ sig by decide),
      Pipeline.sub_ucRefs _ (show ({Proc.devRef .tc main_v1, Proc.devRef .tc main_v2} : Finset (DevRef τ sig)) ⊆ StableHlo.tcRefs τ sig by decide),
      Pipeline.sub_ucRefs _ (show ({Proc.devRef .tc main_c} : Finset (DevRef τ sig)) ⊆ StableHlo.tcRefs τ sig by decide),
      Pipeline.sub_ucRefs _ (show ({Proc.devRef .tc main_c, Proc.devRef .tc main_v3} : Finset (DevRef τ sig)) ⊆ StableHlo.tcRefs τ sig by decide),
      Pipeline.sub_ucRefs _ (show ({Proc.devRef .tc main_v3, Proc.devRef .tc main_v2, Proc.devRef .tc main_v4} : Finset (DevRef τ sig)) ⊆ StableHlo.tcRefs τ sig by decide),
      Pipeline.sub_ucRefs _ (show ({Proc.devRef .tc main_v4, Proc.devRef .tc main_v5} : Finset (DevRef τ sig)) ⊆ StableHlo.tcRefs τ sig by decide),
      Pipeline.sub_ucRefs _ (show ({Proc.devRef .tc main_v0, Proc.devRef .tc main_v5, Proc.devRef .tc main_v6} : Finset (DevRef τ sig)) ⊆ StableHlo.tcRefs τ sig by decide),
      Pipeline.sub_ucRefs _ (show ({Proc.devRef .tc main_v6, Proc.devRef .tc main_v7} : Finset (DevRef τ sig)) ⊆ StableHlo.tcRefs τ sig by decide),
      Pipeline.sub_ucRefs _ (show ({Proc.devRef .tc main_arg0, Proc.devRef .tc main_v8} : Finset (DevRef τ sig)) ⊆ StableHlo.tcRefs τ sig by decide)⟩
theorem before_fresh : ∀ op ∈ opsBefore (F := F), op.fresh = ∅ := List.forall_iff_forall_mem.mp ⟨rfl, rfl, rfl, rfl, rfl, rfl, rfl, rfl, rfl, rfl⟩
theorem after_sub : ∀ op ∈ opsAfter (F := F), op.bufs ⊆ Pipeline.ucRefs τ sig :=
  List.forall_mem_singleton.mpr
    (Pipeline.sub_ucRefs _ (show ({Proc.devRef .tc main_v9, Proc.devRef .tc main_v10} : Finset (DevRef τ sig)) ⊆ StableHlo.tcRefs τ sig by decide))
theorem after_fresh : ∀ op ∈ opsAfter (F := F), op.fresh = ∅ := List.forall_mem_singleton.mpr rfl

variable (m : (ℓ : Loc nD τ sig) → Buf (Elt F) ℓ) (ρ : Dev nD → PrngReg)

abbrev i' : DevRef τ sig := Proc.devRef .tc main_v7
abbrev t' : DevRef τ sig := Proc.devRef .tc main_v8
abbrev o' : DevRef τ sig := Proc.devRef .tc main_v9

/-- The device's buffers before the call, after it, and at the end. -/
def V1 (d : Dev nD) : Valuation τ sig (Elt F) := StableHlo.after opsBefore fun b => m (d, b)
def V2 (d : Dev nD) : Valuation τ sig (Elt F) := Function.update (V1 m d) o' (out d (V1 m d i') (V1 m d t'))
def V3 (d : Dev nD) : Valuation τ sig (Elt F) := StableHlo.after opsAfter (V2 m d)

/-- The selected blocks as rows of the table of all blocks: 784 blocks before it for every row of the argument. -/
def rowsOf (B : S640x128.Idx → BitVec 32) : S640x100.Idx → BitVec 32 :=
  addi (extractStridedSlice S640x100 ![0, 0] B slices_S640x128_S640x100_0_0)
    (broadcastInDim S640x100 ![0, 1] bcast_S640x1_S640x100_0_1
      (muli (broadcastInDim S640x1 ![] bcast_S_S640x1 (constantI S_ 32 784#32)) (broadcastInDim S640x1 ![0] bcast_S640_S640x1_0 (iotaInDim S640 32 0))))

/-- The column of the selection that entry `y` of the list reads. -/
abbrev selAt (y : S640x100.Idx) : S640x128.Idx := ValueIdx.ix2 (y 0) (⟨(y 1).val, Nat.lt_trans (show (y 1).val < 100 from (y 1).isLt) (by decide)⟩ : Fin 128)

omit [FloatOps F] in
theorem rowsOf_apply (B : S640x128.Idx → BitVec 32) (y : S640x100.Idx) : rowsOf B y = B (selAt y) + 784#32 * BitVec.ofNat 32 (y 0).val := by
  have e : extractStridedSlice S640x100 ![0, 0] B slices_S640x128_S640x100_0_0 y = B (selAt y) :=
    extractStridedSlice_apply _ _ slices_S640x128_S640x100_0_0 _ _ fun a => match a with
      | ⟨0, _⟩ => (Nat.zero_add _).symm
      | ⟨1, _⟩ => (Nat.zero_add _).symm
  exact congrArg (· + 784#32 * BitVec.ofNat 32 (y 0).val) e

omit [FloatOps F] in
theorem rowsOf_toNat (B : S640x128.Idx → BitVec 32) (hB : ∀ y, (B (selAt y)).toNat < 784) (y : S640x100.Idx) :
    (rowsOf B y).toNat = (B (selAt y)).toNat + 784 * (y 0).val := by
  have h0 : (y 0).val < 640 := (y 0).isLt
  have h1 := hB y
  rw [rowsOf_apply, BitVec.toNat_add, BitVec.toNat_mul, BitVec.toNat_ofNat, BitVec.toNat_ofNat]
  omega

theorem V1_i (d : Dev nD) : V1 m d i' = shapeCast S64000 (rowsOf (m ((d.tc : Thread nD τ).loc main_arg1))) shapeCasts_S640x100_S64000 := by
  delta V1 opsBefore
  after_results_simp
  rfl

/-! ## What the handshakes carry -/

abbrev handed (d : Dev nD) (fo : Buf (Elt F) (oLoc d)) (c : Fin ((K (F := F)).nCore 0)) (i : Fin ((K (F := F)).nSub 0)) : sProp 𝕄 :=
  tile (ℓi := iLoc d) (ℓt := tLoc d) nCore_zero nSub_zero 25 (key d) (V1 m d i') (V1 m d t') fo c i

/-- Each core is handed its tiles' shares and parts and hands them back, the output's parts at the gathered rows. -/
def P : (K (F := F)).Pay (nD := nD) (Val := Elt F) (Name := ℕ) (U := UU) where
  st := fun q d c => match q with | 0 => bigSep Finset.univ fun i => handed m d (V1 m d o') c i
  dn := fun q d c => match q with | 0 => bigSep Finset.univ fun i => handed m d (out d (V1 m d i') (V1 m d t')) c i
  go := fun q d c i => match q with | 0 => handed m d (V1 m d o') c i
  td := fun q d c i => match q with | 0 => handed m d (out d (V1 m d i') (V1 m d t')) c i
  x := fun _ _ => iprop(emp)

instance P_storable : (P (F := F) m).IsStorable where
  st q d c := match q with
    | 0 => (inferInstance : BI.Storable (upEmb : UEmb _ 𝕄) (bigSep Finset.univ fun i => handed m d (V1 m d o') c i))
  dn q d c := match q with
    | 0 => (inferInstance : BI.Storable (upEmb : UEmb _ 𝕄) (bigSep Finset.univ fun i => handed m d (out d (V1 m d i') (V1 m d t')) c i))
  go q d c i := match q with
    | 0 => (inferInstance : BI.Storable (upEmb : UEmb _ 𝕄) (handed m d (V1 m d o') c i))
  td q d c i := match q with
    | 0 => (inferInstance : BI.Storable (upEmb : UEmb _ 𝕄) (handed m d (out d (V1 m d i') (V1 m d t')) c i))

/-- What the proof asks of the launch memory: every selected block is a block of its row. -/
def PreOK : Prop := ∀ (d : Dev nD) (y : S640x100.Idx), (m ((d.tc : Thread nD τ).loc main_arg1) (selAt y) : BitVec 32).toNat < 784

omit [FloatOps F] in
theorem rowsOf_lt (B : S640x128.Idx → BitVec 32) (hB : ∀ y, (B (selAt y)).toNat < 784) (y : S640x100.Idx) : (rowsOf B y).toNat < 501760 := by
  have h0 : (y 0).val < 640 := (y 0).isLt
  have h1 := hB y
  rw [rowsOf_toNat B hB]
  omega

theorem list_ok (hpre : PreOK m) (d : Dev nD) (j : S64000.Idx) : (V1 m d i' j : BitVec 32).toNat < 501760 := by
  rw [V1_i]; exact rowsOf_lt _ (hpre d) _

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9
          cc0_scoped10 cc0_scoped11 cc0_scoped12 cc0_scoped13 cc0_scoped14 cc0_scoped15 cc0_scoped16 cc0_scoped17 cc0_scoped18 cc0_scoped19
          cc0_scoped20 cc0_scoped21 cc0_scoped22 cc0_scoped23 cc0_scoped24 cc0_scoped25 cc0_scoped26 cc0_scoped27 cc0_scoped28 cc0_scoped29
          cc0_scoped30 cc0_scoped31 cc0_scoped32 cc0_scoped33 cc0_scoped34 cc0_scoped35 cc0_scoped36 cc0_scoped37 cc0_scoped38 cc0_scoped39
          cc0_scoped40 cc0_scoped41 cc0_scoped42 cc0_scoped43 cc0_scoped44 cc0_scoped45 cc0_scoped46 cc0_scoped47 cc0_scoped48 cc0_scoped49) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (V1 m d i') (V1 m d t') (V1 m d o') (list_ok m hpre d) c i rfl rfl O W hO).trans
    (wp_mono frame _ _ fun _ => obl_post)

theorem vecSplit : (K (F := F)).VecSplit' (P m) 0 := by
  intro d c
  show (bigSep Finset.univ fun i => handed m d (V1 m d o') c i) ⊢ |={Set.univ}=> iprop(
      (bigSep Finset.univ fun i => handed m d (V1 m d o') c i)
      ∗ ((bigSep Finset.univ fun i => handed m d (out d (V1 m d i') (V1 m d t')) c i)
          -∗ bigSep Finset.univ fun i => handed m d (out d (V1 m d i') (V1 m d t')) c i))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The call's three buffers out of the held ones. -/
theorem held_call (d : Dev nD) (W : Valuation τ sig (Elt F)) :
    (StableHlo.held (d.tc : Thread nD τ) (Pipeline.ucRefs τ sig) W : sProp 𝕄)
      = iprop(((iLoc d ↦{fullShare} W i') ∗ (tLoc d ↦{fullShare} W t') ∗ oLoc d ↦{fullShare} W o')
          ∗ StableHlo.held (d.tc : Thread nD τ) (Pipeline.ucRefs τ sig \ {i', t', o'}) W) := by
  rw [StableHlo.held_sub_split (d.tc : Thread nD τ) (T := {i', t', o'}) (by decide) W]
  congr 1
  unfold StableHlo.held
  rw [SparseCore.bigSep_insert' (by decide), SparseCore.bigSep_insert' (by decide), bigSep_singleton]

theorem st0_eq (d : Dev nD) : (bigSep Finset.univ fun c : Fin ((K (F := F)).nCore 0) => (P m).st 0 d c)
    = iprop((iLoc d ↦{fullShare} V1 m d i') ∗ (tLoc d ↦{fullShare} V1 m d t') ∗ oLoc d ↦{fullShare} V1 m d o') :=
  tiles_eq (ℓi := iLoc d) (ℓt := tLoc d) nCore_zero nSub_zero 25 (key d) (key_lt d) (V1 m d i') (V1 m d t') (V1 m d o')
theorem dn0_eq (d : Dev nD) : (bigSep Finset.univ fun c : Fin ((K (F := F)).nCore 0) => (P m).dn 0 d c)
    = iprop((iLoc d ↦{fullShare} V1 m d i') ∗ (tLoc d ↦{fullShare} V1 m d t') ∗ oLoc d ↦{fullShare} out d (V1 m d i') (V1 m d t')) :=
  tiles_eq (ℓi := iLoc d) (ℓt := tLoc d) nCore_zero nSub_zero 25 (key d) (key_lt d) (V1 m d i') (V1 m d t') (out d (V1 m d i') (V1 m d t'))

theorem held_V2 (d : Dev nD) :
    (StableHlo.held (d.tc : Thread nD τ) (Pipeline.ucRefs τ sig) (V2 m d) : sProp 𝕄)
      = iprop(((iLoc d ↦{fullShare} V1 m d i') ∗ (tLoc d ↦{fullShare} V1 m d t') ∗ oLoc d ↦{fullShare} out d (V1 m d i') (V1 m d t'))
          ∗ StableHlo.held (d.tc : Thread nD τ) (Pipeline.ucRefs τ sig \ {i', t', o'}) (V1 m d)) := by
  rw [held_call, StableHlo.held_congr (d.tc : Thread nD τ) (V := V2 m d) (V' := V1 m d) fun b hb =>
      Function.update_of_ne (fun e => (Finset.mem_sdiff.mp hb).2 (e ▸ (by decide : o' ∈ ({i', t', o'} : Finset (DevRef τ sig))))) _ _]
  delta V2
  rw [Function.update_self, Function.update_of_ne (show i' ≠ o' by decide), Function.update_of_ne (show t' ≠ o' by decide)]

abbrev FIN (d : Dev nD) : sProp 𝕄 := StableHlo.held (d.tc : Thread nD τ) (Pipeline.ucRefs τ sig) (V3 m d)

theorem start_held (d : Dev nD) : (unscopedBufs d (fun b => m ((SparseCore.T d).loc b)) : sProp 𝕄)
    = StableHlo.held (d.tc : Thread nD τ) (Pipeline.ucRefs τ sig) (fun b => m (d, b)) := Pipeline.unscopedBufs_held d (fun b => m (d, b))

/-- @main on device `d`'s TensorCore: the operations before the call, the call, the operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held, main_eq]
  iintro ⟨#Hctx, Hst, ⟨Hb, Hheld, Hts, -⟩, -⟩
  iapply (StableHlo.wp_seq 𝒱 none Set.univ d (Pipeline.ucRefs τ sig) _ opsBefore before_sub before_fresh (fun b => m (d, b))) $$ [Hb Hheld]
  · isplitl [Hb]; · iexact Hb
    iexact Hheld
  rw [show (StableHlo.after opsBefore fun b => m (d, b)) = V1 m d from rfl]
  iintro ⟨Hb, Hheld⟩
  ihave Hheld := (Entails.of_eq (held_call (F := F) d (V1 m d))) $$ Hheld
  icases Hheld with ⟨Hbufs, Hrest⟩
  rw [wp_bind]
  iapply ((K (F := F)).wp_run (D (F := F)) 𝒱 (EH := EH) (P := P m) κ d 0) $$ [Hst Hbufs Hb Hrest Hts]
  isplitr; · iexact Hctx
  isplitl [Hst]; · iexact Hst
  isplitl [Hbufs]; · rw [st0_eq]; iexact Hbufs
  iintro ⟨Hst, Hdn⟩
  ihave Hdn := (Entails.of_eq (dn0_eq m d)) $$ Hdn
  ihave Hheld := (Entails.of_eq (held_V2 m d).symm) $$ [Hdn Hrest]
  · isplitl [Hdn]; · iexact Hdn
    iexact Hrest
  iapply (StableHlo.wp_seq 𝒱 none Set.univ d (Pipeline.ucRefs τ sig) _ opsAfter after_sub after_fresh (V2 m d)) $$ [Hb Hheld]
  · isplitl [Hb]; · iexact Hb
    iexact Hheld
  rw [show StableHlo.after opsAfter (V2 m d) = V3 m d from rfl]
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) :=
  held_read (thr := (d.tc : Thread nD τ)) (Pipeline.ucRefs τ sig) (V3 m d) s'

/-! ## The run -/

/-- The result's value, from the two arguments. -/
def result (d : Dev nD) : S640x12800.Idx → Elt F .f32 :=
  shapeCast S640x12800 (gathered (F := F) (z := 501760) (L := 128) (O := 64000) (e := .f32) (by decide)
      (shapeCast S64000 (rowsOf (m ((d.tc : Thread nD τ).loc main_arg1))) shapeCasts_S640x100_S64000)
      (shapeCast S501760x128 (m ((d.tc : Thread nD τ).loc main_arg0)) shapeCasts_S640x100352_S501760x128)) shapeCasts_S64000x128_S640x12800

theorem V1_t (d : Dev nD) : V1 m d t' = shapeCast S501760x128 (m ((d.tc : Thread nD τ).loc main_arg0)) shapeCasts_S640x100352_S501760x128 := by
  delta V1 opsBefore
  after_results_simp
  rfl

theorem V3_result (d : Dev nD) : V3 m d (Proc.devRef .tc main_v10) = result m d := by
  delta V3 opsAfter
  after_results_simp
  delta V2
  rw [Function.update_self, V1_i, V1_t]
  rfl

theorem V3_arg0 (d : Dev nD) : V3 m d (Proc.devRef .tc main_arg0) = m ((d.tc : Thread nD τ).loc main_arg0) := by
  delta V3 opsAfter
  after_results_simp
  delta V2
  rw [Function.update_of_ne (show Proc.devRef .tc main_arg0 ≠ o' by decide)]
  delta V1 opsBefore
  after_results_simp

theorem V3_arg1 (d : Dev nD) : V3 m d (Proc.devRef .tc main_arg1) = m ((d.tc : Thread nD τ).loc main_arg1) := by
  delta V3 opsAfter
  after_results_simp
  delta V2
  rw [Function.update_of_ne (show Proc.devRef .tc main_arg1 ≠ o' by decide)]
  delta V1 opsBefore
  after_results_simp

/-- Every device ends with the result at its value and the arguments unchanged; every semaphore ends at zero. -/
def QC : PUnit × MemSt nD τ sig (Elt F) → Prop := fun r => (∀ c : Dev nD, r.2.mem ((c.tc : Thread nD τ).loc main_v10) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

theorem mem_v10 : (Proc.devRef .tc main_v10 : DevRef τ sig) ∈ Pipeline.ucRefs τ sig := by decide
theorem mem_arg0 : (Proc.devRef .tc main_arg0 : DevRef τ sig) ∈ Pipeline.ucRefs τ sig := by decide
theorem mem_arg1 : (Proc.devRef .tc main_arg1 : DevRef τ sig) ∈ Pipeline.ucRefs τ sig := by decide

theorem run_main [∀ e, Nonempty (Elt F e)] (hpre : PreOK m) :
    θ_run (Cert.Blocks.defs (F := F)) (Cert.Blocks.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨(h c (Proc.devRef .tc main_v10) mem_v10).trans (V3_result m c), (h c (Proc.devRef .tc main_arg0) mem_arg0).trans (V3_arg0 m c),
      (h c (Proc.devRef .tc main_arg1) mem_arg1).trans (V3_arg1 m c)⟩, hz⟩)

end Main

end Cert.Proof.Blocks

end
-- ==== Proof.BlockTake.lean ====
/-
  What the two runs of the gather of blocks each end with, read at an index: in every row, the selected blocks of 128 elements
  side by side. The kernel's side reads one table of all rows' blocks; the reference's side is a host gather along the blocks of
  each row, whose wrap, check and fill change nothing where every selected index is a block of the row.
-/
module

public import proofs.«01_k».proof.Defs
public import proofs.«01_k».proof.Proof.BlockRun
public import proofs.«01_k».proof.Proof.Gen.BlocksReferenceIdeal
public import Idealize.ShloMosaic.Lib.ValueIdxCore
public import Idealize.ShloMosaic.Lib.ReduceAll
public import Idealize.ShloMosaic.Lib.KernelVsHost
public import Idealize.ShloMosaic.Lib.Pipeline.Value

@[expose] public section

noncomputable section

namespace Cert.Proof.BlockTake

open Idealize.ShloMosaic Idealize.ShloMosaic.ValueIdx Idealize.SL.Sem
open Cert.Proof.Rows

variable {F : FTy → Type} [FloatOps F]

/-- Which of the row's selected blocks a column of the result is in, and where in the block it is. -/
abbrev sel (j : Cert.Blocks.S640x12800.Idx) : Fin 100 :=
  ⟨(j 1).val / 128, by have h : (j 1).val < 12800 := (j 1).isLt; omega⟩
abbrev lane (j : Cert.Blocks.S640x12800.Idx) : Fin 128 := ⟨(j 1).val % 128, Nat.mod_lt _ (by decide)⟩

/-- The selected index that result index `j` reads. -/
abbrev selIdx (j : Cert.Blocks.S640x12800.Idx) : Cert.Blocks.S640x128.Idx :=
  ix2 (⟨(j 0).val, (j 0).isLt⟩ : Fin 640) (⟨(sel j).val, Nat.lt_trans (sel j).isLt (by decide)⟩ : Fin 128)

theorem col_lt (b : ℕ) (l : Fin 128) : b % 784 * 128 + l.val < 100352 := by
  have h := Nat.mod_lt b (show 0 < 784 by decide)
  have h' := l.isLt
  omega

/-- In every row, the elements of the selected blocks, one block after another. -/
def taken (T : Cert.Blocks.S640x100352.Idx → Elt F .f32) (B : Cert.Blocks.S640x128.Idx → BitVec 32) :
    Cert.Blocks.S640x12800.Idx → Elt F .f32 :=
  fun j => T (ix2 (⟨(j 0).val, (j 0).isLt⟩ : Fin 640) (⟨(B (selIdx j)).toNat % 784 * 128 + (lane j).val, col_lt _ _⟩ : Fin 100352))

/-! ## The kernel's side -/

section Kernel

open Cert.Blocks Cert.Blocks.Gen

/-- The row of the flat list of 64000 that result index `j` reads. -/
def flatRow (j : S640x12800.Idx) : Fin 64000 :=
  ⟨(j 0).val * 100 + (sel j).val, by
    have h0 : (j 0).val < 640 := (j 0).isLt
    have h1 := (sel j).isLt
    omega⟩

theorem flat_apply (R : S640x100.Idx → BitVec 32) (j : S640x12800.Idx) :
    shapeCast S64000 R shapeCasts_S640x100_S64000 (ix1 (flatRow j)) = R (ix2 (⟨(j 0).val, (j 0).isLt⟩ : Fin 640) (sel j)) :=
  shapeCast_apply R _ _ _ (by rw [Shape.rowMajor_val_two, Shape.rowMajor_val_one]; rfl)

theorem table_apply (T : S640x100352.Idx → Elt F .f32) (r : Fin 501760) (l : Fin 128) (q : Fin 640) (c : Fin 100352)
    (h : r.val * 128 + l.val = q.val * 100352 + c.val) :
    shapeCast S501760x128 T shapeCasts_S640x100352_S501760x128 (ix2 r l) = T (ix2 q c) :=
  shapeCast_apply T _ _ _ (by rw [Shape.rowMajor_val_two, Shape.rowMajor_val_two]; exact h.symm)

theorem result_eq (m : (ℓ : Loc nD τ sig) → Buf (Elt F) ℓ) (hpre : Blocks.PreOK m) (d : Dev nD) :
    Blocks.result m d = taken (F := F) (m ((d.tc : Thread nD τ).loc main_arg0)) (m ((d.tc : Thread nD τ).loc main_arg1)) := by
  funext j
  refine (shapeCast_apply _ shapeCasts_S64000x128_S640x12800 j (ix2 (flatRow j) (lane j)) ?_).trans ?_
  · rw [Shape.rowMajor_val_two, Shape.rowMajor_val_two]
    show ((j 0).val * 100 + (j 1).val / 128) * 128 + (j 1).val % 128 = (j 0).val * 12800 + (j 1).val
    omega
  refine table_apply _ _ (lane j) _ _ ?_
  show (shapeCast S64000 (Blocks.rowsOf (m ((d.tc : Thread nD τ).loc main_arg1))) shapeCasts_S640x100_S64000 (ix1 (flatRow j)) : BitVec 32).toNat % 501760 * 128
      + (lane j).val = (j 0).val * 100352
      + ((m ((d.tc : Thread nD τ).loc main_arg1) (selIdx j) : BitVec 32).toNat % 784 * 128 + (lane j).val)
  rw [flat_apply, Nat.mod_eq_of_lt (Blocks.rowsOf_lt _ (hpre d) _), Blocks.rowsOf_toNat _ (hpre d)]
  have h : (m ((d.tc : Thread nD τ).loc main_arg1) (selIdx j) : BitVec 32).toNat < 784 := hpre d (ix2 (⟨(j 0).val, (j 0).isLt⟩ : Fin 640) (sel j))
  rw [Nat.mod_eq_of_lt h]
  show ((m ((d.tc : Thread nD τ).loc main_arg1) (selIdx j) : BitVec 32).toNat + 784 * (j 0).val) * 128 + _ = _
  omega

end Kernel

/-! ## The reference's side -/

section Reference

open Cert.BlocksReferenceIdeal Cert.BlocksReferenceIdeal.Gen

local notation "gd" => Cert.BlocksReferenceIdeal.gather_S640x784x128_S640x100x1_S640x100x128_2_1_0_0_1_2_11128

/-- The list index of a gathered element. -/
abbrev startIdx (y : S640x100x128.Idx) : S640x100x1.Idx :=
  ix3 (⟨(y 0).val, (y 0).isLt⟩ : Fin 640) (⟨(y 1).val, (y 1).isLt⟩ : Fin 100) (⟨0, Nat.one_pos⟩ : Fin 1)

/-- The host gather along the blocks of each row, at an index: the named block, clamped into the row, at the same lane. -/
theorem gather_apply (T : S640x784x128.Idx → Elt F .f32) (I : IVec S640x100x1 32) (y : S640x100x128.Idx) :
    Host.gather gd T I y
      = T (ix3 (⟨(y 0).val, (y 0).isLt⟩ : Fin 640) (⟨min (I (startIdx y)).toInt.toNat 783, by omega⟩ : Fin 784) (⟨(y 2).val, (y 2).isLt⟩ : Fin 128)) := by
  unfold Host.gather
  congr 1
  funext a
  refine Fin.ext ?_
  show (gd).start y I a + (gd).batchCoord y a + (gd).offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 3) ∈ (gd).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 3) ∈ (gd).startIndexMap from List.mem_singleton.mpr rfl)]
    have hsi : (gd).siIdx y ⟨List.idxOf (1 : Fin 3) (gd).startIndexMap, List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => absurd (List.mem_singleton.mp h) (by decide)), Nat.add_zero]
    unfold GatherDims.start
    rw [dif_neg (show ¬ (2 : Fin 3) ∈ (gd).startIndexMap from fun h => absurd (List.mem_singleton.mp h) (by decide)), Nat.zero_add]
    unfold GatherDims.offCoord
    rw [dif_pos (show (2 : Fin 3) ∈ (gd).sKept from (GatherDims.mem_sKept _ _).mpr
      ⟨fun h => absurd (List.mem_singleton.mp h) (by decide), fun h => absurd (List.mem_singleton.mp h) (by decide)⟩)]
    rfl

/-- A block of the row, through the wrap of negative indices. -/
theorem wrap_eq (v : BitVec 32) (hv : v.toNat < 784) : Scalar.select (IntOp.cmpi .slt v 0#32) (v + 784#32) v = v := by
  have h : ¬ v.toInt < 0 := by rw [BitVec.toInt_eq_toNat_cond]; split <;> omega
  rw [show IntOp.cmpi .slt v 0#32 = 0#1 by
    show BitVec.ofBool (decide (v.toInt < 0)) = 0#1
    rw [decide_eq_false h]; rfl]
  rfl

/-- It is inside the range that the gather's check asks for. -/
theorem range_eq (v : BitVec 32) (hv : v.toNat < 784) : IntOp.andi (IntOp.cmpi .sge v 0#32) (IntOp.cmpi .sle v 783#32) = 1#1 := by
  have h : v.toInt = v.toNat := by rw [BitVec.toInt_eq_toNat_cond]; split <;> omega
  show BitVec.ofBool (decide ((0 : ℤ) ≤ v.toInt)) &&& BitVec.ofBool (decide (v.toInt ≤ 783)) = 1#1
  rw [h, decide_eq_true (by omega), decide_eq_true (by omega)]
  rfl

theorem row_eq (v : BitVec 32) (hv : v.toNat < 784) : min v.toInt.toNat 783 = v.toNat % 784 := by
  have h : v.toInt = v.toNat := by rw [BitVec.toInt_eq_toNat_cond]; split <;> omega
  omega

/-- The selected blocks, with a unit axis. -/
def listed (B : S640x128.Idx → BitVec 32) : S640x100x1.Idx → BitVec 32 :=
  broadcastInDim S640x100x1 ![0, 1] bcast_S640x100_S640x100x1_0_1 (extractStridedSlice S640x100 ![0, 0] B slices_S640x128_S640x100_0_0)

/-- Negative ones wrapped: the gather's start indices. -/
def starts (B : S640x128.Idx → BitVec 32) : S640x100x1.Idx → BitVec 32 :=
  select (cmpi .slt (listed B) (broadcastInDim S640x100x1 ![] bcast_S_S640x100x1 (constantI S_ 32 0#32)))
    (addi (listed B) (broadcastInDim S640x100x1 ![] bcast_S_S640x100x1 (constantI S_ 32 784#32))) (listed B)

/-- Where the start indices are inside the row. -/
def checked (B : S640x128.Idx → BitVec 32) : S640x100.Idx → BitVec 1 :=
  Host.reduce IntOp.andi
    (andi (cmpi .sge (starts B) (broadcastInDim S640x100x1 ![] bcast_S_S640x100x1 (constantI S_ 32 0#32)))
      (cmpi .sle (starts B) (broadcastInDim S640x100x1 ![0, 1, 2] bcast_S1x1x1_S640x100x1_0_1_2
        (broadcastInDim S1x1x1 ![2] bcast_S1_S1x1x1_2 (constantI S1 32 783#32)))))
    (constantI S_ 1 1#1) reducesTo_S640x100x1_S640x100_d2 h_S_

/-- The term that the reference's run ends with. -/
def fetched (T : S640x100352.Idx → Elt F .f32) (B : S640x128.Idx → BitVec 32) : S640x12800.Idx → Elt F .f32 :=
  shapeCast S640x12800 (select (broadcastInDim S640x100x128 ![0, 1] bcast_S640x100_S640x100x128_0_1 (checked B))
    (Host.gather gd (shapeCast S640x784x128 T shapeCasts_S640x100352_S640x784x128) (starts B))
    (broadcastInDim S640x100x128 ![] bcast_S_S640x100x128 (constant (F := F) S_ .f32 0x7FC00000#32)))
    shapeCasts_S640x100x128_S640x12800

variable (T : S640x100352.Idx → Elt F .f32) (B : S640x128.Idx → BitVec 32) (hB : ∀ y, (B (Blocks.selAt y)).toNat < 784)

/-- The argument's column that list entry `i` reads. -/
abbrev colOf (i : S640x100x1.Idx) : S640x128.Idx :=
  ix2 (⟨(i 0).val, (i 0).isLt⟩ : Fin 640) (⟨(i 1).val, Nat.lt_trans (show (i 1).val < 100 from (i 1).isLt) (by decide)⟩ : Fin 128)

theorem listed_apply (i : S640x100x1.Idx) : listed B i = B (colOf i) := by
  unfold listed broadcastInDim
  refine (extractStridedSlice_apply _ _ slices_S640x128_S640x100_0_0 _ (colOf i) fun a => ?_)
  match a with
  | ⟨0, _⟩ => exact (Nat.zero_add _).symm
  | ⟨1, _⟩ => exact (Nat.zero_add _).symm

include hB in
theorem starts_apply (i : S640x100x1.Idx) : starts B i = B (colOf i) := by
  show Scalar.select (IntOp.cmpi .slt (listed B i) 0#32) (listed B i + 784#32) (listed B i) = _
  rw [listed_apply]
  exact wrap_eq _ (hB (ix2 ⟨(i 0).val, (i 0).isLt⟩ ⟨(i 1).val, (i 1).isLt⟩))

include hB in
theorem checked_one (k : S640x100.Idx) : checked B k = 1#1 :=
  Host.reduce_andi_one _ _ _ _ k rfl fun i => range_eq (starts B i) (by rw [starts_apply B hB]; exact hB (ix2 ⟨(i 0).val, (i 0).isLt⟩ ⟨(i 1).val, (i 1).isLt⟩))

theorem split_apply (q : Fin 640) (b : Fin 784) (l : Fin 128) (c : Fin 100352) (h : b.val * 128 + l.val = c.val) :
    shapeCast S640x784x128 T shapeCasts_S640x100352_S640x784x128 (ix3 q b l) = T (ix2 q c) :=
  shapeCast_apply T _ _ _ (by
    rw [Shape.rowMajor_val_two, Shape.rowMajor_val_three]
    show q.val * 100352 + c.val = (q.val * 784 + b.val) * 128 + l.val
    omega)

include hB in
theorem fetched_eq : fetched (F := F) T B = taken (F := F) T B := by
  funext j
  refine (shapeCast_apply _ shapeCasts_S640x100x128_S640x12800 j (ix3 (⟨(j 0).val, (j 0).isLt⟩ : Fin 640) (sel j) (lane j)) ?_).trans ?_
  · rw [Shape.rowMajor_val_two, Shape.rowMajor_val_three]
    show ((j 0).val * 100 + (j 1).val / 128) * 128 + (j 1).val % 128 = (j 0).val * 12800 + (j 1).val
    omega
  · show Scalar.select (checked B _) (Host.gather gd _ (starts B) _) _ = _
    rw [checked_one B hB, select_one, gather_apply]
    refine split_apply T _ _ _ _ ?_
    show min (starts B _).toInt.toNat 783 * 128 + (lane j).val = (B (selIdx j)).toNat % 784 * 128 + (lane j).val
    rw [starts_apply B hB, row_eq _ (hB (ix2 _ (sel j)))]

end Reference

end Cert.Proof.BlockTake

end
-- ==== Proof.Scores.lean ====
/-
  Shared by the three calls that read the scores: the scores of a row of queries against the item table, in words and in sums,
  and the small facts about words that the three bodies' masks need.
-/
module

public import Idealize.ShloMosaic.PureOps.Ideal.Laws
public import Idealize.ShloMosaic.Lib.Pointwise

@[expose] public section

noncomputable section

namespace Cert.Scores

open Idealize.ShloMosaic

/-- The score of query row `r` against item `n`. -/
def score (q : FVec Ideal ⟨2, ![640, 64]⟩ .f32) (a : FVec Ideal ⟨2, ![100000, 64]⟩ .f32) (r : Fin 640) (n : Fin 100000) : EReal :=
  ∑ k : Fin 64, q (ix2 r k) * a (ix2 n k)

/-- The mask of the columns past the last item, at column `j` of block `t`. -/
theorem select_item {α : Type} (t j : ℕ) (ht : t < 28) (hj : j < 3584) (x y : α) :
    Scalar.select (IntOp.cmpi .slt (IntOp.addi (Scalar.muli (BitVec.ofNat 32 t) 3584#32) (BitVec.ofNat 32 j)) 100000#32) x y
      = if 3584 * t + j < 100000 then x else y := by
  have e : IntOp.addi (Scalar.muli (BitVec.ofNat 32 t) 3584#32) (BitVec.ofNat 32 j) = BitVec.ofNat 32 (3584 * t + j) := by
    apply BitVec.eq_of_toNat_eq
    show (BitVec.ofNat 32 t * 3584#32 + BitVec.ofNat 32 j).toNat = _
    simp only [BitVec.toNat_add, BitVec.toNat_mul, BitVec.toNat_ofNat]
    omega
  have hs : (BitVec.ofNat 32 (3584 * t + j)).slt 100000#32 = decide (3584 * t + j < 100000) := by
    have h1 : (BitVec.ofNat 32 (3584 * t + j)).toInt = ((3584 * t + j : ℕ) : ℤ) := by
      rw [BitVec.toInt_eq_toNat_cond, BitVec.toNat_ofNat]
      split <;> omega
    unfold BitVec.slt
    rw [h1]
    show decide (((3584 * t + j : ℕ) : ℤ) < 100000) = _
    exact decide_eq_decide.mpr (by omega)
  rw [e]
  show Scalar.select (BitVec.ofBool ((BitVec.ofNat 32 (3584 * t + j)).slt 100000#32)) x y = _
  rw [hs]
  by_cases h : 3584 * t + j < 100000
  · rw [if_pos h, decide_eq_true h]; rfl
  · rw [if_neg h, decide_eq_false h]; rfl

/-- A select on "lane `j` is `n`". -/
theorem select_lane {α : Type} (j n : ℕ) (hj : j < 2 ^ 32) (hn : n < 2 ^ 32) (x y : α) :
    Scalar.select (IntOp.cmpi .eq (BitVec.ofNat 32 j) (BitVec.ofNat 32 n)) x y = if j = n then x else y := by
  show Scalar.select (BitVec.ofBool (BitVec.ofNat 32 j == BitVec.ofNat 32 n)) x y = _
  by_cases h : j = n
  · subst h; rw [if_pos rfl, beq_self_eq_true]; rfl
  · have hne : (BitVec.ofNat 32 j == BitVec.ofNat 32 n) = false := by
      rw [beq_eq_false_iff_ne]
      intro e
      have := congrArg BitVec.toNat e
      simp only [BitVec.toNat_ofNat] at this
      omega
    rw [if_neg h, hne]; rfl

theorem sitofp_zero : FloatOps.sitofp (F := Ideal) FTy.f32 (0#32) = (0 : EReal) := by
  show (((0#32 : BitVec 32).toInt : ℝ) : EReal) = 0
  simp

theorem ofBits_bot : Ideal.ofBits .f32 0xFF800000#32 = ⊥ := by simp [Ideal.ofBits, Ideal.ieee]

end Cert.Scores

end
-- ==== Proof.RowMaxValue.lean ====
/-
  The row maxima: the carried scratch after each point is bounded by exactly the bounds of the scores up to that point, so the last
  point's is the maximum over all of them.
-/
module

public import proofs.«01_k».proof.Proof.Scores
public import proofs.«01_k».proof.Proof.Gen.RowMaxIdeal.Value
public import proofs.«01_k».proof.Proof.Gen.RowMaxReferenceIdeal.Run
public import Idealize.ShloMosaic.Lib.StableHlo.ReadAt
public import Idealize.ShloMosaic.Lib.Pipeline.ValueKit.Acc

@[expose] public section

noncomputable section

namespace Cert.RowMaxValue

open Idealize.ShloMosaic

section
open Cert.RowMaxReferenceIdeal Cert.RowMaxReferenceIdeal.Gen

theorem reference_le (q : FVec Ideal S640x64 .f32) (a : FVec Ideal S100000x64 .f32) (i : S640x1.Idx) (z : EReal) :
    (broadcastInDim S640x1 ![0] bcast_S640_S640x1_0 (Host.reduce FloatOps.maximumf (Host.dotGeneral dot_S640x64_S100000x64_S640x100000_1_1_0_0_n_n none q a)
      (constant S_ .f32 0xFF800000#32) reducesTo_S640x100000_S640_d1 h_S_) : FVec Ideal S640x1 .f32) i ≤ z
      ↔ ∀ n : Fin 100000, Scores.score q a (i 0) n ≤ z := by
  pointwise
  unfold Scores.score
  rw [Scores.ofBits_bot, Finset.fold_max_le]
  exact ⟨fun h n => h.2 n (Finset.mem_univ _), fun h => ⟨bot_le, fun n _ => h n⟩⟩

end

open Cert.RowMaxIdeal Cert.RowMaxIdeal.Gen

/-- The score of a row at a column of a block. -/
def blockScore (q : FVec Ideal S640x64 .f32) (b : FVec Ideal S3584x64 .f32) (r : Fin 640) (j : Fin 3584) : EReal :=
  ∑ k : Fin 64, q (ix2 r k) * b (ix2 j k)

theorem pay2_le (i : grid0.Coords) (q : FVec Ideal S640x64 .f32) (b : FVec Ideal S3584x64 .f32) (s : FVec Ideal S640x128 .f32)
    (y : S640x128.Idx) (z : EReal) :
    k0_pay2 (F := Ideal) i q b s y ≤ z
      ↔ s y ≤ z ∧ ∀ j : Fin 3584, 3584 * (i 0).val + j.val < 100000 → blockScore q b (y 0) j ≤ z := by
  unfold k0_pay2 blockScore
  pointwise
  rw [max_le_iff, Scores.ofBits_bot, Finset.fold_max_le]
  refine and_congr Iff.rfl ⟨fun h j hj => ?_, fun h => ⟨bot_le, fun j _ => ?_⟩⟩
  · have e := h.2 j (Finset.mem_univ _)
    rwa [Scores.select_item _ _ (i 0).isLt j.isLt, if_pos hj] at e
  · rw [Scores.select_item _ _ (i 0).isLt j.isLt]
    split
    · exact h j ‹_›
    · exact bot_le

theorem pay1_apply (y : S640x128.Idx) : k0_pay1 (F := Ideal) y = ⊥ := by
  rw [← Scores.ofBits_bot]
  unfold k0_pay1
  pointwise

section
open Idealize.ShloMosaic.TcCoe Idealize.SL.Sem

variable (m : (ℓ : Loc nD τ sig) → Buf (Elt Ideal) ℓ) (c : Dev nD)

theorem zero_off : (![0, 0] : Fin 2 → ℕ) = fun _ => 0 := by
  funext a; fin_cases a <;> rfl

theorem at_point : ∀ t : Fin cfg0.N, (grid0.coords t 0).val = t.val ∧ win0_0.index t = ![0, 0] ∧ win0_1.index t = ![t.val, 0] :=
  (by decide +kernel : ∀ t : Fin grid0.N, (grid0.coords t 0).val = t.val ∧ win0_0.index t = ![0, 0] ∧ win0_1.index t = ![t.val, 0])

abbrev argQ : FVec Ideal S640x64 .f32 := m ((c : Thread nD τ).loc main_arg0)
abbrev argA : FVec Ideal S100000x64 .f32 := m ((c : Thread nD τ).loc main_arg1)

theorem block_q (t : Fin cfg0.N) (y : S640x64.Idx) : (iblk m c 0 t : FVec Ideal S640x64 .f32) y = argQ m c y := by
  have e := (at_point t).2.1
  refine Eq.trans (congrArg (V m c main_arg0) (?_ : ((cfg0.win 0).blk t).view.emb y = y)) (congrFun (V_main_arg0 m c) y)
  funext a; apply Fin.ext
  match a with
  | ⟨0, _⟩ => show win0_0.index t (0 : Fin 2) * 640 + 1 * (y 0).val = (y 0).val; rw [e]; show 0 * 640 + 1 * _ = _; omega
  | ⟨1, _⟩ => show win0_0.index t (1 : Fin 2) * 64 + 1 * (y 1).val = (y 1).val; rw [e]; show 0 * 64 + 1 * _ = _; omega

theorem table_apply (n : Fin 100352) (k : Fin 64) :
    (V m c main_v0 : FVec Ideal S100352x64 .f32) (ix2 n k) = if h : n.val < 100000 then argA m c (ix2 ⟨n.val, h⟩ k) else 0 := by
  rw [← Scores.sitofp_zero]
  unfold V
  after_reads_at

theorem block_a (t : Fin cfg0.N) (j : Fin 3584) (k : Fin 64) (h : 3584 * t.val + j.val < 100000) :
    (iblk m c 1 t : FVec Ideal S3584x64 .f32) (ix2 j k) = argA m c (ix2 ⟨3584 * t.val + j.val, h⟩ k) := by
  have e := (at_point t).2.2
  refine Eq.trans (congrArg (V m c main_v0) (?_ : ((cfg0.win 1).blk t).view.emb (ix2 j k) = ix2 ⟨3584 * t.val + j.val, by omega⟩ k))
    ((table_apply m c _ k).trans (dif_pos h))
  funext a; apply Fin.ext
  match a with
  | ⟨0, _⟩ => show win0_1.index t (0 : Fin 2) * 3584 + 1 * j.val = 3584 * t.val + j.val; rw [e]; show t.val * 3584 + 1 * _ = _; omega
  | ⟨1, _⟩ => show win0_1.index t (1 : Fin 2) * 64 + 1 * k.val = k.val; rw [e]; show 0 * 64 + 1 * _ = _; omega

/-- A point's payload over what the scratch held. -/
theorem point_le (t : Fin cfg0.N) (s : FVec Ideal S640x128 .f32) (y : S640x128.Idx) (z : EReal) :
    k0_pay2 (F := Ideal) (grid0.coords t) (iblk m c 0 t) (iblk m c 1 t) s y ≤ z
      ↔ s y ≤ z ∧ ∀ n : Fin 100000, 3584 * t.val ≤ n.val → n.val < 3584 * (t.val + 1) → Scores.score (argQ m c) (argA m c) (y 0) n ≤ z := by
  rw [pay2_le, (at_point t).1]
  have hs : ∀ (j : Fin 3584) (h : 3584 * t.val + j.val < 100000),
      blockScore (iblk m c 0 t) (iblk m c 1 t) (y 0) j
        = Scores.score (argQ m c) (argA m c) (y 0) ⟨3584 * t.val + j.val, h⟩ := fun j h => by
    unfold blockScore Scores.score
    exact Finset.sum_congr rfl fun k _ => congrArg₂ (fun u v : EReal => u * v) (block_q m c t _) (block_a m c t j k h)
  refine and_congr Iff.rfl ⟨fun h n h1 h2 => ?_, fun h j hj => ?_⟩
  · have e := h ⟨n.val - 3584 * t.val, by omega⟩ (by show 3584 * t.val + (n.val - 3584 * t.val) < _; have := n.isLt; omega)
    rw [hs ⟨n.val - 3584 * t.val, by omega⟩ (by show 3584 * t.val + (n.val - 3584 * t.val) < _; have := n.isLt; omega)] at e
    exact (congrArg (Scores.score (argQ m c) (argA m c) (y 0)) (Fin.ext (by show n.val = 3584 * t.val + (n.val - 3584 * t.val); omega))).trans_le e
  · rw [hs j hj]
    exact h _ (by show 3584 * t.val ≤ 3584 * t.val + j.val; omega) (by show 3584 * t.val + j.val < _; have := j.isLt; omega)

/-- What the scratch holds after a point. -/
theorem scratch_le (y : S640x128.Idx) (z : EReal) : ∀ (n : ℕ) (hn : n < cfg0.N),
    (outsAt0 m c n hn).2 y ≤ z ↔ ∀ k : Fin 100000, k.val < 3584 * (n + 1) → Scores.score (argQ m c) (argA m c) (y 0) k ≤ z
  | 0, hn => by
    rw [outsAt0_A m c ⟨0, hn⟩ (Nat.zero_mod _) (by show ¬ 0 % 28 = 27; decide)]
    frame_out
    rw [point_le, pay1_apply]
    exact ⟨fun h k hk => h.2 k (Nat.zero_le _) hk, fun h => ⟨bot_le, fun k _ hk => h k hk⟩⟩
  | n + 1, hn => by
    have h28 : n + 1 < 28 := lt_of_lt_of_eq hn (show cfg0.N = 28 from N_0)
    have ih := scratch_le y z n (Nat.lt_of_succ_lt hn)
    have step : (outsAt0 m c (n + 1) hn).2 = k0_pay2 (F := Ideal) (grid0.coords ⟨n + 1, hn⟩) (iblk m c 0 ⟨n + 1, hn⟩) (iblk m c 1 ⟨n + 1, hn⟩)
        (outsAt0 m c n (Nat.lt_of_succ_lt hn)).2 := by
      by_cases h : (n + 1) % 28 = 27
      · rw [outsAt0_C m c ⟨n + 1, hn⟩ (by show ¬ (n + 1) % 28 = 0; omega) h]; frame_out; exact congrArg (k0_pay2 _ _ _) ((Memref.isWhole_whole _).read_unread _)
      · rw [outsAt0_B m c ⟨n + 1, hn⟩ (by show ¬ (n + 1) % 28 = 0; omega) h]; frame_out; exact congrArg (k0_pay2 _ _ _) ((Memref.isWhole_whole _).read_unread _)
    rw [step, point_le, ih]
    refine ⟨fun h k hk => ?_, fun h => ⟨fun k hk => h k (by omega), fun k _ hk => h k hk⟩⟩
    by_cases e : k.val < 3584 * (n + 1)
    · exact h.1 k e
    · exact h.2 k (by show 3584 * (n + 1) ≤ _; omega) hk

theorem last_point (y : S640x1.Idx) (h27 : 27 < cfg0.N) : (outsAt0 m c 27 h27).1 y = (outsAt0 m c 27 h27).2 (ix2 (y 0) 0) := by
  rw [outsAt0_C m c ⟨27, h27⟩ (by show ¬ 27 % 28 = 0; decide) (by show 27 % 28 = 27; decide)]
  frame_out
  rw [View.readCov_eq_canon_ld _ _ _ (fun y => View.cover_of_tiled _ S640x128.size (by rfl) y), View.canon_unit_zero (S := S640x128) zero_off]
  refine congrArg (k0_pay2 (F := Ideal) _ _ _ _) (?_ : (Rect.unit ![0, 0] ![640, 1] inb_S640x128_S640x1_0_0).emb y = ix2 (y 0) 0)
  have h1 : (y 1).val < 1 := (y 1).isLt
  funext a; apply Fin.ext
  match a with
  | ⟨0, _⟩ => show 0 + 1 * (y 0).val = (y 0).val; omega
  | ⟨1, _⟩ => show 0 + 1 * (y 1).val = 0; omega

/-- The row maxima the run leaves. -/
def result : FVec Ideal S640x1 .f32 := Value.G2 m c

theorem result_le (i : S640x1.Idx) (z : EReal) :
    result m c i ≤ z ↔ ∀ n : Fin 100000, Scores.score (argQ m c) (argA m c) (i 0) n ≤ z := by
  have h27 : 27 < cfg0.N := lt_of_lt_of_eq (by decide) (show cfg0.N = 28 from N_0).symm
  unfold result
  rw [Value.G2_last, ← Value.outsAt0_sweep m c 27 h27, last_point, scratch_le]
  exact ⟨fun h n => h n (by have := n.isLt; omega), fun h n _ => h n⟩

end
end Cert.RowMaxValue

end
-- ==== Proof.RowMaxRun.lean ====
/-
  The claims of the row-maximum call: the frames are its run's, and its result has the reference's upper bounds, so is the reference's.
-/
module

public import proofs.«01_k».proof.Defs
public import proofs.«01_k».proof.Proof.RowMaxValue
public import proofs.«01_k».proof.Proof.Gen.RowMax.Frame
public import Idealize.ShloMosaic.Adequacy
public import Idealize.ShloMosaic.Init

@[expose] public section

noncomputable section

namespace Cert.RowMaxRun

open Idealize.ShloMosaic Idealize.SL.Sem Cert.RowMaxValue

theorem frame_p : Cert.quiescent_RowMax := fun m ρ _ => Cert.RowMax.Gen.frame m ρ

theorem frame_pi : Cert.quiescent_RowMaxIdeal := fun m ρ _ => Cert.RowMaxIdeal.Gen.frame m ρ

theorem frame_ri : Cert.quiescent_RowMaxReferenceIdeal := fun m ρ _ =>
  (θ_run Cert.RowMaxReferenceIdeal.defs _ _).mono (fun r h => ⟨fun c => (h c).2, sem_eq_zero_of_no_sems (by decide) r.2⟩)
    (Cert.RowMaxReferenceIdeal.Value.run (F := Ideal) m ρ)

theorem algebraic : Cert.algebraic_RowMaxIdeal_RowMaxReferenceIdeal := by
  intro m ρ m' ρ' _ hagree
  refine ⟨fun c => result m c, Cert.RowMaxIdeal.Value.run (F := Ideal) m ρ,
    (θ_run Cert.RowMaxReferenceIdeal.defs _ _).mono (fun r h c => ⟨(h c).1.trans ?_, (h c).2⟩)
      (Cert.RowMaxReferenceIdeal.Value.run (F := Ideal) m' ρ')⟩
  rw [(hagree c).1, (hagree c).2]
  funext i
  exact eq_of_forall_ge_iff fun z => (reference_le (argQ m c) (argA m c) i z).trans (result_le m c i z).symm

end Cert.RowMaxRun

end
-- ==== Proof.DenominatorValue.lean ====
/-
  The denominators: column `J` of the carried scratch holds, after each point, the sum of the exponentials at the columns
  `J, 256 + J, …` seen so far; the last point adds the 256 columns up.
-/
module

public import proofs.«01_k».proof.Proof.Scores
public import proofs.«01_k».proof.Proof.Gen.DenominatorIdeal.Value
public import proofs.«01_k».proof.Proof.Gen.DenominatorReferenceIdeal.Run
public import Idealize.ShloMosaic.Lib.StableHlo.ReadAt
public import Idealize.ShloMosaic.Lib.Pipeline.ValueKit.Acc

@[expose] public section

noncomputable section

namespace Cert.DenominatorValue

open Idealize.ShloMosaic

/-- The exponential of row `r` at column `n`, zero past the last item. -/
def term (q : FVec Ideal ⟨2, ![640, 64]⟩ .f32) (a : FVec Ideal ⟨2, ![100000, 64]⟩ .f32) (rm : FVec Ideal ⟨2, ![640, 1]⟩ .f32)
    (r : Fin 640) (n : ℕ) : EReal :=
  if h : n < 100000 then Ideal.exp (Scores.score q a r ⟨n, h⟩ - rm (ix2 r 0)) else 0

section
open Cert.DenominatorReferenceIdeal Cert.DenominatorReferenceIdeal.Gen

theorem reference_eq (q : FVec Ideal S640x64 .f32) (a : FVec Ideal S100000x64 .f32) (rm : FVec Ideal S640x1 .f32) (i : S640x1.Idx) :
    (broadcastInDim S640x1 ![0] bcast_S640_S640x1_0 (Host.reduceAdd (Host.exp (subf
        (Host.dotGeneral dot_S640x64_S100000x64_S640x100000_1_1_0_0_n_n none q a) (broadcastInDim S640x100000 ![0, 1] bcast_S640x1_S640x100000_0_1 rm)))
      (constant S_ .f32 0x00000000#32) reducesTo_S640x100000_S640_d1 h_S_) : FVec Ideal S640x1 .f32) i
      = ∑ n ∈ Finset.range 100000, term q a rm (i 0) n := by
  pointwise
  refine Eq.trans ?_ (Fin.sum_univ_eq_sum_range (term q a rm (i 0)) 100000)
  refine Finset.sum_congr rfl fun n _ => ?_
  unfold term Scores.score
  rw [dif_pos n.isLt]

end

open Cert.DenominatorIdeal Cert.DenominatorIdeal.Gen

theorem pay5_apply (i : grid0.Coords) (q : FVec Ideal S640x64 .f32) (b : FVec Ideal S3584x64 .f32) (rm : FVec Ideal S640x1 .f32)
    (r : Fin 640) (j : Fin 3584) :
    k0_pay5 (F := Ideal) i q b rm (ix2 r j)
      = if 3584 * (i 0).val + j.val < 100000 then Ideal.exp ((∑ k : Fin 64, q (ix2 r k) * b (ix2 j k)) - rm (ix2 r 0)) else 0 := by
  unfold k0_pay5
  pointwise
  rw [Scores.select_item _ _ (i 0).isLt j.isLt]

/-- The first `n` summands over a start value. -/
def Part (s : EReal) (f : ℕ → EReal) (n : ℕ) (v : EReal) : Prop := v = s + ∑ g ∈ Finset.range n, f g

theorem Part.step {s : EReal} {f : ℕ → EReal} {n : ℕ} {v w : EReal} (h : Part s f n v) (hw : w = f n) : Part s f (n + 1) (v + w) := by
  unfold Part at h ⊢
  rw [h, hw, Finset.sum_range_succ, add_assoc]

theorem Part.zero (s : EReal) (f : ℕ → EReal) : Part s f 0 s := by
  unfold Part
  rw [Finset.sum_range_zero, add_zero]

/-- A half's sum: the columns `o + l, 256 + o + l, …` of the block. -/
theorem left_half (i : grid0.Coords) (q : FVec Ideal S640x64 .f32) (b : FVec Ideal S3584x64 .f32) (rm : FVec Ideal S640x1 .f32)
    (x : FVec Ideal S640x3584 .f32) (hx : k0_pay5 (F := Ideal) i q b rm = x) (s : FVec Ideal S640x128 .f32) (r : Fin 640) (l : Fin 128)
    (f : ℕ → EReal) (hf : ∀ j : Fin 3584, x (ix2 r j) = f j.val) :
    k0_pay1 (F := Ideal) x (k0_pay6 i q b rm s) (ix2 r l) = s (ix2 r l) + ∑ g ∈ Finset.range 14, f (256 * g + l.val) := by
  show Part (s (ix2 r l)) (fun g => f (256 * g + l.val)) 14 _
  unfold k0_pay1 k0_pay6
  rw [hx]
  pointwise
  iterate 13 refine Part.step ?_ (hf _)
  exact Part.step (n := 0) (Part.zero _ _) ((hf _).trans (congrArg f (by dsimp only; omega)))

theorem right_half (i : grid0.Coords) (q : FVec Ideal S640x64 .f32) (b : FVec Ideal S3584x64 .f32) (rm : FVec Ideal S640x1 .f32)
    (x : FVec Ideal S640x3584 .f32) (hx : k0_pay5 (F := Ideal) i q b rm = x) (s : FVec Ideal S640x128 .f32) (r : Fin 640) (l : Fin 128)
    (f : ℕ → EReal) (hf : ∀ j : Fin 3584, x (ix2 r j) = f j.val) :
    k0_pay2 (F := Ideal) x (k0_pay7 i q b rm s) (ix2 r l) = s (ix2 r l) + ∑ g ∈ Finset.range 14, f (256 * g + (128 + l.val)) := by
  show Part (s (ix2 r l)) (fun g => f (256 * g + (128 + l.val))) 14 _
  unfold k0_pay2 k0_pay7
  rw [hx]
  pointwise
  iterate 14 refine Part.step ?_ ((hf _).trans (congrArg f (by dsimp only; omega)))
  exact Part.zero _ _

/-- The sums of `2 ^ k` consecutive values, halved. -/
def block (f : ℕ → EReal) (k o : ℕ) : EReal := ∑ j ∈ Finset.range (2 ^ k), f (o + j)

theorem block_add (f : ℕ → EReal) (k o : ℕ) {u v : EReal} (hu : u = block f k o) (hv : v = block f k (o + 2 ^ k)) : u + v = block f (k + 1) o := by
  unfold block at hu hv ⊢
  rw [hu, hv, pow_succ, mul_two, Finset.sum_range_add]
  simp only [Nat.add_assoc]

theorem block_one {f : ℕ → EReal} {n o : ℕ} {u : EReal} (hu : u = f n) (ho : n = o) : u = block f 0 o := by
  subst ho
  unfold block
  rw [hu, pow_zero, Finset.sum_range_one, Nat.add_zero]

theorem pay3_apply (a b : FVec Ideal S640x128 .f32) (y : S640x1.Idx) (f : ℕ → EReal) (hf : ∀ l : Fin 128, a (ix2 (y 0) l) + b (ix2 (y 0) l) = f l.val) :
    k0_pay3 (F := Ideal) a b y = ∑ j ∈ Finset.range 128, f j := by
  have e : ∑ j ∈ Finset.range 128, f j = block f 7 0 := by
    unfold block
    simp only [Nat.zero_add]
    rfl
  rw [e]
  unfold k0_pay3
  pointwise
  iterate 7 all_goals refine block_add _ _ _ ?_ ?_
  all_goals exact block_one (hf _) rfl

/-- The two stores of a point, read at a column. -/
theorem halves (w1 w2 : FVec Ideal S640x128 .f32) (L : List (View.Piece (Elt Ideal) S640x256 .f32)) (r : Fin 640) (J : Fin 256) (v : EReal)
    (h1 : ∀ h : J.val < 128, w1 (ix2 r ⟨J.val, h⟩) = v) (h2 : ∀ h : 128 ≤ J.val, w2 (ix2 r ⟨J.val - 128, by omega⟩) = v) :
    (View.canon (⟨Rect.unit ![0, 128] ![640, 128] inb_S640x256_S640x128_0_128, w2⟩ :: ⟨Rect.unit ![0, 0] ![640, 128] inb_S640x256_S640x128_0_0, w1⟩ :: L)
      : FVec Ideal S640x256 .f32) (ix2 r J) = v := by
  by_cases h : J.val < 128
  · have e : (ix2 r J : S640x256.Idx) = (Rect.unit ![0, 0] ![640, 128] inb_S640x256_S640x128_0_0).emb (ix2 r ⟨J.val, h⟩ : S640x128.Idx) := by
      funext a; apply Fin.ext
      match a with
      | ⟨0, _⟩ => show r.val = 0 + 1 * r.val; omega
      | ⟨1, _⟩ => show J.val = 0 + 1 * J.val; omega
    rw [View.canon_cons_of_not_mem _ _ (by
      rw [Rect.mem_set_unit]
      intro hm
      have : 128 ≤ J.val := (hm 1).1
      omega), e, View.canon_cons_emb]
    exact h1 h
  · have e : (ix2 r J : S640x256.Idx) = (Rect.unit ![0, 128] ![640, 128] inb_S640x256_S640x128_0_128).emb (ix2 r ⟨J.val - 128, by omega⟩ : S640x128.Idx) := by
      funext a; apply Fin.ext
      match a with
      | ⟨0, _⟩ => show r.val = 0 + 1 * r.val; omega
      | ⟨1, _⟩ => show J.val = 128 + 1 * (J.val - 128); omega
    rw [e, View.canon_cons_emb]
    exact h2 (by omega)

section
open Idealize.ShloMosaic.TcCoe Idealize.SL.Sem

variable (m : (ℓ : Loc nD τ sig) → Buf (Elt Ideal) ℓ) (c : Dev nD)

theorem at_point : ∀ t : Fin cfg0.N, (grid0.coords t 0).val = t.val ∧ win0_0.index t = ![0, 0] ∧ win0_1.index t = ![t.val, 0] ∧ win0_2.index t = ![0, 0] :=
  (by decide +kernel : ∀ t : Fin grid0.N, (grid0.coords t 0).val = t.val ∧ win0_0.index t = ![0, 0] ∧ win0_1.index t = ![t.val, 0] ∧ win0_2.index t = ![0, 0])

abbrev argQ : FVec Ideal S640x64 .f32 := m ((c : Thread nD τ).loc main_arg0)
abbrev argA : FVec Ideal S100000x64 .f32 := m ((c : Thread nD τ).loc main_arg1)
abbrev argM : FVec Ideal S640x1 .f32 := m ((c : Thread nD τ).loc main_arg2)

theorem block_q (t : Fin cfg0.N) (y : S640x64.Idx) : (iblk m c 0 t : FVec Ideal S640x64 .f32) y = argQ m c y := by
  have e := (at_point t).2.1
  refine Eq.trans (congrArg (V m c main_arg0) (?_ : ((cfg0.win 0).blk t).view.emb y = y)) (congrFun (V_main_arg0 m c) y)
  funext a; apply Fin.ext
  match a with
  | ⟨0, _⟩ => show win0_0.index t (0 : Fin 2) * 640 + 1 * (y 0).val = (y 0).val; rw [e]; show 0 * 640 + 1 * _ = _; omega
  | ⟨1, _⟩ => show win0_0.index t (1 : Fin 2) * 64 + 1 * (y 1).val = (y 1).val; rw [e]; show 0 * 64 + 1 * _ = _; omega

theorem block_m (t : Fin cfg0.N) (y : S640x1.Idx) : (iblk m c 2 t : FVec Ideal S640x1 .f32) y = argM m c y := by
  have e := (at_point t).2.2.2
  refine Eq.trans (congrArg (V m c main_arg2) (?_ : ((cfg0.win 2).blk t).view.emb y = y)) (congrFun (V_main_arg2 m c) y)
  funext a; apply Fin.ext
  match a with
  | ⟨0, _⟩ => show win0_2.index t (0 : Fin 2) * 640 + 1 * (y 0).val = (y 0).val; rw [e]; show 0 * 640 + 1 * _ = _; omega
  | ⟨1, _⟩ => show win0_2.index t (1 : Fin 2) * 1 + 1 * (y 1).val = (y 1).val; rw [e]; show 0 * 1 + 1 * _ = _; omega

theorem table_apply (n : Fin 100352) (k : Fin 64) :
    (V m c main_v0 : FVec Ideal S100352x64 .f32) (ix2 n k) = if h : n.val < 100000 then argA m c (ix2 ⟨n.val, h⟩ k) else 0 := by
  rw [← Scores.sitofp_zero]
  unfold V
  after_reads_at

theorem block_a (t : Fin cfg0.N) (j : Fin 3584) (k : Fin 64) (h : 3584 * t.val + j.val < 100000) :
    (iblk m c 1 t : FVec Ideal S3584x64 .f32) (ix2 j k) = argA m c (ix2 ⟨3584 * t.val + j.val, h⟩ k) := by
  have e := (at_point t).2.2.1
  refine Eq.trans (congrArg (V m c main_v0) (?_ : ((cfg0.win 1).blk t).view.emb (ix2 j k) = ix2 ⟨3584 * t.val + j.val, by omega⟩ k))
    ((table_apply m c _ k).trans (dif_pos h))
  funext a; apply Fin.ext
  match a with
  | ⟨0, _⟩ => show win0_1.index t (0 : Fin 2) * 3584 + 1 * j.val = 3584 * t.val + j.val; rw [e]; show t.val * 3584 + 1 * _ = _; omega
  | ⟨1, _⟩ => show win0_1.index t (1 : Fin 2) * 64 + 1 * k.val = k.val; rw [e]; show 0 * 64 + 1 * _ = _; omega

/-- The exponentials a point computes. -/
theorem point_term (t : Fin cfg0.N) (r : Fin 640) (j : Fin 3584) :
    k0_pay5 (F := Ideal) (grid0.coords t) (iblk m c 0 t) (iblk m c 1 t) (iblk m c 2 t) (ix2 r j)
      = term (argQ m c) (argA m c) (argM m c) r (3584 * t.val + j.val) := by
  rw [pay5_apply, (at_point t).1, block_m]
  unfold term
  by_cases h : 3584 * t.val + j.val < 100000
  · rw [if_pos h, dif_pos h]
    unfold Scores.score
    simp only [block_q]
    rw [Finset.sum_congr rfl fun k _ => congrArg (argQ m c (ix2 r k) * ·) (block_a m c t j k h)]
  · rw [if_neg h, dif_neg h]

/-- A point's two stores over a scratch: 14 summands more in each column. -/
theorem point_sum (t : Fin cfg0.N) (s1 s2 : FVec Ideal S640x128 .f32) (L : List (View.Piece (Elt Ideal) S640x256 .f32)) (s : FVec Ideal S640x256 .f32)
    (h1 : ∀ (r : Fin 640) (l : Fin 128), s1 (ix2 r l) = s (ix2 r ⟨l.val, by omega⟩))
    (h2 : ∀ (r : Fin 640) (l : Fin 128), s2 (ix2 r l) = s (ix2 r ⟨128 + l.val, by omega⟩)) (r : Fin 640) (J : Fin 256)
    (hs : s (ix2 r J) = ∑ g ∈ Finset.range (14 * t.val), term (argQ m c) (argA m c) (argM m c) r (256 * g + J.val)) :
    (View.canon (⟨Rect.unit ![0, 128] ![640, 128] inb_S640x256_S640x128_0_128,
        k0_pay2 (k0_pay5 (grid0.coords t) (iblk m c 0 t) (iblk m c 1 t) (iblk m c 2 t)) (k0_pay7 (grid0.coords t) (iblk m c 0 t) (iblk m c 1 t) (iblk m c 2 t) s2)⟩
      :: ⟨Rect.unit ![0, 0] ![640, 128] inb_S640x256_S640x128_0_0,
        k0_pay1 (k0_pay5 (grid0.coords t) (iblk m c 0 t) (iblk m c 1 t) (iblk m c 2 t)) (k0_pay6 (grid0.coords t) (iblk m c 0 t) (iblk m c 1 t) (iblk m c 2 t) s1)⟩ :: L)
      : FVec Ideal S640x256 .f32) (ix2 r J)
      = ∑ g ∈ Finset.range (14 * (t.val + 1)), term (argQ m c) (argA m c) (argM m c) r (256 * g + J.val) := by
  have e : ∀ o : ℕ, o = J.val → s (ix2 r J) + ∑ g ∈ Finset.range 14, term (argQ m c) (argA m c) (argM m c) r (3584 * t.val + (256 * g + o))
      = ∑ g ∈ Finset.range (14 * (t.val + 1)), term (argQ m c) (argA m c) (argM m c) r (256 * g + J.val) := fun o ho => by
    subst ho
    rw [hs, Nat.mul_succ, Finset.sum_range_add]
    refine congrArg (_ + ·) (Finset.sum_congr rfl fun g _ => congrArg (term (argQ m c) (argA m c) (argM m c) r) ?_)
    omega
  refine halves _ _ L r J _ (fun h => ?_) (fun h => ?_)
  · rw [left_half _ _ _ _ _ rfl s1 r ⟨J.val, h⟩ (fun n => term (argQ m c) (argA m c) (argM m c) r (3584 * t.val + n)) (fun j => point_term m c t r j), h1]
    exact e _ rfl
  · rw [right_half _ _ _ _ _ rfl s2 r ⟨J.val - 128, by omega⟩ (fun n => term (argQ m c) (argA m c) (argM m c) r (3584 * t.val + n)) (fun j => point_term m c t r j), h2,
      show (⟨128 + (J.val - 128), by omega⟩ : Fin 256) = J from Fin.ext (by show 128 + (J.val - 128) = J.val; omega)]
    exact e _ (by show 128 + (J.val - 128) = J.val; omega)

theorem zero_off : (![0, 0] : Fin 2 → ℕ) = fun _ => 0 := by
  funext a; fin_cases a <;> rfl

theorem ld_left (s : FVec Ideal S640x256 .f32) (r : Fin 640) (l : Fin 128) :
    (View.ld (Val := Elt Ideal) (e' := .f32) (S := S640x256) s (Rect.unit ![0, 0] ![640, 128] inb_S640x256_S640x128_0_0) : FVec Ideal S640x128 .f32) (ix2 r l) = s (ix2 r ⟨l.val, by omega⟩) := by
  refine congrArg s ?_
  funext a; apply Fin.ext
  match a with
  | ⟨0, _⟩ => show 0 + 1 * r.val = r.val; omega
  | ⟨1, _⟩ => show 0 + 1 * l.val = l.val; omega

theorem ld_right (s : FVec Ideal S640x256 .f32) (r : Fin 640) (l : Fin 128) :
    (View.ld (Val := Elt Ideal) (e' := .f32) (S := S640x256) s (Rect.unit ![0, 128] ![640, 128] inb_S640x256_S640x128_0_128) : FVec Ideal S640x128 .f32) (ix2 r l) = s (ix2 r ⟨128 + l.val, by omega⟩) := by
  refine congrArg s ?_
  funext a; apply Fin.ext
  match a with
  | ⟨0, _⟩ => show 0 + 1 * r.val = r.val; omega
  | ⟨1, _⟩ => show 128 + 1 * l.val = 128 + l.val; omega

theorem pay4_apply (y : S640x256.Idx) : k0_pay4 (F := Ideal) y = 0 := by
  unfold k0_pay4
  pointwise

theorem scratch_sum (r : Fin 640) (J : Fin 256) : ∀ (n : ℕ) (hn : n < cfg0.N),
    (outsAt0 m c n hn).2 (ix2 r J) = ∑ g ∈ Finset.range (14 * (n + 1)), term (argQ m c) (argA m c) (argM m c) r (256 * g + J.val)
  | 0, hn => by
    rw [outsAt0_A m c ⟨0, hn⟩ (Nat.zero_mod _) (by show ¬ 0 % 28 = 27; decide)]
    frame_out
    rw [View.readCov_eq_canon_ld _ _ _ (fun y => View.cover_of_tiled _ S640x256.size (by rfl) y),
      View.readCov_eq_canon_ld _ _ _ (fun y => View.cover_of_tiled _ S640x256.size (by rfl) y), View.canon_unit_zero (S := S640x256) zero_off]
    exact point_sum m c ⟨0, hn⟩ _ _ _ (k0_pay4 (F := Ideal)) (ld_left _) (ld_right _) r J (pay4_apply _)
  | n + 1, hn => by
    have h28 : n + 1 < 28 := lt_of_lt_of_eq hn (show cfg0.N = 28 from N_0)
    have ih := scratch_sum r J n (Nat.lt_of_succ_lt hn)
    have hr : View.read (Elt Ideal) (View.whole cc0_scratch0) ((Memref.isWhole_whole cc0_scratch0).unread (outsAt0 m c n (Nat.lt_of_succ_lt hn)).2)
        = (outsAt0 m c n (Nat.lt_of_succ_lt hn)).2 := (Memref.isWhole_whole _).read_unread _
    by_cases h : (n + 1) % 28 = 27
    · rw [outsAt0_C m c ⟨n + 1, hn⟩ (by show ¬ (n + 1) % 28 = 0; omega) h]
      frame_out
      refine point_sum m c ⟨n + 1, hn⟩ _ _ _ (outsAt0 m c n (Nat.lt_of_succ_lt hn)).2 (fun r l => ?_) (fun r l => ?_) r J ih
      · exact (ld_left _ r l).trans (congrFun hr _)
      · exact (ld_right _ r l).trans (congrFun hr _)
    · rw [outsAt0_B m c ⟨n + 1, hn⟩ (by show ¬ (n + 1) % 28 = 0; omega) h]
      frame_out
      refine point_sum m c ⟨n + 1, hn⟩ _ _ _ (outsAt0 m c n (Nat.lt_of_succ_lt hn)).2 (fun r l => ?_) (fun r l => ?_) r J ih
      · exact (ld_left _ r l).trans (congrFun hr _)
      · exact (ld_right _ r l).trans (congrFun hr _)

theorem last_point (h27 : 27 < cfg0.N) : (outsAt0 m c 27 h27).1
    = k0_pay3 (View.ld (outsAt0 m c 27 h27).2 (Rect.unit ![0, 0] ![640, 128] inb_S640x256_S640x128_0_0))
        (View.ld (outsAt0 m c 27 h27).2 (Rect.unit ![0, 128] ![640, 128] inb_S640x256_S640x128_0_128)) := by
  rw [outsAt0_C m c ⟨27, h27⟩ (by show ¬ 27 % 28 = 0; decide) (by show 27 % 28 = 27; decide)]
  frame_out
  refine congrArg₂ (k0_pay3 (F := Ideal)) (View.readCov_eq_canon_ld _ _ _ ?_) (View.readCov_eq_canon_ld _ _ _ ?_) <;>
    exact fun y => View.cover_of_tiledL (s := S640x256) _ S640x128.size (by rfl) y

/-- Rows of 256 consecutive values, added up one column after another. -/
theorem sum_columns (f : ℕ → EReal) (n : ℕ) :
    ∑ j ∈ Finset.range 128, (∑ g ∈ Finset.range n, f (256 * g + j) + ∑ g ∈ Finset.range n, f (256 * g + (128 + j))) = ∑ k ∈ Finset.range (256 * n), f k := by
  rw [Finset.sum_add_distrib, ← Finset.sum_range_add (fun j => ∑ g ∈ Finset.range n, f (256 * g + j)) 128 128, Finset.sum_comm]
  induction n with
  | zero => rw [Finset.sum_range_zero, Nat.mul_zero, Finset.sum_range_zero]
  | succ n ih => rw [Finset.sum_range_succ, ih, Nat.mul_succ, Finset.sum_range_add f (256 * n) 256]

/-- The denominators the run leaves. -/
def result : FVec Ideal S640x1 .f32 := Value.G3 m c

theorem result_eq (i : S640x1.Idx) : result m c i = ∑ n ∈ Finset.range 100000, term (argQ m c) (argA m c) (argM m c) (i 0) n := by
  have h27 : 27 < cfg0.N := lt_of_lt_of_eq (by decide) (show cfg0.N = 28 from N_0).symm
  have e : ∑ k ∈ Finset.range (256 * 392), term (argQ m c) (argA m c) (argM m c) (i 0) k = ∑ k ∈ Finset.range 100000, term (argQ m c) (argA m c) (argM m c) (i 0) k :=
    (Finset.sum_subset (Finset.range_subset_range.2 (by decide)) fun k _ hk => dif_neg (by rwa [Finset.mem_range] at hk)).symm
  unfold result
  rw [Value.G3_last, ← Value.outsAt0_sweep m c 27 h27, last_point, ← e, ← sum_columns]
  refine pay3_apply _ _ i _ fun l => ?_
  exact congrArg₂ (fun u v : EReal => u + v) ((ld_left _ (i 0) l).trans (scratch_sum m c (i 0) _ 27 h27)) ((ld_right _ (i 0) l).trans (scratch_sum m c (i 0) _ 27 h27))

end

end Cert.DenominatorValue

end
-- ==== Proof.DenominatorRun.lean ====
/-
  The claims of the denominator call: the frames are its run's, and its result is the reference's sum.
-/
module

public import proofs.«01_k».proof.Defs
public import proofs.«01_k».proof.Proof.DenominatorValue
public import proofs.«01_k».proof.Proof.Gen.Denominator.Frame
public import Idealize.ShloMosaic.Adequacy
public import Idealize.ShloMosaic.Init

@[expose] public section

noncomputable section

namespace Cert.DenominatorRun

open Idealize.ShloMosaic Idealize.SL.Sem Cert.DenominatorValue

theorem frame_p : Cert.quiescent_Denominator := fun m ρ _ => Cert.Denominator.Gen.frame m ρ

theorem frame_pi : Cert.quiescent_DenominatorIdeal := fun m ρ _ => Cert.DenominatorIdeal.Gen.frame m ρ

theorem frame_ri : Cert.quiescent_DenominatorReferenceIdeal := fun m ρ _ =>
  (θ_run Cert.DenominatorReferenceIdeal.defs _ _).mono (fun r h => ⟨fun c => (h c).2, sem_eq_zero_of_no_sems (by decide) r.2⟩)
    (Cert.DenominatorReferenceIdeal.Value.run (F := Ideal) m ρ)

theorem algebraic : Cert.algebraic_DenominatorIdeal_DenominatorReferenceIdeal := by
  intro m ρ m' ρ' _ hagree
  refine ⟨fun c => result m c, Cert.DenominatorIdeal.Value.run (F := Ideal) m ρ,
    (θ_run Cert.DenominatorReferenceIdeal.defs _ _).mono (fun r h c => ⟨(h c).1.trans ?_, (h c).2⟩)
      (Cert.DenominatorReferenceIdeal.Value.run (F := Ideal) m' ρ')⟩
  rw [(hagree c).1, (hagree c).2.1, (hagree c).2.2]
  funext i
  exact (reference_eq (argQ m c) (argA m c) (argM m c) i).trans (result_eq m c i).symm

end Cert.DenominatorRun

end
-- ==== Proof.WeightsValue.lean ====
/-
  The weights call read at an index: each point writes one block of columns of the weights, and the greatest weight of each of
  the block's 28 groups of 128 columns.
-/
module

public import proofs.«01_k».proof.Proof.Scores
public import proofs.«01_k».proof.Proof.Gen.WeightsIdeal.Value
public import proofs.«01_k».proof.Proof.Gen.WeightsReferenceIdeal.Run
public import Idealize.ShloMosaic.Lib.StableHlo.ReadAt

@[expose] public section

noncomputable section

namespace Cert.WeightsValue

open Idealize.ShloMosaic

/-- The weight of row `r` at column `n`: the exponential over the denominator, zero over the denominator past the last item. -/
def weight (q : FVec Ideal ⟨2, ![640, 64]⟩ .f32) (a : FVec Ideal ⟨2, ![100000, 64]⟩ .f32) (rm dn : FVec Ideal ⟨2, ![640, 1]⟩ .f32)
    (r : Fin 640) (n : Fin 100352) : EReal :=
  Ideal.div (if h : n.val < 100000 then Ideal.exp (Scores.score q a r ⟨n.val, h⟩ - rm (ix2 r 0)) else 0) (dn (ix2 r 0))

/-- The greatest of the 128 values at columns `128 g …` of a row. -/
def groupMax {C : ℕ} (x : FVec Ideal ⟨2, ![640, C]⟩ .f32) (r : Fin 640) (g : ℕ) (hg : 128 * g + 128 ≤ C) : EReal :=
  (Finset.univ : Finset (Fin 128)).fold max (Ideal.ofBits FTy.f32 0xFF800000#32) fun l => x (ix2 r ⟨128 * g + l.val, by have := l.isLt; omega⟩)

/-! ## The reference -/

section
open Cert.WeightsReferenceIdeal Cert.WeightsReferenceIdeal.Gen

theorem reference_weight (q : FVec Ideal S640x64 .f32) (a : FVec Ideal S100000x64 .f32) (rm dn : FVec Ideal S640x1 .f32) (i : S640x100352.Idx) :
    (Host.divf (pad S640x100352 ![0, 0] ![0, 352] ![0, 0] (Host.exp (subf
        (Host.dotGeneral dot_S640x64_S100000x64_S640x100000_1_1_0_0_n_n none q a)
        (broadcastInDim S640x100000 ![0, 1] bcast_S640x1_S640x100000_0_1 rm)))
        (sitofp .f32 (constantI S_ 32 0#32)) pads_S640x100000_S640x100352_000_03520 h_S_)
      (broadcastInDim S640x100352 ![0, 1] bcast_S640x1_S640x100352_0_1 dn) : FVec Ideal S640x100352 .f32) i
      = weight q a rm dn (i 0) (i 1) := by
  pointwise
  unfold weight Scores.score
  rw [Scores.sitofp_zero]

theorem reference_best (x : FVec Ideal S640x100352 .f32) (r : Fin 640) (j : Fin 3584) (v : EReal)
    (hp : ∀ h : j.val % 128 < 28, v = groupMax x r (28 * (j.val / 128) + j.val % 128) (by have := j.isLt; omega))
    (hn : ¬ j.val % 128 < 28 → v = Ideal.ofBits FTy.f32 0xFF800000#32) :
    (shapeCast _ (pad S640x28x128 ![0, 0, 0] ![0, 0, 100] ![0, 0, 0] (Host.reduce FloatOps.maximumf
        (shapeCast _ x shapeCasts_S640x100352_S640x28x28x128) (constant S_ .f32 0xFF800000#32) reducesTo_S640x28x28x128_S640x28x28_d3 h_S_)
        (id (constant S_ .f32 0xFF800000#32)) pads_S640x28x28_S640x28x128_000_000_01000 h_S_) shapeCasts_S640x28x128_S640x3584
        : FVec Ideal S640x3584 .f32) (ix2 r j) = v := by
  have hj := j.isLt
  pointwise
  by_cases h : j.val % 128 < 28
  · refine (dif_pos (⟨by omega, h⟩ : _ ∧ _)).trans ((hp h).trans ?_).symm
    unfold groupMax
    congr 1
    funext l
    exact congrArg (fun n => x (ix2 r n)) (Fin.ext (by dsimp only; omega))
  · refine (dif_neg (fun e : _ ∧ _ => h e.2)).trans (hn h).symm

end

/-! ## The body -/

open Cert.WeightsIdeal Cert.WeightsIdeal.Gen

theorem pay2_apply (i : grid0.Coords) (q : FVec Ideal S640x64 .f32) (b : FVec Ideal S3584x64 .f32) (rm dn : FVec Ideal S640x1 .f32)
    (y : S640x3584.Idx) :
    k0_pay2 (F := Ideal) i q b rm dn y
      = Ideal.div (if 3584 * (i 0).val + (y 1).val < 100000 then Ideal.exp ((∑ k : Fin 64, q (ix2 (y 0) k) * b (ix2 (y 1) k)) - rm (ix2 (y 0) 0)) else 0)
          (dn (ix2 (y 0) 0)) := by
  unfold k0_pay2
  pointwise
  rw [Scores.select_item _ _ (i 0).isLt (y 1).isLt]

/-- The first `n` groups' greatest values in lanes below `n`, the start value in the others. -/
def Lanes (x : FVec Ideal S640x3584 .f32) (r : Fin 640) (j : Fin 128) (n : ℕ) (v : EReal) : Prop :=
  v = if h : j.val < 28 ∧ j.val < n then groupMax x r j.val (by omega) else Ideal.ofBits FTy.f32 0xFF800000#32

theorem Lanes.step {x : FVec Ideal S640x3584 .f32} {r : Fin 640} {j : Fin 128} {n : ℕ} {v : EReal} (h : Lanes x r j n v) (hn : n < 28)
    {f : Fin 128 → EReal} (hf : ∀ l, f l = x (ix2 r ⟨128 * n + l.val, by have := l.isLt; omega⟩)) :
    Lanes x r j (n + 1) (Scalar.select (IntOp.cmpi .eq (BitVec.ofNat 32 j.val) (BitVec.ofNat 32 n))
      ((Finset.univ : Finset (Fin 128)).fold max (Ideal.ofBits FTy.f32 0xFF800000#32) f) v) := by
  rw [Scores.select_lane _ _ (by have := j.isLt; omega) (by omega), funext hf]
  unfold Lanes at h ⊢
  by_cases e : j.val = n
  · subst e
    rw [if_pos rfl, dif_pos ⟨hn, Nat.lt_succ_self _⟩]
    rfl
  · rw [if_neg e, h]
    by_cases e' : j.val < 28 ∧ j.val < n
    · rw [dif_pos e', dif_pos ⟨e'.1, by omega⟩]
    · rw [dif_neg e', dif_neg (by omega)]

/-- The second store's payload, group by group. -/
theorem best_lanes (i : grid0.Coords) (q : FVec Ideal S640x64 .f32) (b : FVec Ideal S3584x64 .f32) (rm dn : FVec Ideal S640x1 .f32)
    (x : FVec Ideal S640x3584 .f32) (hx : k0_pay2 (F := Ideal) i q b rm dn = x) (l : IVec S640x128 32)
    (hl : l = iota .tc S640x128 32 [1] iota_S640x128_d1_w32) (y : S640x128.Idx) :
    Lanes x (y 0) (y 1) 28 (k0_pay1 x l (k0_pay7 x l (k0_pay6 x l (k0_pay5 x l (k0_pay4 x l (k0_pay3 i q b rm dn))))) y) := by
  subst hl
  unfold k0_pay1 k0_pay7 k0_pay6 k0_pay5 k0_pay4 k0_pay3
  rw [hx]
  pointwise
  iterate 27 refine Lanes.step ?_ (by decide) (fun l => rfl)
  refine Lanes.step (n := 0) ?_ (by decide) (fun l => congrArg (fun n => x (ix2 (y 0) n)) (Fin.ext (by dsimp only; omega)))
  unfold Lanes
  rw [dif_neg (by omega)]

/-! ## The blocks a point reads -/

section
open Idealize.ShloMosaic.TcCoe Idealize.SL.Sem

variable (m : (ℓ : Loc nD τ sig) → Buf (Elt Ideal) ℓ) (c : Dev nD)

theorem zero_off : (![0, 0] : Fin 2 → ℕ) = fun _ => 0 := by
  funext a; fin_cases a <;> rfl

theorem at_point : ∀ t : Fin cfg0.N, (grid0.coords t 0).val = t.val ∧ win0_0.index t = ![0, 0] ∧ win0_1.index t = ![t.val, 0]
    ∧ win0_2.index t = ![0, 0] ∧ win0_3.index t = ![0, 0] ∧ win0_4.index t = ![0, t.val] ∧ win0_5.index t = ![0, t.val] :=
  (by decide +kernel : ∀ t : Fin grid0.N, (grid0.coords t 0).val = t.val ∧ win0_0.index t = ![0, 0] ∧ win0_1.index t = ![t.val, 0]
    ∧ win0_2.index t = ![0, 0] ∧ win0_3.index t = ![0, 0] ∧ win0_4.index t = ![0, t.val] ∧ win0_5.index t = ![0, t.val])

abbrev argQ : FVec Ideal S640x64 .f32 := m ((c : Thread nD τ).loc main_arg0)
abbrev argA : FVec Ideal S100000x64 .f32 := m ((c : Thread nD τ).loc main_arg1)
abbrev argM : FVec Ideal S640x1 .f32 := m ((c : Thread nD τ).loc main_arg2)
abbrev argD : FVec Ideal S640x1 .f32 := m ((c : Thread nD τ).loc main_arg3)

theorem block_q (t : Fin cfg0.N) (y : S640x64.Idx) : (iblk m c 0 t : FVec Ideal S640x64 .f32) y = argQ m c y := by
  have e := (at_point t).2.1
  refine Eq.trans (congrArg (V m c main_arg0) (?_ : ((cfg0.win 0).blk t).view.emb y = y)) (congrFun (V_main_arg0 m c) y)
  funext a; apply Fin.ext
  match a with
  | ⟨0, _⟩ => show win0_0.index t (0 : Fin 2) * 640 + 1 * (y 0).val = (y 0).val; rw [e]; show 0 * 640 + 1 * _ = _; omega
  | ⟨1, _⟩ => show win0_0.index t (1 : Fin 2) * 64 + 1 * (y 1).val = (y 1).val; rw [e]; show 0 * 64 + 1 * _ = _; omega

theorem block_m (t : Fin cfg0.N) (y : S640x1.Idx) : (iblk m c 2 t : FVec Ideal S640x1 .f32) y = argM m c y := by
  have e := (at_point t).2.2.2.1
  refine Eq.trans (congrArg (V m c main_arg2) (?_ : ((cfg0.win 2).blk t).view.emb y = y)) (congrFun (V_main_arg2 m c) y)
  funext a; apply Fin.ext
  match a with
  | ⟨0, _⟩ => show win0_2.index t (0 : Fin 2) * 640 + 1 * (y 0).val = (y 0).val; rw [e]; show 0 * 640 + 1 * _ = _; omega
  | ⟨1, _⟩ => show win0_2.index t (1 : Fin 2) * 1 + 1 * (y 1).val = (y 1).val; rw [e]; show 0 * 1 + 1 * _ = _; omega

theorem block_d (t : Fin cfg0.N) (y : S640x1.Idx) : (iblk m c 3 t : FVec Ideal S640x1 .f32) y = argD m c y := by
  have e := (at_point t).2.2.2.2.1
  refine Eq.trans (congrArg (V m c main_arg3) (?_ : ((cfg0.win 3).blk t).view.emb y = y)) (congrFun (V_main_arg3 m c) y)
  funext a; apply Fin.ext
  match a with
  | ⟨0, _⟩ => show win0_3.index t (0 : Fin 2) * 640 + 1 * (y 0).val = (y 0).val; rw [e]; show 0 * 640 + 1 * _ = _; omega
  | ⟨1, _⟩ => show win0_3.index t (1 : Fin 2) * 1 + 1 * (y 1).val = (y 1).val; rw [e]; show 0 * 1 + 1 * _ = _; omega

/-- The padded table, at a row. -/
theorem table_apply (n : Fin 100352) (k : Fin 64) :
    (V m c main_v0 : FVec Ideal S100352x64 .f32) (ix2 n k) = if h : n.val < 100000 then argA m c (ix2 ⟨n.val, h⟩ k) else 0 := by
  rw [← Scores.sitofp_zero]
  unfold V
  after_reads_at

theorem block_a (t : Fin cfg0.N) (j : Fin 3584) (k : Fin 64) (h : 3584 * t.val + j.val < 100000) :
    (iblk m c 1 t : FVec Ideal S3584x64 .f32) (ix2 j k) = argA m c (ix2 ⟨3584 * t.val + j.val, h⟩ k) := by
  have e := (at_point t).2.2.1
  refine Eq.trans (congrArg (V m c main_v0) (?_ : ((cfg0.win 1).blk t).view.emb (ix2 j k) = ix2 ⟨3584 * t.val + j.val, by omega⟩ k))
    ((table_apply m c _ k).trans (dif_pos h))
  funext a; apply Fin.ext
  match a with
  | ⟨0, _⟩ => show win0_1.index t (0 : Fin 2) * 3584 + 1 * j.val = 3584 * t.val + j.val; rw [e]; show t.val * 3584 + 1 * _ = _; omega
  | ⟨1, _⟩ => show win0_1.index t (1 : Fin 2) * 64 + 1 * k.val = k.val; rw [e]; show 0 * 64 + 1 * _ = _; omega

theorem lt_points (t : Fin cfg0.N) : t.val < 28 := lt_of_lt_of_eq t.isLt (show cfg0.N = 28 from N_0)

/-- The weights a point computes, at a column of its block. -/
theorem point_weight (t : Fin cfg0.N) (y : S640x3584.Idx) :
    k0_pay2 (F := Ideal) (grid0.coords t) (View.ld (iblk m c 0 t) r0_0) (View.ld (iblk m c 1 t) r0_1) (View.ld (iblk m c 2 t) r0_2) (View.ld (iblk m c 3 t) r0_2) y
      = weight (argQ m c) (argA m c) (argM m c) (argD m c) (y 0) ⟨3584 * t.val + (y 1).val, by
          have := lt_points t; have : (y 1).val < 3584 := (y 1).isLt; omega⟩ := by
  have h1 : (y 1).val < 3584 := (y 1).isLt
  rw [View.ld_unit_zero (S := S640x64) zero_off, View.ld_unit_zero (S := S3584x64) zero_off, View.ld_unit_zero (S := S640x1) zero_off,
    View.ld_unit_zero (S := S640x1) zero_off, pay2_apply, (at_point t).1, block_m, block_d]
  unfold weight
  by_cases h : 3584 * t.val + (y 1).val < 100000
  · rw [if_pos h, dif_pos h]
    unfold Scores.score
    simp only [block_q]
    rw [Finset.sum_congr rfl fun k _ => congrArg (argQ m c (ix2 (y 0) k) * ·) (block_a m c t (y 1) k h)]
  · rw [if_neg h, dif_neg h]

/-! ## The two results -/

/-- The weights. -/
def resultW : Buf (Elt Ideal) ((c : Thread nD τ).loc main_v1_0) :=
  fun i : S640x100352.Idx => weight (argQ m c) (argA m c) (argM m c) (argD m c) (i 0) (i 1)

/-- The greatest weight of each group, 28 lanes of 128 in use. -/
def resultB : Buf (Elt Ideal) ((c : Thread nD τ).loc main_v1_1) :=
  fun i : S640x3584.Idx => if h : (i 1).val % 128 < 28 then
    groupMax (resultW m c : FVec Ideal S640x100352 .f32) (i 0) (28 * ((i 1).val / 128) + (i 1).val % 128) (by have : (i 1).val < 3584 := (i 1).isLt; omega)
  else Ideal.ofBits FTy.f32 0xFF800000#32

theorem resultB_rest (r : Fin 640) (n : Fin 3584) (h : ¬ n.val % 128 < 28) :
    (resultB m c : FVec Ideal S640x3584 .f32) (ix2 r n) = Ideal.ofBits FTy.f32 0xFF800000#32 := by
  unfold resultB
  exact dif_neg h

theorem flushed_w (t : Fin cfg0.N) : (dats m 0 c).flushed 4 t = ((cfg0.win 4).blk t).view.read (Elt Ideal) (resultW m c) := by
  rw [Value.flushed4]
  funext y
  show out0_4 (grid0.coords t) (iblk m c 0 t) (iblk m c 1 t) (iblk m c 2 t) (iblk m c 3 t) (y : S640x3584.Idx) = resultW m c (((cfg0.win 4).blk t).view.emb y)
  unfold out0_4
  rw [View.canon_unit_zero (S := S640x3584) zero_off]
  refine (point_weight m c t y).trans ?_
  have e := (at_point t).2.2.2.2.2.1
  refine congrArg₂ (weight (argQ m c) (argA m c) (argM m c) (argD m c)) (Fin.ext ?_) (Fin.ext ?_)
  · show (y 0).val = win0_4.index t (0 : Fin 2) * 640 + 1 * (y 0).val
    rw [e]; show _ = 0 * 640 + 1 * _; omega
  · show 3584 * t.val + (y 1).val = win0_4.index t (1 : Fin 2) * 3584 + 1 * (y 1).val
    rw [e]; show _ = t.val * 3584 + 1 * _; omega

theorem flushed_b (t : Fin cfg0.N) : (dats m 0 c).flushed 5 t = ((cfg0.win 5).blk t).view.read (Elt Ideal) (resultB m c) := by
  rw [Value.flushed5]
  funext y
  show out0_5 (grid0.coords t) (iblk m c 0 t) (iblk m c 1 t) (iblk m c 2 t) (iblk m c 3 t) (y : S640x128.Idx) = resultB m c (((cfg0.win 5).blk t).view.emb y)
  have ht := lt_points t
  have h0 : (y 0).val < 640 := (y 0).isLt
  have h1 : (y 1).val < 128 := (y 1).isLt
  have e := (at_point t).2.2.2.2.2.2
  have he : ((cfg0.win 5).blk t).view.emb y = (ix2 ⟨(y 0).val, h0⟩ ⟨128 * t.val + (y 1).val, by omega⟩ : S640x3584.Idx) := by
    funext a; apply Fin.ext
    match a with
    | ⟨0, _⟩ => show win0_5.index t (0 : Fin 2) * 640 + 1 * (y 0).val = (y 0).val; rw [e]; show 0 * 640 + 1 * _ = _; omega
    | ⟨1, _⟩ => show win0_5.index t (1 : Fin 2) * 128 + 1 * (y 1).val = 128 * t.val + (y 1).val; rw [e]; show t.val * 128 + 1 * _ = _; omega
  rw [he]
  unfold out0_5
  rw [View.canon_unit_zero (S := S640x128) zero_off]
  refine (best_lanes (grid0.coords t) _ _ _ _ (k0_pay9 (grid0.coords t) (iblk m c 0 t) (iblk m c 1 t) (iblk m c 2 t) (iblk m c 3 t)) rfl _ rfl y).trans ?_
  by_cases h : (y 1).val < 28
  · unfold resultB
    refine (dif_pos (⟨h, h⟩ : _ ∧ _)).trans (Eq.trans ?_ (dif_pos (by show (128 * t.val + (y 1).val) % 128 < 28; omega)).symm)
    unfold groupMax
    congr 1
    funext l
    have hl := l.isLt
    refine (point_weight m c t _).trans ?_
    refine congrArg₂ (weight (argQ m c) (argA m c) (argM m c) (argD m c)) (Fin.ext rfl) (Fin.ext ?_)
    show 3584 * t.val + (128 * (y 1).val + l.val) = 128 * (28 * ((128 * t.val + (y 1).val) / 128) + (128 * t.val + (y 1).val) % 128) + l.val
    omega
  · have h' : ¬ (128 * t.val + (y 1).val) % 128 < 28 := by omega
    exact (dif_neg (fun e : _ ∧ _ => h e.2)).trans (resultB_rest m c _ _ h').symm

theorem flush_all : ∀ t : Fin cfg0.N, (cfg0.win 4).flush t = true ∧ (cfg0.win 5).flush t = true :=
  (by decide +kernel : ∀ t : Fin grid0.N, win0_4.flush t = true ∧ win0_5.flush t = true)

theorem final_w : (dats m 0 c).arrAt 4 cfg0.N = resultW m c :=
  (dats m 0 c).arrAt_eq_of_cover 4 _ (fun t _ => flushed_w m c t) fun i => by
    have h0 : (i 0).val < 640 := (i 0).isLt
    have h1 : (i 1).val < 100352 := (i 1).isLt
    have hN : (i 1).val / 3584 < cfg0.N := lt_of_lt_of_eq (by omega) (show cfg0.N = 28 from N_0).symm
    refine ⟨⟨(i 1).val / 3584, hN⟩, (flush_all _).1, ?_⟩
    show i ∈ ((View.whole main_v1_0).slice (win0_4.rect ⟨(i 1).val / 3584, hN⟩)).set
    rw [View.set_slice_whole, Rect.mem_set_unit]
    have e := (at_point ⟨(i 1).val / 3584, hN⟩).2.2.2.2.2.1
    intro a
    match a with
    | ⟨0, _⟩ =>
      show win0_4.index _ (0 : Fin 2) * 640 ≤ (i 0).val ∧ (i 0).val < win0_4.index _ (0 : Fin 2) * 640 + 640
      rw [e]; show 0 * 640 ≤ _ ∧ _ < 0 * 640 + 640; omega
    | ⟨1, _⟩ =>
      show win0_4.index _ (1 : Fin 2) * 3584 ≤ (i 1).val ∧ (i 1).val < win0_4.index _ (1 : Fin 2) * 3584 + 3584
      rw [e]; show (i 1).val / 3584 * 3584 ≤ _ ∧ _ < (i 1).val / 3584 * 3584 + 3584; omega

theorem final_b : (dats m 0 c).arrAt 5 cfg0.N = resultB m c :=
  (dats m 0 c).arrAt_eq_of_cover 5 _ (fun t _ => flushed_b m c t) fun i => by
    have h0 : (i 0).val < 640 := (i 0).isLt
    have h1 : (i 1).val < 3584 := (i 1).isLt
    have hN : (i 1).val / 128 < cfg0.N := lt_of_lt_of_eq (by omega) (show cfg0.N = 28 from N_0).symm
    refine ⟨⟨(i 1).val / 128, hN⟩, (flush_all _).2, ?_⟩
    show i ∈ ((View.whole main_v1_1).slice (win0_5.rect ⟨(i 1).val / 128, hN⟩)).set
    rw [View.set_slice_whole, Rect.mem_set_unit]
    have e := (at_point ⟨(i 1).val / 128, hN⟩).2.2.2.2.2.2
    intro a
    match a with
    | ⟨0, _⟩ =>
      show win0_5.index _ (0 : Fin 2) * 640 ≤ (i 0).val ∧ (i 0).val < win0_5.index _ (0 : Fin 2) * 640 + 640
      rw [e]; show 0 * 640 ≤ _ ∧ _ < 0 * 640 + 640; omega
    | ⟨1, _⟩ =>
      show win0_5.index _ (1 : Fin 2) * 128 ≤ (i 1).val ∧ (i 1).val < win0_5.index _ (1 : Fin 2) * 128 + 128
      rw [e]; show (i 1).val / 128 * 128 ≤ _ ∧ _ < (i 1).val / 128 * 128 + 128; omega

/-- What the reference computes is what the points write. -/
theorem reference_w (q : FVec Ideal S640x64 .f32) (a : FVec Ideal S100000x64 .f32) (rm dn : FVec Ideal S640x1 .f32)
    (hq : q = argQ m c) (ha : a = argA m c) (hm : rm = argM m c) (hd : dn = argD m c) (x : FVec Ideal S640x100352 .f32)
    (hx : ∀ i, x i = weight q a rm dn (i 0) (i 1)) : x = resultW m c := by
  subst hq ha hm hd
  funext i
  exact hx i

end

end Cert.WeightsValue

end
-- ==== Proof.WeightsRun.lean ====
/-
  The claims of the weights call: the frames are its run's, and its two results are the reference's.
-/
module

public import proofs.«01_k».proof.Defs
public import proofs.«01_k».proof.Proof.WeightsValue
public import proofs.«01_k».proof.Proof.Gen.Weights.Frame
public import Idealize.ShloMosaic.Adequacy
public import Idealize.ShloMosaic.Init

@[expose] public section

noncomputable section

namespace Cert.WeightsRun

open Idealize.ShloMosaic Idealize.SL.Sem Cert.WeightsValue

theorem frame_p : Cert.quiescent_Weights := fun m ρ _ => Cert.Weights.Gen.frame m ρ

theorem frame_pi : Cert.quiescent_WeightsIdeal := fun m ρ _ => Cert.WeightsIdeal.Gen.frame m ρ

theorem frame_ri : Cert.quiescent_WeightsReferenceIdeal := fun m ρ _ =>
  (θ_run Cert.WeightsReferenceIdeal.defs _ _).mono (fun r h => ⟨fun c => (h c).2.2, sem_eq_zero_of_no_sems (by decide) r.2⟩)
    (Cert.WeightsReferenceIdeal.Value.run (F := Ideal) m ρ)

theorem algebraic : Cert.algebraic_WeightsIdeal_WeightsReferenceIdeal := by
  intro m ρ m' ρ' _ hagree
  have hx := fun c => reference_w m c _ _ _ _ (hagree c).1 (hagree c).2.1 (hagree c).2.2.1 (hagree c).2.2.2 _ (reference_weight _ _ _ _)
  refine ⟨fun c => resultW m c, fun c => resultB m c,
    (θ_run Cert.WeightsIdeal.defs _ _).mono (fun r h c => ⟨(h c).1.trans (final_w m c), (h c).2.1.trans (final_b m c), (h c).2.2⟩)
      (Cert.WeightsIdeal.Value.run_blocks (F := Ideal) m ρ),
    (θ_run Cert.WeightsReferenceIdeal.defs _ _).mono (fun r h c => ⟨(h c).1.trans (hx c), (h c).2.1.trans ?_, (h c).2.2⟩)
      (Cert.WeightsReferenceIdeal.Value.run (F := Ideal) m' ρ')⟩
  rw [hx c]
  funext i
  obtain ⟨r, j, rfl⟩ : ∃ (r : Fin 640) (j : Fin 3584), i = ix2 r j := ⟨i 0, i 1, by funext a; match a with | ⟨0, _⟩ => rfl | ⟨1, _⟩ => rfl⟩
  exact reference_best _ r j (resultB m c (ix2 r j)) (fun h => dif_pos h) (fun h => dif_neg h)

end Cert.WeightsRun

end
-- ==== Proof.Rounds.lean ====
/-
  The order of a row by greater values first and, of the equal ones, by smaller numbers first, and the rounds that take the first entry
  of that order and put minus infinity in its place: round `t` takes the entry at place `t`.
-/
module

public import Idealize.ShloMosaic.PureOps.Ideal.Laws
public import Idealize.ShloMosaic.Lib.SortFacts
public import Idealize.ShloMosaic.Lib.Pointwise

@[expose] public section

noncomputable section

namespace Cert.Rounds

open Idealize.ShloMosaic

/-! ## Words -/

theorem toInt_word (w : BitVec 32) (h : w.toNat < 2 ^ 31) : w.toInt = (w.toNat : ℤ) := by
  rw [BitVec.toInt_eq_toNat_cond]
  split <;> omega

theorem toInt_minsi (x y : BitVec 32) : (IntOp.minsi x y).toInt = min x.toInt y.toInt := by
  unfold IntOp.minsi BitVec.slt
  by_cases h : x.toInt < y.toInt
  · simp [h, h.le]
  · simp [h, not_lt.1 h]

/-- A signed minimum over a row is the entry below all others. -/
theorem least {n : ℕ} (f : Fin n → BitVec 32) (b w : BitVec 32) (k : Fin n) (hk : f k = w) (hb : w.toInt ≤ b.toInt)
    (h : ∀ j, w.toInt ≤ (f j).toInt) : Finset.univ.fold IntOp.minsi b f = w := by
  apply BitVec.eq_of_toInt_eq
  rw [← Finset.fold_hom (op' := min) (m := BitVec.toInt) toInt_minsi]
  exact le_antisymm ((Finset.fold_min_le _).2 (Or.inr ⟨k, Finset.mem_univ k, (congrArg BitVec.toInt hk).le⟩))
    ((Finset.le_fold_min _).2 ⟨hb, fun j _ => h j⟩)

/-! ## The order -/

variable {n : ℕ} (x : Fin n → EReal) (o : Fin n → ℕ)

/-- Position `a` comes before `b`: its value is greater, or equal with a smaller number. -/
def ahead (a b : Fin n) : Bool := decide (x b < x a ∨ x a = x b ∧ o a < o b)

/-- The positions of a row in that order. -/
def place : Fin n → Fin n := sortedFrom (ahead x o)

theorem stable_ahead : ∀ l : List (Fin n), l.Pairwise (· < ·) → stableSort (fun a b => decide (x b < x a)) l = stableSort (ahead x Fin.val) l
  | [], _ => rfl
  | a :: l, h => by
    have h' := List.pairwise_cons.1 h
    unfold stableSort
    rw [stable_ahead l h'.2]
    refine insertBefore_congr _ _ _ _ fun b hb => ?_
    have hab := h'.1 b ((perm_stableSort _ l).mem_iff.1 hb)
    unfold ahead
    exact decide_eq_decide.2 ⟨Or.inl, fun h => h.resolve_right fun e => lt_asymm hab e.2⟩

/-- A stable sort by greater values numbers the positions from the left. -/
theorem place_eq : (sortedFrom fun a b => decide (x b < x a)) = place x Fin.val := by
  funext k
  unfold place sortedFrom
  exact List.get_of_eq (stable_ahead x _ (List.pairwise_lt_finRange n)) _

variable (ho : Function.Injective o)
include ho

theorem place_order (i j : Fin n) (h : i < j) : x (place x o j) < x (place x o i) ∨ x (place x o i) = x (place x o j) ∧ o (place x o i) < o (place x o j) := by
  have hne : o (place x o i) ≠ o (place x o j) := fun e => h.ne (sortedFrom_injective _ (ho e))
  have hn : ahead x o (place x o j) (place x o i) = false := by
    refine sortedFrom_noInversion (ahead x o) (ahead x o) (fun a b hab => ?_) (fun _ _ => id) (fun a b c hab hbc => ?_) i j h
    · unfold ahead at hab ⊢
      rw [decide_eq_true_iff] at hab
      rw [decide_eq_false_iff_not]
      rintro (h1 | ⟨h1, h2⟩) <;> rcases hab with h3 | ⟨h3, h4⟩
      · exact lt_asymm h1 h3
      · exact h1.ne h3
      · exact h3.ne h1
      · exact lt_asymm h2 h4
    · unfold ahead at hab hbc ⊢
      rw [decide_eq_false_iff_not] at hab hbc ⊢
      rw [not_or] at hab hbc
      have h1 := not_lt.1 hab.1
      have h2 := not_lt.1 hbc.1
      rintro (h3 | ⟨h3, h4⟩)
      · exact absurd (h1.trans h2) (not_le.2 h3)
      · have e1 : x a = x b := le_antisymm h1 (h3 ▸ h2)
        have e2 : x b = x c := e1 ▸ h3
        exact absurd h4 (not_lt.2 ((not_lt.1 fun l => hbc.2 ⟨e2, l⟩).trans (not_lt.1 fun l => hab.2 ⟨e1, l⟩)))
  unfold ahead at hn
  rw [decide_eq_false_iff_not, not_or] at hn
  rcases (not_lt.1 hn.1).lt_or_eq with h1 | h1
  · exact Or.inl h1
  · exact Or.inr ⟨h1.symm, lt_of_le_of_ne (not_lt.1 fun l => hn.2 ⟨h1, l⟩) hne⟩

/-- The row after `t` rounds: the entries taken are minus infinity. -/
def after (t : ℕ) (k : Fin n) : EReal := open Classical in if ∃ s : Fin n, s.val < t ∧ place x o s = k then ⊥ else x k

omit ho in
theorem after_zero : after x o 0 = x := by
  funext k
  unfold after
  exact if_neg fun ⟨_, h, _⟩ => absurd h (Nat.not_lt_zero _)

omit ho in
theorem after_place (t : Fin n) : after x o t.val (place x o t) = x (place x o t) := by
  unfold after
  refine if_neg fun ⟨s, h, e⟩ => ?_
  exact absurd h (by rw [sortedFrom_injective _ e]; exact lt_irrefl _)

omit ho in
/-- An entry not taken before round `t` is at place `t` or later. -/
theorem later (t k : Fin n) (h : ¬ ∃ s : Fin n, s.val < t.val ∧ place x o s = k) : ∃ j, t ≤ j ∧ place x o j = k := by
  obtain ⟨j, e⟩ := sortedFrom_surjective (ahead x o) k
  exact ⟨j, not_lt.1 fun l => h ⟨j, l, e⟩, e⟩

theorem after_le (t k : Fin n) : after x o t.val k ≤ x (place x o t) := by
  unfold after
  split
  · exact bot_le
  · rename_i h
    obtain ⟨j, hj, rfl⟩ := later x o t k h
    rcases hj.lt_or_eq with l | rfl
    · rcases place_order x o ho t j l with h1 | h1
      · exact h1.le
      · exact h1.1.ge
    · exact le_rfl

theorem first (t k : Fin n) (hx : ⊥ < x (place x o t)) (h : after x o t.val k = x (place x o t)) : o (place x o t) ≤ o k := by
  unfold after at h
  split at h
  · exact absurd h hx.ne
  · rename_i hk
    obtain ⟨j, hj, rfl⟩ := later x o t k hk
    rcases hj.lt_or_eq with l | rfl
    · rcases place_order x o ho t j l with h1 | h1
      · exact absurd h h1.ne
      · exact h1.2.le
    · exact le_rfl

omit ho in
theorem after_succ (t k : Fin n) : after x o (t.val + 1) k = if k = place x o t then ⊥ else after x o t.val k := by
  by_cases hk : k = place x o t
  · rw [if_pos hk]
    unfold after
    exact if_pos ⟨t, Nat.lt_succ_self _, hk.symm⟩
  · rw [if_neg hk]
    unfold after
    have e : (∃ s : Fin n, s.val < t.val + 1 ∧ place x o s = k) ↔ ∃ s : Fin n, s.val < t.val ∧ place x o s = k := by
      constructor
      · rintro ⟨s, hs, rfl⟩
        refine ⟨s, lt_of_le_of_ne (Nat.lt_succ_iff.1 hs) fun h => hk (congrArg (place x o) (Fin.ext h)), rfl⟩
      · rintro ⟨s, hs, h⟩
        exact ⟨s, Nat.lt_succ_of_lt hs, h⟩
    simp only [e]

/-! ## What a round takes -/

variable (v : Fin n → EReal) (t : Fin n) (hv : ∀ k, v k = after x o t.val k)
include hv

theorem greatest : Finset.univ.fold max ⊥ v = x (place x o t) :=
  le_antisymm ((Finset.fold_max_le _).2 ⟨bot_le, fun k _ => (hv k).le.trans (after_le x o ho t k)⟩)
    ((Finset.le_fold_max _).2 (Or.inr ⟨place x o t, Finset.mem_univ _, ((hv _).trans (after_place x o t)).ge⟩))

/-- The smallest word of the entries with the greatest value is that of the entry at place `t`. -/
theorem taken (w f : Fin n → BitVec 32) (hw : ∀ k, (w k).toNat = o k) (hb : ∀ k, o k < 2 ^ 30) (hx : ⊥ < x (place x o t))
    (h1 : ∀ k, v k = x (place x o t) → f k = w k) (h2 : ∀ k, v k ≠ x (place x o t) → f k = 1073741824#32) :
    Finset.univ.fold IntOp.minsi 2147483647#32 f = w (place x o t) := by
  have e : ∀ k, (w k).toInt = (o k : ℤ) := fun k => (toInt_word _ (by rw [hw]; exact lt_trans (hb k) (by decide))).trans (congrArg _ (hw k))
  have h := hb (place x o t)
  refine least _ _ _ (place x o t) (h1 _ ((hv _).trans (after_place x o t))) ?_ fun k => ?_
  · rw [e]
    show _ ≤ (2147483647 : ℤ)
    omega
  · rw [e]
    by_cases hk : v k = x (place x o t)
    · rw [h1 k hk, e]
      exact Int.ofNat_le.2 (first x o ho t k hx ((hv k).symm.trans hk))
    · rw [h2 k hk]
      show _ ≤ (1073741824 : ℤ)
      omega

end Cert.Rounds

end
-- ==== Proof.Whole.lean ====
/-
  One store over a whole buffer, and one load of it.
-/
module

public import Idealize.ShloMosaic.Lib.Pipeline.FrameBody
public import Idealize.ShloMosaic.Lib.Pipeline.Value
public import Idealize.ShloMosaic.PureOps.Ideal.Laws
public import Idealize.ShloMosaic.Lib.WritesUnit

@[expose] public section

noncomputable section

namespace Cert.Whole

open Idealize.ShloMosaic

theorem zero_off : (![0, 0] : Fin 2 → ℕ) = fun _ => 0 := by
  funext a; fin_cases a <;> rfl

variable {sig : RefSig} {s : Shape} {e : EltTy} (v : View sig .tc .vmem s e) (f : v.ty.Contents (Elt Ideal)) (off : Fin s.rank → ℕ)
  (inb : ∀ a, off a + s.size a ≤ s.size a)

theorem stored (w : s.Idx → Elt Ideal e) (L : List (View.Piece (Elt Ideal) s e)) (h : off = fun _ => 0) :
    v.read (Elt Ideal) (v.writes (Elt Ideal) f (⟨Rect.unit off s.size inb, w⟩ :: L)) = w := by
  funext y
  exact View.read_writes_cons_unit_of_mem v f inb w L y y h fun a => (Nat.zero_add _).symm

theorem loaded (h : off = fun _ => 0) : View.readAt (Elt Ideal) v (Rect.unit off s.size inb).toLoadRect f = v.read (Elt Ideal) f := by
  rw [View.readAt_eq_ld, View.ld_unit_zero (S := s) h]

end Cert.Whole

end
-- ==== Proof.ChooseValue.lean ====
/-
  What the selection of the groups ends with: lane `j` of a row, for `j` below 100, is the place of the group `j`-th in the order of
  `Proof/Rounds.lean`, and the other lanes are zero. The reference's top-k is the same order.
-/
module

public import proofs.«01_k».proof.Proof.Rounds
public import proofs.«01_k».proof.Proof.Whole
public import proofs.«01_k».proof.Proof.Scores
public import proofs.«01_k».proof.Proof.Gen.ChooseIdeal
public import proofs.«01_k».proof.Proof.Gen.ChooseIdeal.Value
public import proofs.«01_k».proof.Proof.Gen.ChooseReferenceIdeal
public import proofs.«01_k».proof.Proof.Gen.ChooseReferenceIdeal.Run

@[expose] public section

noncomputable section

namespace Cert.ChooseValue

open Idealize.ShloMosaic Idealize.ShloMosaic.TcCoe Cert.Rounds Cert.Whole

/-- The row of group maxima of a query. -/
def row (b : FVec Ideal ⟨2, ![640, 784]⟩ .f32) (r : Fin 640) (k : Fin 784) : EReal := b (ix2 r k)

/-- The groups selected. -/
def chosen (b : FVec Ideal ⟨2, ![640, 784]⟩ .f32) (r : Fin 640) (j : Fin 128) : BitVec 32 :=
  if j.val < 100 then BitVec.ofNat 32 (place (row b r) Fin.val ⟨j.val, by omega⟩).val else 0#32

section
open Cert.ChooseReferenceIdeal

theorem before_eq (x y : EReal) : (FloatOps.cmpfTotal (F := Ideal) (φ := .f32) .gt x y == 1#1) = decide (y < x) := by
  show (BitVec.ofBool (decide (y < x)) == 1#1) = decide (y < x)
  by_cases h : y < x <;> simp [h]

theorem top_apply (b : FVec Ideal S640x784 .f32) (r : Fin 640) (j : Fin 100) :
    (Host.topK S640x100 1 (FloatOps.cmpfTotal (F := Ideal) (φ := .f32) .gt) b Facts₀.sliceFits_S640x784_S640x100).2 (ix2 r j)
      = BitVec.ofNat 32 (place (row b r) Fin.val ⟨j.val, by omega⟩).val := by
  have hd : 1 < S640x784.rank := by decide
  unfold Host.topK Host.sort2
  simp only [dif_pos hd]
  have hi : (fun a => ⟨0 + (ix2 r j a).val, Nat.lt_of_lt_of_le (Nat.add_lt_add_left (ix2 r j a).isLt 0) (Facts₀.sliceFits_S640x784_S640x100.2 a)⟩ : S640x784.Idx)
      = ix2 r (⟨j.val, by omega⟩ : Fin 784) := by
    funext a; apply Fin.ext
    match a with
    | ⟨0, _⟩ => exact Nat.zero_add _
    | ⟨1, _⟩ => exact Nat.zero_add _
  have ha : ∀ k : Fin 784, Shape.Idx.along (s := S640x784) (ix2 r (⟨j.val, by omega⟩ : Fin 784)) ⟨1, hd⟩ k = ix2 r k := by
    intro k
    funext a
    match a with
    | ⟨0, _⟩ => exact Function.update_of_ne (fun h => absurd (congrArg Fin.val h) Nat.zero_ne_one) _ _
    | ⟨1, _⟩ => exact Function.update_self _ _ _
  refine (congrArg (fun i : S640x784.Idx => BitVec.ofNat 32 ((i.along ⟨1, hd⟩ (sortedFrom (fun k k' =>
    FloatOps.cmpfTotal (F := Ideal) (φ := .f32) .gt (b (i.along ⟨1, hd⟩ k)) (b (i.along ⟨1, hd⟩ k')) == 1#1) (i ⟨1, hd⟩))) ⟨1, hd⟩).val) hi).trans ?_
  have hf : (fun k k' : Fin 784 => FloatOps.cmpfTotal (F := Ideal) (φ := .f32) .gt
        (b (Shape.Idx.along (s := S640x784) (ix2 r (⟨j.val, by omega⟩ : Fin 784)) ⟨1, hd⟩ k))
        (b (Shape.Idx.along (s := S640x784) (ix2 r (⟨j.val, by omega⟩ : Fin 784)) ⟨1, hd⟩ k')) == 1#1)
      = fun k k' => decide (row b r k' < row b r k) := by
    funext k k'
    rw [ha, ha]
    exact before_eq _ _
  have hs : ∀ k : Fin 784, (Shape.Idx.along (s := S640x784) (ix2 r (⟨j.val, by omega⟩ : Fin 784)) ⟨1, hd⟩ k ⟨1, hd⟩).val = k.val := by
    intro k
    rw [ha]
    rfl
  refine congrArg (BitVec.ofNat 32) ((hs _).trans ?_)
  exact (congrArg (fun f : Fin 784 → Fin 784 → Bool => (sortedFrom f (⟨j.val, by omega⟩ : Fin 784)).val) hf).trans
    (congrArg (fun f : Fin 784 → Fin 784 => (f ⟨j.val, by omega⟩).val) (place_eq (row b r)))

theorem reference_eq (b : FVec Ideal S640x784 .f32) (r : Fin 640) (j : Fin 128) :
    pad S640x128 ![0, 0] ![0, 28] ![0, 0] ((Host.topK S640x100 1 (FloatOps.cmpfTotal (F := Ideal) (φ := .f32) .gt) b Facts₀.sliceFits_S640x784_S640x100).2)
      (id (constantI S_ 32 0#32)) Facts₀.pads_S640x100_S640x128_000_0280 Facts₀.h_S_ (ix2 r j) = chosen b r j := by
  pointwise
  unfold chosen
  by_cases h : j.val < 100
  · rw [dif_pos h, if_pos h]
    exact top_apply b r ⟨j.val, h⟩
  · rw [dif_neg h, if_neg h]
    rfl

end

section
open Cert.ChooseIdeal Cert.ChooseIdeal.Gen

variable (b : FVec Ideal S640x784 .f32) (r : Fin 640) (hx : ∀ k, ⊥ < row b r k)
include hx

theorem pay3_round (v : FVec Ideal S640x784 .f32) (t : Fin 784) (hv : ∀ k, v (ix2 r k) = after (row b r) Fin.val t.val k) :
    k0_pay3 (F := Ideal) v (ix2 r 0) = BitVec.ofNat 32 (place (row b r) Fin.val t).val := by
  have hp := (place (row b r) Fin.val t).isLt
  unfold k0_pay3
  pointwise
  rw [Scores.ofBits_bot, greatest (row b r) Fin.val Fin.val_injective (fun k => v (ix2 r k)) t hv]
  refine taken (row b r) Fin.val Fin.val_injective (fun k => v (ix2 r k)) t hv (fun k => BitVec.ofNat 32 k.val) _
    (fun k => Nat.mod_eq_of_lt (lt_trans k.isLt (by decide))) (fun k => lt_trans k.isLt (by decide)) (hx _) (fun k hk => if_pos hk) fun k hk => if_neg hk

theorem pay4_round (v : FVec Ideal S640x784 .f32) (t : Fin 784) (hv : ∀ k, v (ix2 r k) = after (row b r) Fin.val t.val k) (k : Fin 784) :
    k0_pay4 (F := Ideal) v (ix2 r k) = after (row b r) Fin.val (t.val + 1) k := by
  have hp := (place (row b r) Fin.val t).isLt
  have hk := k.isLt
  unfold k0_pay4
  pointwise
  rw [pay3_round b r hx v t hv, Scores.select_lane _ _ (by omega) (by omega), Scores.ofBits_bot, hv, after_succ]
  exact if_congr Fin.ext_iff.symm rfl rfl

theorem pay5_round (v : FVec Ideal S640x784 .f32) (w : Vec Ideal S640x128 .i32) (t : Fin k0_t1_loop.trips) (ht : t.val < 100)
    (hv : ∀ k, v (ix2 r k) = after (row b r) Fin.val t.val k) (j : Fin 128) :
    k0_pay5 (F := Ideal) t v w (ix2 r j) = if j.val = t.val then BitVec.ofNat 32 (place (row b r) Fin.val ⟨t.val, by omega⟩).val else w (ix2 r j) := by
  have hj := j.isLt
  have e : Scf.iv 0#32 1#32 t.val = BitVec.ofNat 32 t.val := by
    unfold Scf.iv
    simp
  unfold k0_pay5
  pointwise
  rw [pay3_round b r hx v ⟨t.val, by omega⟩ hv, e, Scores.select_lane _ _ (by omega) (by omega)]

end

section
open Cert.ChooseIdeal Cert.ChooseIdeal.Gen

variable (c : Dev nD) (arg0 : Memref sig .tc .vmem S640x784 .f32) (harg0 : arg0.IsWhole) (arg1 : Memref sig .tc .vmem S640x128 .i32)
  (harg1 : arg1.IsWhole) (arg2 : Memref sig .tc .vmem S640x784 .f32) (harg2 : arg2.IsWhole)

/-! ## The rounds -/

theorem trip_out (k : Fin k0_t1_loop.trips) (f1 : BufTy.Contents (Elt Ideal) arg1.view.ty) (f2 : BufTy.Contents (Elt Ideal) arg2.view.ty) :
    (trip_k0_t1 (F := Ideal) Variants.none c none arg0 harg0 arg1 harg1 arg2 harg2 k).1 f1 f2
      = [⟨Rect.unit ![0, 0] S640x128.size Facts₀.inb_S640x128_S640x128_0_0, k0_pay5 k (arg2.view.read (Elt Ideal) f2) (arg1.view.read (Elt Ideal) f1)⟩] := by
  rw [← loaded arg2.view f2 ![0, 0] Facts₀.inb_S640x784_S640x784_0_0 zero_off, ← loaded arg1.view f1 ![0, 0] Facts₀.inb_S640x128_S640x128_0_0 zero_off]
  unfold trip_k0_t1
  rfl

theorem trip_row (k : Fin k0_t1_loop.trips) (f1 : BufTy.Contents (Elt Ideal) arg1.view.ty) (f2 : BufTy.Contents (Elt Ideal) arg2.view.ty) :
    (trip_k0_t1 (F := Ideal) Variants.none c none arg0 harg0 arg1 harg1 arg2 harg2 k).2.1 f1 f2
      = [⟨Rect.unit ![0, 0] S640x784.size Facts₀.inb_S640x784_S640x784_0_0, k0_pay4 (arg2.view.read (Elt Ideal) f2)⟩] := by
  rw [← loaded arg2.view f2 ![0, 0] Facts₀.inb_S640x784_S640x784_0_0 zero_off]
  unfold trip_k0_t1
  rfl

variable (b : FVec Ideal S640x784 .f32) (hx : ∀ r k, ⊥ < row b r k)
  (G1 : BufTy.Contents (Elt Ideal) arg1.view.ty) (G2 : BufTy.Contents (Elt Ideal) arg2.view.ty)
  (h1 : ∀ r j, (arg1.view.read (Elt Ideal) G1 : Vec Ideal S640x128 .i32) (ix2 r j) = 0#32)
  (h2 : (arg2.view.read (Elt Ideal) G2 : Vec Ideal S640x784 .f32) = b)
include hx h1 h2

/-- Before round `k`: the rows after `k` rounds, and the first `k` groups selected. -/
theorem rounds : ∀ k : ℕ, k ≤ 100 →
    (∀ r j, (arg2.view.read (Elt Ideal) (arg2.view.writes (Elt Ideal) G2 (pb_k0_t1 (F := Ideal) Variants.none c none arg0 harg0 arg1 harg1 arg2 harg2 G1 G2 k).2)
        : FVec Ideal S640x784 .f32) (ix2 r j) = after (row b r) Fin.val k j)
    ∧ ∀ r (j : Fin 128), (arg1.view.read (Elt Ideal) (arg1.view.writes (Elt Ideal) G1 (pb_k0_t1 (F := Ideal) Variants.none c none arg0 harg0 arg1 harg1 arg2 harg2 G1 G2 k).1)
        : Vec Ideal S640x128 .i32) (ix2 r j) = if j.val < k then chosen b r j else 0#32
  | 0, _ => ⟨fun r j => (congrFun h2 _).trans (congrFun (after_zero (row b r) Fin.val) j).symm, fun r j => (h1 r j).trans (if_neg (Nat.not_lt_zero _)).symm⟩
  | k + 1, hk => by
    obtain ⟨ihv, iho⟩ := rounds k (by omega)
    have ht : k < k0_t1_loop.trips := lt_of_lt_of_eq (show k < 100 by omega) (by decide : k0_t1_loop.trips = 100).symm
    have e := pb_k0_t1_succ (F := Ideal) Variants.none c none arg0 harg0 arg1 harg1 arg2 harg2 G1 G2 ⟨k, ht⟩
    refine ⟨fun r j => ?_, fun r j => ?_⟩
    · refine (congrFun ((congrArg (fun L => arg2.view.read (Elt Ideal) (arg2.view.writes (Elt Ideal) G2 L)) ((congrArg Prod.snd e).trans
        (congrArg (· ++ _) (trip_row c arg0 harg0 arg1 harg1 arg2 harg2 ⟨k, ht⟩ _ _)))).trans (stored _ _ _ _ _ _ zero_off)) (ix2 r j)).trans ?_
      exact pay4_round b r (hx r) _ ⟨k, by omega⟩ (ihv r) j
    · refine (congrFun ((congrArg (fun L => arg1.view.read (Elt Ideal) (arg1.view.writes (Elt Ideal) G1 L)) ((congrArg Prod.fst e).trans
        (congrArg (· ++ _) (trip_out c arg0 harg0 arg1 harg1 arg2 harg2 ⟨k, ht⟩ _ _)))).trans (stored _ _ _ _ _ _ zero_off)) (ix2 r j)).trans ?_
      refine (pay5_round b r (hx r) _ _ ⟨k, ht⟩ (by show k < 100; omega) (ihv r) j).trans ?_
      rw [iho]
      unfold chosen
      by_cases hj : j.val = k
      · subst hj
        rw [if_pos rfl, if_pos (Nat.lt_succ_self _), if_pos (by omega)]
      · rw [if_neg hj]
        exact if_congr (by omega) rfl rfl

/-- After round `k`, read through any view its pieces are written to: the first groups selected, zero behind them. -/
theorem last_round (v : View sig .tc .vmem S640x128 .i32) (f : v.ty.Contents (Elt Ideal)) (L : List (View.Piece (Elt Ideal) S640x128 .i32))
    (n : ℕ) (k : Fin k0_t1_loop.trips) (hn : n = k.val + 1) (r : Fin 640) (j : Fin 128) :
    (v.read (Elt Ideal) (v.writes (Elt Ideal) f ((pb_k0_t1 (F := Ideal) Variants.none c none arg0 harg0 arg1 harg1 arg2 harg2 G1 G2 n).1 ++ L))
      : Vec Ideal S640x128 .i32) (ix2 r j) = if j.val < n then chosen b r j else 0#32 := by
  subst hn
  have e := (congrArg Prod.fst (pb_k0_t1_succ (F := Ideal) Variants.none c none arg0 harg0 arg1 harg1 arg2 harg2 G1 G2 k)).trans
    (congrArg (· ++ _) (trip_out c arg0 harg0 arg1 harg1 arg2 harg2 k _ _))
  have h := (rounds c arg0 harg0 arg1 harg1 arg2 harg2 b hx G1 G2 h1 h2 (k.val + 1) (lt_of_lt_of_eq k.isLt (by decide : k0_t1_loop.trips = 100))).2 r j
  refine (congrFun ((congrArg (fun l => v.read (Elt Ideal) (v.writes (Elt Ideal) f (l ++ L))) e).trans (stored _ _ _ _ _ _ zero_off)) (ix2 r j)).trans ?_
  exact (congrFun ((congrArg (fun l => arg1.view.read (Elt Ideal) (arg1.view.writes (Elt Ideal) G1 l)) e).trans (stored _ _ _ _ _ _ zero_off)) (ix2 r j)).symm.trans h

omit hx h1 h2 in
theorem out_apply (hx : ∀ r k, ⊥ < row b r k) (r : Fin 640) (j : Fin 128) : out0_A_1 (F := Ideal) c arg0 harg0 arg1 harg1 arg2 harg2 b (ix2 r j) = chosen b r j := by
  unfold out0_A_1 kernelRun0_A
  dsimp only
  refine (last_round c arg0 harg0 arg1 harg1 arg2 harg2 b hx _ _ (fun r j => ?_) ?_ VO0_1 _ _ _ ⟨99, by decide⟩ (by decide) r j).trans ?_
  · refine (congrFun (stored arg1.view _ _ _ k0_pay2 [] zero_off) (ix2 r j)).trans ?_
    unfold k0_pay2
    pointwise
  · refine (stored arg2.view _ _ _ _ [] zero_off).trans ?_
    rw [loaded _ _ _ _ zero_off, harg0.read_unread]
    unfold k0_pay1
    funext y
    pointwise
  · exact ite_eq_left_iff.2 fun hj => (if_neg hj).symm

end

/-! ## The array the call leaves -/

section
open Cert.ChooseIdeal Cert.ChooseIdeal.Gen

variable (m : (ℓ : Loc nD τ sig) → Buf (Elt Ideal) ℓ) (c : Dev nD)

abbrev argX : FVec Ideal S640x784 .f32 := m ((c : Thread nD τ).loc main_arg0)

theorem block_x (t : Fin cfg0.N) : (iblk m c 0 t : FVec Ideal S640x784 .f32) = argX m c := by
  funext y
  refine Eq.trans (congrArg (V m c main_arg0) (?_ : ((cfg0.win 0).blk t).view.emb y = y)) (congrFun (V_main_arg0 m c) y)
  funext a; apply Fin.ext
  match a with
  | ⟨0, _⟩ => show 0 * 640 + 1 * (y 0).val = (y 0).val; omega
  | ⟨1, _⟩ => show 0 * 784 + 1 * (y 1).val = (y 1).val; omega

/-- The groups the run leaves. -/
def result : Vec Ideal S640x128 .i32 := (dats m 0 c).arrAt 1 cfg0.N

theorem result_eq (hx : ∀ r k, ⊥ < row (argX m c) r k) (r : Fin 640) (j : Fin 128) : result m c (ix2 r j) = chosen (argX m c) r j := by
  have ht : 0 < cfg0.N := by decide
  have hb : ((cfg0.win 1).blk ⟨0, ht⟩).view.emb (ix2 r j) = (ix2 r j : S640x128.Idx) := by
    funext a; apply Fin.ext
    match a with
    | ⟨0, _⟩ => show 0 * 640 + 1 * r.val = r.val; omega
    | ⟨1, _⟩ => show 0 * 128 + 1 * j.val = j.val; omega
  have e := (Value.blocks1 m c ⟨0, ht⟩ ((by decide +kernel : ∀ t : Fin cfg0.N, (cfg0.win 1).flush t = true) _)).trans (Value.flushed1_A m c ⟨0, ht⟩)
  rw [block_x m c ⟨0, ht⟩] at e
  exact (congrArg (result m c) hb.symm).trans ((congrFun e (ix2 r j)).trans (out_apply c _ _ _ _ _ _ (argX m c) hx r j))

end

end Cert.ChooseValue

end
-- ==== Proof.ChooseRun.lean ====
/-
  The claims of the selection of the groups: the frames are its run's, and its result is the reference's where every maximum is above −∞.
-/
module

public import proofs.«01_k».proof.Defs
public import proofs.«01_k».proof.Proof.ChooseValue
public import proofs.«01_k».proof.Proof.Gen.Choose.Frame
public import proofs.«01_k».proof.Proof.Gen.Pre_scores_ok
public import Idealize.ShloMosaic.Adequacy
public import Idealize.ShloMosaic.Init

@[expose] public section

noncomputable section

namespace Cert.ChooseRun

open Idealize.ShloMosaic Idealize.SL.Sem Cert.ChooseValue

theorem frame_p : Cert.quiescent_Choose := fun m ρ _ => Cert.Choose.Gen.frame m ρ

theorem frame_pi : Cert.quiescent_ChooseIdeal := fun m ρ _ => Cert.ChooseIdeal.Gen.frame m ρ

theorem frame_pi_pre : Cert.quiescent_ChooseIdeal_pre_scores_ok := fun m ρ _ => frame_pi m ρ trivial

theorem frame_ri : Cert.quiescent_ChooseReferenceIdeal := fun m ρ _ =>
  (θ_run Cert.ChooseReferenceIdeal.defs _ _).mono (fun r h => ⟨fun c => (h c).2, sem_eq_zero_of_no_sems (by decide) r.2⟩)
    (Cert.ChooseReferenceIdeal.Value.run (F := Ideal) m ρ)

theorem frame_ri_pre : Cert.quiescent_ChooseReferenceIdeal_pre_scores_ok := fun m ρ _ => frame_ri m ρ trivial

/-- Where the precondition reads one, the entry is above −∞. -/
theorem above (b : FVec Ideal Cert.Pre_scores_ok.S640x784 .f32) (h : Cert.Pre_scores_ok.fn (F := Ideal) b = fun _ => 1#1) (r : Fin 640) (k : Fin 784) :
    ⊥ < row b r k := by
  by_contra hn
  have e : Cert.Pre_scores_ok.fn (F := Ideal) b (ix2 r k) = 0#1 := by
    unfold Cert.Pre_scores_ok.fn
    pointwise
    rw [Scores.ofBits_bot, decide_eq_false (show ¬ (⊥ : EReal) < b (ix2 r k) from hn)]
    rfl
  rw [h] at e
  exact absurd e (by decide : (1#1 : BitVec 1) ≠ 0#1)

theorem algebraic : Cert.algebraic_ChooseIdeal_ChooseReferenceIdeal_pre_scores_ok := by
  intro m ρ m' ρ' hpre hagree
  refine ⟨fun c => result m c, Cert.ChooseIdeal.Value.run_blocks (F := Ideal) m ρ,
    (θ_run Cert.ChooseReferenceIdeal.defs _ _).mono (fun r h c => ⟨(h c).1.trans ?_, (h c).2⟩)
      (Cert.ChooseReferenceIdeal.Value.run (F := Ideal) m' ρ')⟩
  rw [hagree c]
  funext i
  obtain ⟨r, j, rfl⟩ : ∃ r j, i = ix2 r j := ⟨i 0, i 1, by funext a; match a with | ⟨0, _⟩ => rfl | ⟨1, _⟩ => rfl⟩
  exact (reference_eq (argX m c) r j).trans (result_eq m c (above (argX m c) (hpre c)) r j).symm

end Cert.ChooseRun

end
-- ==== Proof.ExtractValue.lean ====
/-
  What the extraction of the items ends with. A query's candidates are taken in the order of `Proof/Rounds.lean`, numbered by their item:
  lane `j` of the kept selection is the item `j`-th in that order, and column `j` of the result, for `j` below 10, is the lane that
  the `j`-th slice names. The reference's sort by value and item is the same order.
-/
module

public import proofs.«01_k».proof.Proof.Rounds
public import proofs.«01_k».proof.Proof.Whole
public import proofs.«01_k».proof.Proof.Scores
public import proofs.«01_k».proof.Proof.Gen.ExtractIdeal
public import proofs.«01_k».proof.Proof.Gen.ExtractIdeal.Value

@[expose] public section

noncomputable section

namespace Cert.ExtractValue

open Idealize.ShloMosaic Idealize.ShloMosaic.TcCoe Cert.Rounds Cert.Whole

/-- The candidates of a query. -/
def row {n : ℕ} (x : FVec Ideal ⟨2, ![n, 12800]⟩ .f32) (r : Fin n) (k : Fin 12800) : EReal := x (ix2 r k)

/-- Their items. -/
def num {n : ℕ} (w : IVec ⟨2, ![n, 12800]⟩ 32) (r : Fin n) (k : Fin 12800) : ℕ := (w (ix2 r k)).toNat

/-- The item of place `t`. -/
def item {n : ℕ} (x : FVec Ideal ⟨2, ![n, 12800]⟩ .f32) (w : IVec ⟨2, ![n, 12800]⟩ 32) (r : Fin n) (t : Fin 12800) : BitVec 32 :=
  w (ix2 r (place (row x r) (num w r) t))

/-- The items extracted: those at the places the slices name. -/
def extracted {n : ℕ} (x : FVec Ideal ⟨2, ![n, 12800]⟩ .f32) (w : IVec ⟨2, ![n, 12800]⟩ 32) (s : IVec ⟨1, ![10]⟩ 32) (r : Fin n) (j : Fin 16) : BitVec 32 :=
  if h : j.val < 10 then item x w r ⟨(s (ix1 ⟨j.val, h⟩)).toNat % 12800, Nat.mod_lt _ (by decide)⟩ else 0#32

/-! ## The one-hot selection of the slices -/

/-- A select on two words being equal. -/
theorem select_word {α : Type} (a b : BitVec 32) (x y : α) : Scalar.select (IntOp.cmpi .eq a b) x y = if a = b then x else y := by
  show Scalar.select (BitVec.ofBool (a == b)) x y = _
  by_cases h : a = b
  · rw [if_pos h, h, beq_self_eq_true]; rfl
  · rw [if_neg h, beq_false_of_ne h]; rfl

/-- A select on "column `j` is `n` and lane `l` is the word `w`". -/
theorem select_spot {α : Type} (j : Fin 16) (n : ℕ) (l : Fin 128) (w : BitVec 32) (hn : n < 16) (x y : α) :
    Scalar.select (IntOp.andi (IntOp.cmpi .eq (BitVec.ofNat 32 j.val) (BitVec.ofNat 32 n)) (IntOp.cmpi .eq (BitVec.ofNat 32 l.val) w)) x y
      = if j.val = n ∧ l.val = w.toNat then x else y := by
  have hj := j.isLt
  have hl := l.isLt
  have e : ∀ p q : BitVec 1, Scalar.select (IntOp.andi p q) x y = Scalar.select p (Scalar.select q x y) y := fun p q => by
    match p, q with
    | 0#1, 0#1 => rfl
    | 0#1, 1#1 => rfl
    | 1#1, 0#1 => rfl
    | 1#1, 1#1 => rfl
  rw [e, Scores.select_lane _ _ (by omega) (by omega), select_word, ite_and]
  refine if_congr Iff.rfl (if_congr ⟨fun h => ?_, fun h => ?_⟩ rfl rfl) rfl
  · rw [← h, BitVec.toNat_ofNat]
    omega
  · rw [h, BitVec.ofNat_toNat, BitVec.setWidth_eq]

/-- The sum of a row against a column with one one. -/
theorem pick (v : Fin 128 → EReal) (a : ℕ) (ha : a < 128) : ∑ l : Fin 128, v l * (if l.val = a then 1 else 0) = v ⟨a, ha⟩ := by
  rw [Finset.sum_eq_single (⟨a, ha⟩ : Fin 128) (fun l _ hl => by rw [if_neg fun h => hl (Fin.ext h), mul_zero])
    (fun h => absurd (Finset.mem_univ _) h), if_pos rfl, mul_one]

/-- A word as a real, and back. -/
theorem word_back (w : BitVec 32) : Ideal.fptosi 32 (((w.toInt : ℝ) : EReal)) = w := by
  have h1 := BitVec.le_toInt w
  have h2 := BitVec.toInt_lt (x := w)
  unfold Ideal.fptosi
  rw [Ideal.toIntClamped_coe, Int.floor_intCast, Int.ceil_intCast, ite_self]
  refine (congrArg (BitVec.ofInt 32) (?_ : _ = w.toInt)).trans (BitVec.ofInt_toInt)
  norm_num at h1 h2 ⊢
  omega

theorem zero_back : FloatOps.fptosi (F := Ideal) (φ := .f32) 32 (0 : EReal) = 0#32 := by
  have h := word_back 0#32
  rwa [show (((0#32 : BitVec 32).toInt : ℝ) : EReal) = 0 by simp] at h

/-- A word of a row, summed against a column with one one. -/
theorem picked (u : Fin 128 → BitVec 32) (a : ℕ) (ha : a < 128) :
    FloatOps.fptosi (F := Ideal) (φ := .f32) 32 (∑ l : Fin 128, FloatOps.sitofp (F := Ideal) .f32 (u l) * (if l.val = a then 1 else 0 : EReal)) = u ⟨a, ha⟩ :=
  (congrArg (Ideal.fptosi 32) (pick (fun l => (((u l).toInt : ℝ) : EReal)) a ha)).trans (word_back _)

section
open Cert.ExtractIdeal Cert.ExtractIdeal.Gen

/-- The columns of the result, from the selection `u` and the slices `s`. -/
theorem hot (w0 w1 w2 w3 w4 w5 w6 w7 w8 w9 : BitVec 32) (s : Fin 10 → BitVec 32) (e : ![w0, w1, w2, w3, w4, w5, w6, w7, w8, w9] = s)
    (hs : ∀ t, (s t).toNat < 128) (u : Vec Ideal S80x128 .i32) (r : Fin 80) (j : Fin 16) :
    k0_pay1 (F := Ideal) (k0_pay8 u) (iota .tc S128x16 32 [0] Facts₀.iota_S128x16_d0_w32) (iota .tc S128x16 32 [1] Facts₀.iota_S128x16_d1_w32)
      (k0_pay12 (F := Ideal) (iota .tc S128x16 32 [0] Facts₀.iota_S128x16_d0_w32) (iota .tc S128x16 32 [1] Facts₀.iota_S128x16_d1_w32)
        (k0_pay9 (F := Ideal) w0) (k0_pay10 (F := Ideal) w1) (k0_pay11 (F := Ideal)) w2 w3 w4 w5 w6) w7 k0_pay13 w8 w9 (ix2 r j)
      = if h : j.val < 10 then u (ix2 r ⟨(s ⟨j.val, h⟩).toNat, hs _⟩) else 0#32 := by
  rw [show w0 = s 0 from congrFun e 0, show w1 = s 1 from congrFun e 1, show w2 = s 2 from congrFun e 2, show w3 = s 3 from congrFun e 3,
    show w4 = s 4 from congrFun e 4, show w5 = s 5 from congrFun e 5, show w6 = s 6 from congrFun e 6, show w7 = s 7 from congrFun e 7,
    show w8 = s 8 from congrFun e 8, show w9 = s 9 from congrFun e 9]
  clear e
  unfold k0_pay1 k0_pay12 k0_pay9 k0_pay10 k0_pay11 k0_pay13 k0_pay8
  pointwise
  simp only [select_spot, Nat.reduceLT]
  obtain ⟨j, hj⟩ := j
  by_cases h : j < 10
  · interval_cases j <;> simp only [Nat.reduceEqDiff, false_and, true_and, if_false, reduceDIte, Nat.reduceLT]
    all_goals exact picked (fun l => u (ix2 r l)) _ (hs _)
  · interval_cases j <;> simp only [Nat.reduceEqDiff, false_and, if_false, reduceDIte, Nat.reduceLT, not_true, not_false_eq_true, mul_zero, Finset.sum_const_zero] at h ⊢
    all_goals exact zero_back

end

section
open Cert.ExtractIdeal Cert.ExtractIdeal.Gen

variable (x : FVec Ideal S80x12800 .f32) (w : Vec Ideal S80x12800 .i32) (r : Fin 80) (ho : Function.Injective (num w r))
  (hb : ∀ k, num w r k < 2 ^ 30) (hx : ∀ k, ⊥ < row x r k)
include ho hb hx

theorem pay5_round (v : FVec Ideal S80x12800 .f32) (t : Fin 12800) (hv : ∀ k, v (ix2 r k) = after (row x r) (num w r) t.val k) :
    k0_pay5 (F := Ideal) w v (ix2 r 0) = item x w r t := by
  unfold k0_pay5 k0_pay4
  pointwise
  rw [Scores.ofBits_bot, greatest (row x r) (num w r) ho (fun k => v (ix2 r k)) t hv]
  exact taken (row x r) (num w r) ho (fun k => v (ix2 r k)) t hv (fun k => w (ix2 r k)) _ (fun _ => rfl) hb (hx _)
    (fun k hk => if_pos hk) fun k hk => if_neg hk

theorem pay6_round (v : FVec Ideal S80x12800 .f32) (t : Fin 12800) (hv : ∀ k, v (ix2 r k) = after (row x r) (num w r) t.val k) (k : Fin 12800) :
    k0_pay6 (F := Ideal) w v (ix2 r k) = after (row x r) (num w r) (t.val + 1) k := by
  unfold k0_pay6 k0_pay4
  pointwise
  rw [pay5_round x w r ho hb hx v t hv, Scores.ofBits_bot, hv, after_succ (row x r) (num w r), select_word]
  exact if_congr ⟨fun h => ho (congrArg BitVec.toNat h), fun h => congrArg (fun k => w (ix2 r k)) h⟩ rfl rfl

theorem pay7_round (v : FVec Ideal S80x12800 .f32) (u : Vec Ideal S80x128 .i32) (t : Fin k0_t1_loop.trips) (ht : t.val < 100)
    (hv : ∀ k, v (ix2 r k) = after (row x r) (num w r) t.val k) (j : Fin 128) :
    k0_pay7 (F := Ideal) w t v u (ix2 r j) = if j.val = t.val then item x w r ⟨t.val, by omega⟩ else u (ix2 r j) := by
  have hj := j.isLt
  have e : Scf.iv 0#32 1#32 t.val = BitVec.ofNat 32 t.val := by
    unfold Scf.iv
    simp
  unfold k0_pay7
  pointwise
  rw [pay5_round x w r ho hb hx v ⟨t.val, by omega⟩ hv, e, Scores.select_lane _ _ (by omega) (by omega)]

end

section
open Cert.ExtractIdeal Cert.ExtractIdeal.Gen

variable (c : Dev nD) (i : grid0.Coords) (arg1 : Memref sig .tc .smem S10 .i32) (harg1 : arg1.IsWhole) (arg2 : Memref sig .tc .vmem S80x12800 .i32)
  (harg2 : arg2.IsWhole) (arg3 : Memref sig .tc .vmem S80x12800 .f32) (harg3 : arg3.IsWhole) (arg4 : Memref sig .tc .vmem S80x16 .i32)
  (harg4 : arg4.IsWhole) (arg5 : Memref sig .tc .vmem S80x12800 .f32) (harg5 : arg5.IsWhole) (arg6 : Memref sig .tc .vmem S80x128 .i32)
  (harg6 : arg6.IsWhole)

/-! ## The rounds -/

variable (x : FVec Ideal S80x12800 .f32) (w : Vec Ideal S80x12800 .i32)

theorem trip_row (k : Fin k0_t1_loop.trips) (f5 : BufTy.Contents (Elt Ideal) arg5.view.ty) (f6 : BufTy.Contents (Elt Ideal) arg6.view.ty) :
    (trip_k0_t1 (F := Ideal) Variants.none c none i arg1 harg1 arg2 harg2 arg3 harg3 arg4 harg4 arg5 harg5 arg6 harg6 w k).1 f5 f6
      = [⟨Rect.unit ![0, 0] S80x12800.size Facts₀.inb_S80x12800_S80x12800_0_0, k0_pay6 w (arg5.view.read (Elt Ideal) f5)⟩] := by
  rw [← loaded arg5.view f5 ![0, 0] Facts₀.inb_S80x12800_S80x12800_0_0 zero_off]
  unfold trip_k0_t1
  rfl

theorem trip_out (k : Fin k0_t1_loop.trips) (f5 : BufTy.Contents (Elt Ideal) arg5.view.ty) (f6 : BufTy.Contents (Elt Ideal) arg6.view.ty) :
    (trip_k0_t1 (F := Ideal) Variants.none c none i arg1 harg1 arg2 harg2 arg3 harg3 arg4 harg4 arg5 harg5 arg6 harg6 w k).2.1 f5 f6
      = [⟨Rect.unit ![0, 0] S80x128.size Facts₀.inb_S80x128_S80x128_0_0, k0_pay7 w k (arg5.view.read (Elt Ideal) f5) (arg6.view.read (Elt Ideal) f6)⟩] := by
  rw [← loaded arg5.view f5 ![0, 0] Facts₀.inb_S80x12800_S80x12800_0_0 zero_off, ← loaded arg6.view f6 ![0, 0] Facts₀.inb_S80x128_S80x128_0_0 zero_off]
  unfold trip_k0_t1
  rfl

section
variable (ho : ∀ r, Function.Injective (num w r)) (hb : ∀ r k, num w r k < 2 ^ 30) (hx : ∀ r k, ⊥ < row x r k)
  (G5 : BufTy.Contents (Elt Ideal) arg5.view.ty) (G6 : BufTy.Contents (Elt Ideal) arg6.view.ty)
  (h5 : (arg5.view.read (Elt Ideal) G5 : Vec Ideal S80x12800 .f32) = x)
  (h6 : ∀ r j, (arg6.view.read (Elt Ideal) G6 : Vec Ideal S80x128 .i32) (ix2 r j) = 0#32)
include ho hb hx h5 h6

/-- Before round `k`: the candidates after `k` rounds, and the first `k` items selected. -/
theorem rounds : ∀ k : ℕ, k ≤ 100 →
    (∀ r j, (arg5.view.read (Elt Ideal) (arg5.view.writes (Elt Ideal) G5
        (pb_k0_t1 (F := Ideal) Variants.none c none i arg1 harg1 arg2 harg2 arg3 harg3 arg4 harg4 arg5 harg5 arg6 harg6 w G5 G6 k).1)
        : FVec Ideal S80x12800 .f32) (ix2 r j) = after (row x r) (num w r) k j)
    ∧ ∀ r (j : Fin 128), (arg6.view.read (Elt Ideal) (arg6.view.writes (Elt Ideal) G6
        (pb_k0_t1 (F := Ideal) Variants.none c none i arg1 harg1 arg2 harg2 arg3 harg3 arg4 harg4 arg5 harg5 arg6 harg6 w G5 G6 k).2)
        : Vec Ideal S80x128 .i32) (ix2 r j) = if j.val < k then item x w r ⟨j.val, by omega⟩ else 0#32
  | 0, _ => ⟨fun r j => (congrFun h5 _).trans (congrFun (after_zero (row x r) (num w r)) j).symm,
      fun r j => (h6 r j).trans (if_neg (Nat.not_lt_zero _)).symm⟩
  | k + 1, hk => by
    obtain ⟨ihv, iho⟩ := rounds k (by omega)
    have ht : k < k0_t1_loop.trips := lt_of_lt_of_eq (show k < 100 by omega) (by decide : k0_t1_loop.trips = 100).symm
    have e := pb_k0_t1_succ (F := Ideal) Variants.none c none i arg1 harg1 arg2 harg2 arg3 harg3 arg4 harg4 arg5 harg5 arg6 harg6 w G5 G6 ⟨k, ht⟩
    refine ⟨fun r j => ?_, fun r j => ?_⟩
    · refine (congrFun ((congrArg (fun L => arg5.view.read (Elt Ideal) (arg5.view.writes (Elt Ideal) G5 L)) ((congrArg Prod.fst e).trans
        (congrArg (· ++ _) (trip_row c i arg1 harg1 arg2 harg2 arg3 harg3 arg4 harg4 arg5 harg5 arg6 harg6 w ⟨k, ht⟩ _ _)))).trans
        (stored _ _ _ _ _ _ zero_off)) (ix2 r j)).trans ?_
      exact pay6_round x w r (ho r) (hb r) (hx r) _ ⟨k, by omega⟩ (ihv r) j
    · refine (congrFun ((congrArg (fun L => arg6.view.read (Elt Ideal) (arg6.view.writes (Elt Ideal) G6 L)) ((congrArg Prod.snd e).trans
        (congrArg (· ++ _) (trip_out c i arg1 harg1 arg2 harg2 arg3 harg3 arg4 harg4 arg5 harg5 arg6 harg6 w ⟨k, ht⟩ _ _)))).trans
        (stored _ _ _ _ _ _ zero_off)) (ix2 r j)).trans ?_
      refine (pay7_round x w r (ho r) (hb r) (hx r) _ _ ⟨k, ht⟩ (by show k < 100; omega) (ihv r) j).trans ?_
      rw [iho]
      by_cases hj : j.val = k
      · subst hj
        rw [if_pos rfl, if_pos (Nat.lt_succ_self _)]
      · rw [if_neg hj]
        exact if_congr (by omega) rfl rfl

/-- After round `k`, with the stores before the loop behind the loop's: the first items selected, zero behind them. -/
theorem last_round (f : arg6.view.ty.Contents (Elt Ideal)) (L : List (View.Piece (Elt Ideal) S80x128 .i32))
    (n : ℕ) (k : Fin k0_t1_loop.trips) (hn : n = k.val + 1) (r : Fin 80) (j : Fin 128) :
    (arg6.view.read (Elt Ideal) (arg6.view.writes (Elt Ideal) f
        ((pb_k0_t1 (F := Ideal) Variants.none c none i arg1 harg1 arg2 harg2 arg3 harg3 arg4 harg4 arg5 harg5 arg6 harg6 w G5 G6 n).2 ++ L))
      : Vec Ideal S80x128 .i32) (ix2 r j) = if j.val < n then item x w r ⟨j.val, by omega⟩ else 0#32 := by
  subst hn
  have e := (congrArg Prod.snd (pb_k0_t1_succ (F := Ideal) Variants.none c none i arg1 harg1 arg2 harg2 arg3 harg3 arg4 harg4 arg5 harg5 arg6 harg6
    w G5 G6 k)).trans (congrArg (· ++ _) (trip_out c i arg1 harg1 arg2 harg2 arg3 harg3 arg4 harg4 arg5 harg5 arg6 harg6 w k _ _))
  have h := (rounds c i arg1 harg1 arg2 harg2 arg3 harg3 arg4 harg4 arg5 harg5 arg6 harg6 x w ho hb hx G5 G6 h5 h6 (k.val + 1)
    (lt_of_lt_of_eq k.isLt (by decide : k0_t1_loop.trips = 100))).2 r j
  refine (congrFun ((congrArg (fun l => arg6.view.read (Elt Ideal) (arg6.view.writes (Elt Ideal) f (l ++ L))) e).trans (stored _ _ _ _ _ _ zero_off)) (ix2 r j)).trans ?_
  exact (congrFun ((congrArg (fun l => arg6.view.read (Elt Ideal) (arg6.view.writes (Elt Ideal) G6 l)) e).trans (stored _ _ _ _ _ _ zero_off)) (ix2 r j)).symm.trans h

end

variable (s : Vec Ideal S10 .i32)

/-- A slice, as the kernel reads it. -/
theorem slice_eq (n : ℕ) (hn : n < 10) (inb : ∀ a, ![n] a + S1.size a ≤ S10.size a) (h : 0 < S1.numel) :
    View.readAt (Elt Ideal) arg1.view (Rect.unit (s := S10) ![n] S1.size inb).toLoadRect (harg1.unread s) (Shape.Idx.first h) = s (ix1 ⟨n, hn⟩) := by
  rw [View.readAt_eq_ld, harg1.read_unread]
  refine congrArg s ?_
  funext a
  match a with
  | ⟨0, _⟩ => exact Fin.ext (Nat.add_zero _)

theorem out_apply (ho : ∀ r, Function.Injective (num w r)) (hb : ∀ r k, num w r k < 2 ^ 30) (hx : ∀ r k, ⊥ < row x r k)
    (hs : ∀ t : Fin 10, (s (ix1 t)).toNat < 100) (r : Fin 80) (j : Fin 16) :
    out0_A_3 (F := Ideal) c i arg1 harg1 arg2 harg2 arg3 harg3 arg4 harg4 arg5 harg5 arg6 harg6 s w x (ix2 r j) = extracted x w s r j := by
  unfold out0_A_3 kernelRun0_A
  dsimp only
  refine (congrFun (stored VO0_3 _ _ _ _ [] zero_off) (ix2 r j)).trans ?_
  unfold kernelRun0_A.sl.r_2 kernelRun0_A.sl.r_11 kernelRun0_A.sl.r_10 kernelRun0_A.sl.r_12 kernelRun0_A.sl.r_13 kernelRun0_A.sl.r_3
    kernelRun0_A.sl.r_4 kernelRun0_A.sl.r_5 kernelRun0_A.sl.r_6 kernelRun0_A.sl.r_7 kernelRun0_A.sl.r_8 kernelRun0_A.sl.r_9
    kernelRun0_A.sl.v15 kernelRun0_A.sl.v16
  refine (hot _ _ _ _ _ _ _ _ _ _ (fun t => s (ix1 t)) ?_ (fun t => lt_trans (hs t) (by decide)) _ r j).trans ?_
  · funext t
    fin_cases t <;> exact slice_eq arg1 harg1 s _ _ _ _
  unfold extracted
  by_cases h : j.val < 10
  · rw [dif_pos h, dif_pos h]
    unfold kernelRun0_A.sl.v13
    unfold View.readCov
    rw [loaded _ _ _ _ zero_off, loaded _ _ _ _ zero_off, harg2.read_unread]
    have h' := hs ⟨j.val, h⟩
    refine (last_round c i arg1 harg1 arg2 harg2 arg3 harg3 arg4 harg4 arg5 harg5 arg6 harg6 x w ho hb hx _ _ ?_ (fun r j => ?_) _ _ _
      ⟨99, by decide⟩ (by decide) r _).trans ((if_pos h').trans (congrArg (item x w r) (Fin.ext (Nat.mod_eq_of_lt (lt_trans h' (by decide))).symm)))
    · unfold kernelRun0_A.sl.HS0_1
      refine (stored arg5.view _ _ _ _ [] zero_off).trans ?_
      rw [loaded _ _ _ _ zero_off, harg3.read_unread]
      unfold k0_pay2
      funext y
      pointwise
    · unfold kernelRun0_A.sl.HS1_1
      refine (congrFun (stored arg6.view _ _ _ k0_pay3 [] zero_off) (ix2 r j)).trans ?_
      unfold k0_pay3
      pointwise
  · rw [dif_neg h, dif_neg h]

end

/-! ## The arrays -/

/-- The candidates as one row for a query. -/
def cands (x : FVec Ideal ⟨2, ![64000, 128]⟩ .f32) : FVec Ideal ⟨2, ![640, 12800]⟩ .f32 := fun y =>
  x (ix2 ⟨(y 0).val * 100 + (y 1).val / 128, by have h0 : (y 0).val < 640 := (y 0).isLt; have h1 : (y 1).val < 12800 := (y 1).isLt; omega⟩
    (⟨(y 1).val % 128, Nat.mod_lt _ (by decide)⟩ : Fin 128))

/-- The item of each candidate: its block's first item and its place in the block. -/
def items (b : IVec ⟨2, ![640, 128]⟩ 32) : IVec ⟨2, ![640, 12800]⟩ 32 := fun y =>
  IntOp.addi (IntOp.muli (b (ix2 ⟨(y 0).val, (y 0).isLt⟩ (⟨(y 1).val / 128, by have h1 : (y 1).val < 12800 := (y 1).isLt; omega⟩ : Fin 128))) 128#32)
    (BitVec.ofNat 32 ((y 1).val % 128))

section
open Cert.ExtractIdeal Cert.ExtractIdeal.Gen

variable (m : (ℓ : Loc nD τ sig) → Buf (Elt Ideal) ℓ) (c : Dev nD)

abbrev argS : IVec S10 32 := m ((c : Thread nD τ).loc main_arg0)
abbrev argB : IVec S640x128 32 := m ((c : Thread nD τ).loc main_arg1)
abbrev argX : FVec Ideal S64000x128 .f32 := m ((c : Thread nD τ).loc main_arg2)

theorem V_cands : (V m c main_v1 : FVec Ideal S640x12800 .f32) = cands (argX m c) := by
  unfold V
  after_results_simp
  funext y
  obtain ⟨r, k, rfl⟩ : ∃ r k, y = ix2 r k := ⟨y 0, y 1, by funext a; match a with | ⟨0, _⟩ => rfl | ⟨1, _⟩ => rfl⟩
  pointwise
  rfl

theorem V_items : (V m c main_v10 : IVec S640x12800 32) = items (argB m c) := by
  unfold V
  after_results_simp
  funext y
  obtain ⟨r, k, rfl⟩ : ∃ r k, y = ix2 r k := ⟨y 0, y 1, by funext a; match a with | ⟨0, _⟩ => rfl | ⟨1, _⟩ => rfl⟩
  pointwise
  rfl

theorem at_point : ∀ t : Fin cfg0.N, win0_1.index t = ![t.val, 0] ∧ win0_2.index t = ![t.val, 0] ∧ win0_3.index t = ![t.val, 0] :=
  (by decide +kernel : ∀ t : Fin grid0.N, win0_1.index t = ![t.val, 0] ∧ win0_2.index t = ![t.val, 0] ∧ win0_3.index t = ![t.val, 0])

theorem block_s (t : Fin cfg0.N) : (iblk m c 0 t : Vec Ideal S10 .i32) = argS m c := by
  funext y
  refine Eq.trans (congrArg (V m c main_arg0) (?_ : ((cfg0.win 0).blk t).view.emb y = y)) (congrFun (V_main_arg0 m c) y)
  funext a; apply Fin.ext
  match a with
  | ⟨0, _⟩ => show 0 * 10 + 1 * (y 0).val = (y 0).val; omega

/-- The row of the array that row `r` of block `t` is. -/
abbrev query (t : Fin cfg0.N) (r : Fin 80) : Fin 640 := ⟨80 * t.val + r.val, by have h : t.val < 8 := lt_of_lt_of_eq t.isLt (by decide); have := r.isLt; omega⟩

theorem block_items (t : Fin cfg0.N) (r : Fin 80) (k : Fin 12800) : (iblk m c 1 t : Vec Ideal S80x12800 .i32) (ix2 r k) = items (argB m c) (ix2 (query t r) k) := by
  have e := (at_point t).1
  refine Eq.trans (congrArg (V m c main_v10) (?_ : ((cfg0.win 1).blk t).view.emb (ix2 r k) = ix2 (query t r) k)) (congrFun (V_items m c) _)
  funext a; apply Fin.ext
  match a with
  | ⟨0, _⟩ => show win0_1.index t (0 : Fin 2) * 80 + 1 * r.val = 80 * t.val + r.val; rw [e]; show t.val * 80 + 1 * _ = _; omega
  | ⟨1, _⟩ => show win0_1.index t (1 : Fin 2) * 12800 + 1 * k.val = k.val; rw [e]; show 0 * 12800 + 1 * _ = _; omega

theorem block_cands (t : Fin cfg0.N) (r : Fin 80) (k : Fin 12800) : (iblk m c 2 t : FVec Ideal S80x12800 .f32) (ix2 r k) = cands (argX m c) (ix2 (query t r) k) := by
  have e := (at_point t).2.1
  refine Eq.trans (congrArg (V m c main_v1) (?_ : ((cfg0.win 2).blk t).view.emb (ix2 r k) = ix2 (query t r) k)) (congrFun (V_cands m c) _)
  funext a; apply Fin.ext
  match a with
  | ⟨0, _⟩ => show win0_2.index t (0 : Fin 2) * 80 + 1 * r.val = 80 * t.val + r.val; rw [e]; show t.val * 80 + 1 * _ = _; omega
  | ⟨1, _⟩ => show win0_2.index t (1 : Fin 2) * 12800 + 1 * k.val = k.val; rw [e]; show 0 * 12800 + 1 * _ = _; omega

/-- The items the run leaves. -/
def result : Vec Ideal S640x16 .i32 := (dats m 0 c).arrAt 3 cfg0.N

theorem result_eq (ho : ∀ r, Function.Injective (num (items (argB m c)) r)) (hb : ∀ r k, num (items (argB m c)) r k < 2 ^ 30)
    (hx : ∀ r k, ⊥ < row (cands (argX m c)) r k) (hs : ∀ t : Fin 10, (argS m c (ix1 t)).toNat < 100) (q : Fin 640) (j : Fin 16) :
    result m c (ix2 q j) = extracted (cands (argX m c)) (items (argB m c)) (argS m c) q j := by
  have hq := q.isLt
  obtain ⟨t, r, rfl⟩ : ∃ (t : Fin cfg0.N) (r : Fin 80), q = query t r :=
    ⟨⟨q.val / 80, lt_of_lt_of_eq (show q.val / 80 < 8 by omega) (by decide)⟩, ⟨q.val % 80, Nat.mod_lt _ (by decide)⟩, Fin.ext (Nat.div_add_mod q.val 80).symm⟩
  have en : ∀ r, num (iblk m c 1 t : Vec Ideal S80x12800 .i32) r = num (items (argB m c)) (query t r) :=
    fun r => funext fun k => congrArg BitVec.toNat (block_items m c t r k)
  have ex : ∀ r, row (iblk m c 2 t : FVec Ideal S80x12800 .f32) r = row (cands (argX m c)) (query t r) := fun r => funext fun k => block_cands m c t r k
  have hv : ((cfg0.win 3).blk t).view.emb (ix2 r j) = (ix2 (query t r) j : S640x16.Idx) := by
    have e := (at_point t).2.2
    funext a; apply Fin.ext
    match a with
    | ⟨0, _⟩ => show win0_3.index t (0 : Fin 2) * 80 + 1 * r.val = 80 * t.val + r.val; rw [e]; show t.val * 80 + 1 * _ = _; omega
    | ⟨1, _⟩ => show win0_3.index t (1 : Fin 2) * 16 + 1 * j.val = j.val; rw [e]; show 0 * 16 + 1 * _ = _; omega
  have e := (Value.blocks3 m c t ((by decide +kernel : ∀ t : Fin cfg0.N, (cfg0.win 3).flush t = true) _)).trans (Value.flushed3_A m c t)
  rw [block_s m c t] at e
  refine (congrArg (result m c) hv.symm).trans ((congrFun e (ix2 r j)).trans ((out_apply c _ _ _ _ _ _ _ _ _ _ _ _ _ (iblk m c 2 t) (iblk m c 1 t) (argS m c)
    (fun r => by rw [en]; exact ho _) (fun r k => by rw [en]; exact hb _ k) (fun r k => by rw [ex]; exact hx _ k) hs r j).trans ?_))
  unfold extracted item
  by_cases h : j.val < 10
  · rw [dif_pos h, dif_pos h, en, ex, block_items]
  · rw [dif_neg h, dif_neg h]

end

end Cert.ExtractValue

end
-- ==== Proof.ExtractRef.lean ====
/-
  The reference's side of the extraction: its sort by value and item is the order of `Proof/Rounds.lean`, and the gather of the ten
  columns reads the places that the slices name.
-/
module

public import proofs.«01_k».proof.Proof.ExtractValue
public import proofs.«01_k».proof.Proof.Gen.ExtractReferenceIdeal
public import proofs.«01_k».proof.Proof.Gen.ExtractReferenceIdeal.Run
public import Idealize.ShloMosaic.Lib.ValueIdxCore

@[expose] public section

noncomputable section

namespace Cert.ExtractRef

open Idealize.ShloMosaic Idealize.ShloMosaic.TcCoe Cert.Rounds Cert.ExtractValue
open Cert.ExtractReferenceIdeal Cert.ExtractReferenceIdeal.Gen

/-- Replacing zero by zero changes nothing. -/
theorem zero_same (z : EReal) :
    Scalar.select (FloatOps.cmpf (F := Ideal) (φ := .f32) .oeq z (FloatOps.ofBits (F := Ideal) .f32 0#32))
      (FloatOps.ofBits (F := Ideal) .f32 0#32 : EReal) z = z := by
  have e : (FloatOps.ofBits (F := Ideal) .f32 0#32 : EReal) = 0 := by simp
  rw [e]
  show Scalar.select (BitVec.ofBool (decide (z = 0))) 0 z = z
  by_cases h : z = 0
  · rw [h]; exact ite_self _
  · rw [decide_eq_false h]; rfl

/-- Every extended real is itself. -/
theorem own_same (z y x : EReal) :
    Scalar.select (FloatOps.cmpf (F := Ideal) (φ := .f32) .une z z) y x = x := by
  show Scalar.select (BitVec.ofBool (decide (z ≠ z))) y x = x
  rw [decide_eq_false fun h => h rfl]
  rfl

/-- The sort's comparison of two candidates. -/
theorem before_eq (a b : EReal) (u w : BitVec 32) (hu : u.toNat < 2 ^ 30) (hw : w.toNat < 2 ^ 30) :
    (comparator_f32_i32_d1 (F := Ideal) (-a, u) (-b, w) == 1#1) = decide (b < a ∨ a = b ∧ u.toNat < w.toNat) := by
  unfold comparator_f32_i32_d1
  dsimp only
  rw [zero_same, zero_same, own_same, own_same]
  have hs : IntOp.cmpi .slt u w = BitVec.ofBool (decide (u.toNat < w.toNat)) := by
    show BitVec.ofBool (decide (u.toInt < w.toInt)) = _
    rw [toInt_word u (by omega), toInt_word w (by omega)]
    exact congrArg _ (decide_eq_decide.2 Int.ofNat_lt)
  have hl : FloatOps.cmpfTotal (F := Ideal) (φ := .f32) .lt (-a : EReal) (-b) = BitVec.ofBool (decide (b < a)) :=
    congrArg BitVec.ofBool (decide_eq_decide.2 EReal.neg_lt_neg_iff)
  have he : FloatOps.cmpfTotal (F := Ideal) (φ := .f32) .eq (-a : EReal) (-b) = BitVec.ofBool (decide (a = b)) :=
    congrArg BitVec.ofBool (decide_eq_decide.2 neg_inj)
  rw [hs, hl, he]
  by_cases h1 : b < a <;> by_cases h2 : a = b <;> by_cases h3 : u.toNat < w.toNat <;> simp [h1, h2, h3, IntOp.andi, IntOp.ori]

variable (x : FVec Ideal S640x12800 .f32) (w : IVec S640x12800 32)

theorem sort_apply (hb : ∀ r k, num w r k < 2 ^ 30) (r : Fin 640) (t : Fin 12800) :
    (Host.sort2 S640x12800 1 (comparator_f32_i32_d1 (F := Ideal)) (Host.negf x) w).2 (ix2 r t) = item x w r t := by
  have hd : 1 < S640x12800.rank := by decide
  have ha : ∀ k : Fin 12800, Shape.Idx.along (s := S640x12800) (ix2 r t) ⟨1, hd⟩ k = ix2 r k := by
    intro k
    funext a
    match a with
    | ⟨0, _⟩ => exact Function.update_of_ne (fun h => absurd (congrArg Fin.val h) Nat.zero_ne_one) _ _
    | ⟨1, _⟩ => exact Function.update_self _ _ _
  have hf : (fun k k' : Fin 12800 => comparator_f32_i32_d1 (F := Ideal)
        (Host.negf x (Shape.Idx.along (s := S640x12800) (ix2 r t) ⟨1, hd⟩ k), w (Shape.Idx.along (s := S640x12800) (ix2 r t) ⟨1, hd⟩ k))
        (Host.negf x (Shape.Idx.along (s := S640x12800) (ix2 r t) ⟨1, hd⟩ k'), w (Shape.Idx.along (s := S640x12800) (ix2 r t) ⟨1, hd⟩ k')) == 1#1)
      = ahead (row x r) (num w r) := by
    funext k k'
    rw [ha, ha]
    exact before_eq _ _ _ _ (hb r k) (hb r k')
  unfold Host.sort2
  simp only [dif_pos hd]
  refine (congrArg w (ha _)).trans ?_
  exact congrArg (fun f : Fin 12800 → Fin 12800 → Bool => w (ix2 r (sortedFrom f t))) hf

/-- The list entry of a gathered column. -/
abbrev startIdx (y : S640x10.Idx) : S10x1.Idx := ix2 ⟨(y 1).val, (y 1).isLt⟩ (⟨0, Nat.one_pos⟩ : Fin 1)

abbrev gd := gather_S640x12800_S10x1_S640x10_0_1_n_n_1_1_6401

/-- The host gather of columns, at an index: the named column, clamped into the row. -/
theorem gather_apply (T : S640x12800.Idx → BitVec 32) (I : IVec S10x1 32) (y : S640x10.Idx) :
    Host.gather gd T I y = T (ix2 ⟨(y 0).val, (y 0).isLt⟩ (⟨min (I (startIdx y)).toInt.toNat 12799, by omega⟩ : Fin 12800)) := by
  unfold Host.gather
  congr 1
  funext a
  refine Fin.ext ?_
  show GatherDims.start gd y I a + GatherDims.batchCoord gd y a + GatherDims.offCoord gd y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ GatherDims.startIndexMap gd from fun h => absurd (List.mem_singleton.mp h) (by decide))]
    unfold GatherDims.offCoord
    rw [dif_pos (show (0 : Fin 2) ∈ GatherDims.sKept gd from
      (GatherDims.mem_sKept _ _).mpr ⟨fun h => absurd (List.mem_singleton.mp h) (by decide), List.not_mem_nil⟩)]
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ GatherDims.startIndexMap gd from List.mem_singleton.mpr rfl)]
    have hsi : GatherDims.siIdx gd y ⟨List.idxOf (1 : Fin 2) (GatherDims.startIndexMap gd), List.idxOf_lt_length_iff.2 (List.mem_singleton.mpr rfl)⟩ = startIdx y := by
      funext b; refine Fin.ext ?_
      match b with
      | ⟨0, _⟩ => rfl
      | ⟨1, _⟩ => rfl
    rw [hsi]
    rfl

/-- A slice below 100 is its own place in the row, through the wrap of negative places and the clamp. -/
theorem start_eq (v : BitVec 32) (hv : v.toNat < 100) :
    min (Scalar.select (IntOp.cmpi .slt v 0#32) (IntOp.addi v 12800#32) v).toInt.toNat 12799 = v.toNat % 12800 := by
  have h : v.toInt = v.toNat := toInt_word v (by omega)
  rw [show IntOp.cmpi .slt v 0#32 = 0#1 by
    show BitVec.ofBool (decide (v.toInt < 0)) = 0#1
    rw [decide_eq_false (by omega)]; rfl]
  show min v.toInt.toNat 12799 = _
  rw [h]
  omega

theorem cands_eq (c : FVec Ideal S64000x128 .f32) : shapeCast S640x12800 c shapeCasts_S64000x128_S640x12800 = cands c := by
  funext y
  obtain ⟨r, k, rfl⟩ : ∃ r k, y = ix2 r k := ⟨y 0, y 1, by funext a; match a with | ⟨0, _⟩ => rfl | ⟨1, _⟩ => rfl⟩
  pointwise
  rfl

theorem items_eq (b : IVec S640x128 32) :
    shapeCast S640x12800
      (addi
        (broadcastInDim S640x100x128 ![0, 1, 2] bcast_S640x100x1_S640x100x128_0_1_2
          (muli (broadcastInDim S640x100x1 ![0, 1] bcast_S640x100_S640x100x1_0_1 (extractStridedSlice S640x100 ![0, 0] b slices_S640x128_S640x100_0_0))
            (broadcastInDim S640x100x1 ![] bcast_S_S640x100x1 (constantI S_ 32 128#32))))
        (broadcastInDim S640x100x128 ![0, 1, 2] bcast_S1x1x128_S640x100x128_0_1_2
          (broadcastInDim S1x1x128 ![2] bcast_S128_S1x1x128_2 (iotaInDim S128 32 0)))) shapeCasts_S640x100x128_S640x12800 = items b := by
  funext y
  obtain ⟨r, k, rfl⟩ : ∃ r k, y = ix2 r k := ⟨y 0, y 1, by funext a; match a with | ⟨0, _⟩ => rfl | ⟨1, _⟩ => rfl⟩
  pointwise
  rfl

/-- The gathered columns, widened with zeros. -/
theorem widened_apply (s : IVec S10 32) (hs : ∀ t : Fin 10, (s (ix1 t)).toNat < 100) (hb : ∀ r k, num w r k < 2 ^ 30) (q : Fin 640) (j : Fin 16) :
    pad S640x16 ![0, 0] ![0, 6] ![0, 0]
      (Host.gather gd (Host.sort2 S640x12800 1 (comparator_f32_i32_d1 (F := Ideal)) (Host.negf x) w).2
        (broadcastInDim S10x1 ![0] bcast_S10_S10x1_0
          (select (cmpi .slt s (broadcastInDim S10 ![] bcast_S_S10 (constantI S_ 32 0#32)))
            (addi s (broadcastInDim S10 ![] bcast_S_S10 (constantI S_ 32 12800#32))) s)))
      (id (constantI S_ 32 0#32)) pads_S640x10_S640x16_000_060 h_S_ (ix2 q j) = extracted x w s q j := by
  unfold extracted
  pointwise
  split
  · rename_i h
    rw [gather_apply]
    have e : ∀ I : Fin 12800, I.val = (s (ix1 ⟨j.val, h⟩)).toNat % 12800 →
        (Host.sort2 S640x12800 1 (comparator_f32_i32_d1 (F := Ideal)) (Host.negf x) w).2 (ix2 q I) =
          item x w q ⟨(s (ix1 ⟨j.val, h⟩)).toNat % 12800, Nat.mod_lt _ (by decide)⟩ := by
      intro I hI
      rw [sort_apply x w hb, show I = ⟨(s (ix1 ⟨j.val, h⟩)).toNat % 12800, Nat.mod_lt _ (by decide)⟩ from Fin.ext hI]
    refine e _ ?_
    pointwise
    exact start_eq _ (hs _)
  · rfl

end Cert.ExtractRef

end
-- ==== Proof.ExtractRun.lean ====
/-
  The claims of the extraction: the frames are its run's, and its result is the reference's where the lists name distinct blocks of the
  row, the slices lie below 100 and every candidate is above −∞.
-/
module

public import proofs.«01_k».proof.Defs
public import proofs.«01_k».proof.Proof.ExtractRef
public import proofs.«01_k».proof.Proof.Gen.Extract.Frame
public import proofs.«01_k».proof.Proof.Gen.Pre_extract_ok
public import Idealize.ShloMosaic.Adequacy
public import Idealize.ShloMosaic.Init

@[expose] public section

noncomputable section

namespace Cert.ExtractRun

open Idealize.ShloMosaic Idealize.SL.Sem Cert.Rounds Cert.ExtractValue

theorem frame_p : Cert.quiescent_Extract := fun m ρ _ => Cert.Extract.Gen.frame m ρ

theorem frame_pi : Cert.quiescent_ExtractIdeal := fun m ρ _ => Cert.ExtractIdeal.Gen.frame m ρ

theorem frame_pi_pre : Cert.quiescent_ExtractIdeal_pre_extract_ok := fun m ρ _ => frame_pi m ρ trivial

theorem frame_ri : Cert.quiescent_ExtractReferenceIdeal := fun m ρ _ =>
  (θ_run Cert.ExtractReferenceIdeal.defs _ _).mono (fun r h => ⟨fun c => (h c).2, sem_eq_zero_of_no_sems (by decide) r.2⟩)
    (Cert.ExtractReferenceIdeal.Value.run (F := Ideal) m ρ)

theorem frame_ri_pre : Cert.quiescent_ExtractReferenceIdeal_pre_extract_ok := fun m ρ _ => frame_ri m ρ trivial

theorem both_one {x y : BitVec 1} (h : IntOp.andi x y = 1#1) : x = 1#1 ∧ y = 1#1 := by
  revert x y; decide

theorem of_flag {p : Prop} [Decidable p] (h : BitVec.ofBool (decide p) = 1#1) : p := by
  by_contra hn
  rw [decide_eq_false hn] at h
  exact absurd h (by decide)

/-- A word between zero and a small bound, both read with sign. -/
theorem lt_of_flags (v : BitVec 32) (n : Nat) (hn : n < 2 ^ 31) (h0 : IntOp.cmpi .sge v 0#32 = 1#1)
    (h1 : IntOp.cmpi .slt v (BitVec.ofNat 32 n) = 1#1) : v.toNat < n := by
  have e0 : (0 : ℤ) ≤ v.toInt := of_flag h0
  have e1 : v.toInt < (BitVec.ofNat 32 n).toInt := of_flag h1
  rw [toInt_word (BitVec.ofNat 32 n) (by rw [BitVec.toNat_ofNat]; omega), BitVec.toNat_ofNat] at e1
  rw [BitVec.toInt_eq_toNat_cond] at e0 e1
  split at e0 <;> omega

section

variable (s : IVec Cert.Pre_extract_ok.S10 32) (b : IVec Cert.Pre_extract_ok.S640x128 32) (c : FVec Ideal Cert.Pre_extract_ok.S64000x128 .f32)

/-- What the precondition says of one group, one other lane and one candidate. -/
theorem parts (h : Cert.Pre_extract_ok.fn (F := Ideal) s b c = fun _ => 1#1) (r : Fin 640) (n : Fin 100) (l : Fin 128) :
    (b (ix2 r ⟨n.val, by omega⟩)).toNat < 784 ∧ (l.val < 100 → b (ix2 r ⟨n.val, by omega⟩) = b (ix2 r l) → l.val = n.val) ∧
      (∀ hl : l.val < 10, (s (ix1 ⟨l.val, hl⟩)).toNat < 100) ∧ (⊥ : EReal) < c (ix2 ⟨r.val * 100 + n.val, by omega⟩ l) := by
  have e := congrFun h (ix3 r n l)
  unfold Cert.Pre_extract_ok.fn Cert.Pre_extract_ok.fn_part1 Cert.Pre_extract_ok.fn_part2 Cert.Pre_extract_ok.fn_pad at e
  dsimp only at e
  revert e
  pointwise
  intro e
  obtain ⟨e, hc⟩ := both_one e
  obtain ⟨e, h1⟩ := both_one e
  obtain ⟨e, h0⟩ := both_one e
  obtain ⟨e, hd⟩ := both_one e
  obtain ⟨g0, g1⟩ := both_one e
  refine ⟨lt_of_flags _ 784 (by decide) g0 g1, fun hl hb => ?_, fun hl => ?_, ?_⟩
  · by_contra hn
    rw [hb, show IntOp.cmpi .eq (b (ix2 r l)) (b (ix2 r l)) = 1#1 from by
        show BitVec.ofBool (decide (b (ix2 r l) = b (ix2 r l))) = 1#1
        rw [decide_eq_true rfl]; rfl,
      show IntOp.cmpi .slt (BitVec.ofNat 32 l.val) 100#32 = 1#1 from by
        show BitVec.ofBool (decide ((BitVec.ofNat 32 l.val).toInt < 100)) = 1#1
        rw [toInt_word _ (by rw [BitVec.toNat_ofNat]; omega), BitVec.toNat_ofNat, decide_eq_true (by omega)]; rfl,
      show IntOp.cmpi .ne (BitVec.ofNat 32 l.val) (BitVec.ofNat 32 n.val) = 1#1 from by
        show BitVec.ofBool (!decide (BitVec.ofNat 32 l.val = BitVec.ofNat 32 n.val)) = 1#1
        rw [decide_eq_false fun he => hn (by
          have := congrArg BitVec.toNat he
          rw [BitVec.toNat_ofNat, BitVec.toNat_ofNat] at this
          omega)]
        rfl] at hd
    exact absurd hd (by decide)
  · rw [dif_pos hl] at h0 h1
    exact lt_of_flags _ 100 (by decide) h0 h1
  · rw [Scores.ofBits_bot] at hc
    exact of_flag hc

variable (h : Cert.Pre_extract_ok.fn (F := Ideal) s b c = fun _ => 1#1)
include h

theorem slices_lt (t : Fin 10) : (s (ix1 t)).toNat < 100 :=
  (parts s b c h 0 0 ⟨t.val, by omega⟩).2.2.1 t.isLt

theorem above (r : Fin 640) (k : Fin 12800) : ⊥ < row (cands c) r k :=
  (parts s b c h r ⟨k.val / 128, by omega⟩ ⟨k.val % 128, by omega⟩).2.2.2

theorem num_eq (r : Fin 640) (k : Fin 12800) :
    num (items b) r k = (b (ix2 r ⟨k.val / 128, by omega⟩)).toNat * 128 + k.val % 128 := by
  have hb := (parts s b c h r ⟨k.val / 128, by omega⟩ 0).1
  show (b (ix2 r ⟨k.val / 128, _⟩) * 128#32 + BitVec.ofNat 32 (k.val % 128)).toNat = _
  rw [BitVec.toNat_add, BitVec.toNat_mul, BitVec.toNat_ofNat, BitVec.toNat_ofNat]
  simp only at hb
  omega

theorem num_lt (r : Fin 640) (k : Fin 12800) : num (items b) r k < 2 ^ 30 := by
  have hb := (parts s b c h r ⟨k.val / 128, by omega⟩ 0).1
  rw [num_eq s b c h]
  simp only at hb
  omega

/-- Distinct places of a row hold distinct items. -/
theorem num_inj (r : Fin 640) : Function.Injective (num (items b) r) := by
  intro k k' e
  rw [num_eq s b c h, num_eq s b c h] at e
  have hn := (parts s b c h r ⟨k.val / 128, by omega⟩ ⟨k'.val / 128, by omega⟩).2.1 (by show k'.val / 128 < 100; omega)
    (BitVec.eq_of_toNat_eq (by simp only; omega))
  simp only at hn
  exact Fin.ext (by omega)

end

theorem algebraic : Cert.algebraic_ExtractIdeal_ExtractReferenceIdeal_pre_extract_ok := by
  intro m ρ m' ρ' hpre hagree
  refine ⟨fun c => result m c, Cert.ExtractIdeal.Value.run_blocks (F := Ideal) m ρ,
    (θ_run Cert.ExtractReferenceIdeal.defs _ _).mono (fun r h c => ⟨(h c).1.trans ?_, (h c).2⟩)
      (Cert.ExtractReferenceIdeal.Value.run (F := Ideal) m' ρ')⟩
  rw [(hagree c).1, (hagree c).2.1, (hagree c).2.2, ExtractRef.items_eq, ExtractRef.cands_eq]
  have hb := num_lt _ _ _ (hpre c)
  have hs := slices_lt _ _ _ (hpre c)
  funext i
  obtain ⟨r, j, rfl⟩ : ∃ r j, i = ix2 r j := ⟨i 0, i 1, by funext a; match a with | ⟨0, _⟩ => rfl | ⟨1, _⟩ => rfl⟩
  exact (ExtractRef.widened_apply (cands (argX m c)) (items (argB m c)) (argS m c) hs hb r j).trans
    (result_eq m c (num_inj _ _ _ (hpre c)) hb (above _ _ _ (hpre c)) hs r j).symm

end Cert.ExtractRun

end
-- ==== Proof.lean ====
/-
  The claims of the seven calls taken. The row maxima, the denominators, the scores with their group maxima, the selection of the groups
  and the selection of the items are in Proof/RowMaxRun.lean, Proof/DenominatorRun.lean, Proof/WeightsRun.lean, Proof/ChooseRun.lean
  and Proof/ExtractRun.lean; here are the two gathers. Each gather's run is proved once, for every float model
  (Proof/GatherRun.lean, Proof/BlockRun.lean); the ideal program is the same text, so its run is the same theorem. What the two sides
  end with is read in Proof/Take.lean and Proof/BlockTake.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_sel_ok
public import proofs.«01_k».proof.Proof.Gen.Blocks
public import proofs.«01_k».proof.Proof.Gen.Blocks.Skeleton
public import proofs.«01_k».proof.Proof.Gen.BlocksIdeal
public import proofs.«01_k».proof.Proof.Gen.BlocksIdeal.Skeleton
public import proofs.«01_k».proof.Proof.Gen.BlocksReferenceIdeal
public import proofs.«01_k».proof.Proof.Gen.BlocksReferenceIdeal.Run
public import proofs.«01_k».proof.Proof.Gen.Pre_selb_ok
public import proofs.«01_k».proof.Proof.Take
public import proofs.«01_k».proof.Proof.BlockTake
public import proofs.«01_k».proof.Proof.RowMaxRun
public import proofs.«01_k».proof.Proof.DenominatorRun
public import proofs.«01_k».proof.Proof.WeightsRun
public import proofs.«01_k».proof.Proof.ChooseRun
public import proofs.«01_k».proof.Proof.ExtractRun
public import Idealize.ShloMosaic.Adequacy
public import Idealize.ShloMosaic.Init

@[expose] public section

noncomputable section

namespace Cert.Proof

open Idealize.ShloMosaic Idealize.SL.Sem

/-- The precondition, as jax computes it, says that every selected index is a row of the table. -/
theorem range_of_pre {F : FTy → Type} [FloatOps F] (T : FVec F Cert.Pre_sel_ok.S100000x64 .f32) (I : IVec Cert.Pre_sel_ok.S32x20x1x10 32)
    (h : Cert.Pre_sel_ok.fn (F := F) T I = fun _ => 1#1) (j : Cert.Pre_sel_ok.S32x20x1x10.Idx) : (I j).toNat < 100000 := by
  have hj : BitVec.ofBool (decide ((0 : ℤ) ≤ (I j).toInt)) &&& BitVec.ofBool (decide ((I j).toInt < 100000)) = 1#1 := congrFun h j
  by_cases h0 : (0 : ℤ) ≤ (I j).toInt
  · by_cases h1 : (I j).toInt < 100000
    · rw [BitVec.toInt_eq_toNat_cond] at h0 h1
      split at h0 <;> omega
    · rw [decide_eq_false h1, BitVec.and_comm] at hj
      exact absurd hj (by cases decide ((0 : ℤ) ≤ (I j).toInt) <;> decide)
  · rw [decide_eq_false h0] at hj
    exact absurd hj (by cases decide ((I j).toInt < 100000) <;> decide)

theorem frame_p : Cert.quiescent_Kernel := fun m ρ hpre =>
  (θ_run Cert.Kernel.defs _ _).mono (fun _ h => ⟨fun c => (h.1 c).2, h.2⟩)
    (Gather.run_main (F := Bits) m ρ fun d => range_of_pre _ _ (hpre d))

theorem ideal_run (m : (ℓ : Loc Cert.KernelIdeal.nD Cert.KernelIdeal.τ Cert.KernelIdeal.sig) → Buf (Elt Ideal) ℓ)
    (ρ : Dev Cert.KernelIdeal.nD → PrngReg) (hpre : Gather.PreOK (F := Ideal) m) :
    θ_run (Cert.KernelIdeal.defs (F := Ideal)) (Cert.KernelIdeal.threads (F := Ideal)) ⟨m, fun _ => 0, ρ⟩ (Gather.QC (F := Ideal) m) :=
  Gather.run_main (F := Ideal) m ρ hpre

theorem frame_pi : Cert.quiescent_KernelIdeal := fun m ρ hpre =>
  (θ_run Cert.KernelIdeal.defs _ _).mono (fun _ h => ⟨fun c => (h.1 c).2, h.2⟩)
    (ideal_run m ρ fun d => range_of_pre _ _ (hpre d))

/-- The reference's run, read at its arguments; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_sel_ok := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' hpre hagree
  have hok : Gather.PreOK (F := Ideal) m := fun d => range_of_pre _ _ (hpre d)
  refine ⟨fun c => Gather.result (F := Ideal) m c, (θ_run Cert.KernelIdeal.defs _ _).mono (fun _ h => h.1) (ideal_run m ρ hok),
    (θ_run Cert.ReferenceIdeal.defs _ _).mono (fun r h c => ⟨(h c).1.trans ?_, (h c).2⟩) (Cert.ReferenceIdeal.Value.run (F := Ideal) m' ρ')⟩
  rw [(hagree c).1, (hagree c).2]
  exact (Take.fetched_eq (F := Ideal) _ _ (hok c)).trans (Take.result_eq (F := Ideal) m c).symm

/-! ## The gather of the selected blocks -/

theorem block_range_of_pre {F : FTy → Type} [FloatOps F] (T : FVec F Cert.Pre_selb_ok.S640x100352 .f32) (B : IVec Cert.Pre_selb_ok.S640x128 32)
    (h : Cert.Pre_selb_ok.fn (F := F) T B = fun _ => 1#1) (y : Cert.Blocks.S640x100.Idx) : (B (Blocks.selAt y)).toNat < 784 := by
  have e : extractStridedSlice Cert.Blocks.S640x100 ![0, 0] B Cert.Pre_selb_ok.Facts.slices_S640x128_S640x100_0_0 y = B (Blocks.selAt y) :=
    extractStridedSlice_apply _ _ _ _ _ fun a => match a with
      | ⟨0, _⟩ => (Nat.zero_add _).symm
      | ⟨1, _⟩ => (Nat.zero_add _).symm
  have hj : BitVec.ofBool (decide ((0 : ℤ) ≤ (B (Blocks.selAt y)).toInt)) &&& BitVec.ofBool (decide ((B (Blocks.selAt y)).toInt < 784)) = 1#1 :=
    (congrArg (fun v : BitVec 32 => BitVec.ofBool (decide ((0 : ℤ) ≤ v.toInt)) &&& BitVec.ofBool (decide (v.toInt < 784))) e.symm).trans (congrFun h y)
  by_cases h0 : (0 : ℤ) ≤ (B (Blocks.selAt y)).toInt
  · by_cases h1 : (B (Blocks.selAt y)).toInt < 784
    · rw [BitVec.toInt_eq_toNat_cond] at h0 h1
      split at h0 <;> omega
    · rw [decide_eq_false h1, BitVec.and_comm] at hj
      exact absurd hj (by cases decide ((0 : ℤ) ≤ (B (Blocks.selAt y)).toInt) <;> decide)
  · rw [decide_eq_false h0] at hj
    exact absurd hj (by cases decide ((B (Blocks.selAt y)).toInt < 784) <;> decide)

theorem frame_pb : Cert.quiescent_Blocks := fun m ρ hpre =>
  (θ_run Cert.Blocks.defs _ _).mono (fun _ h => ⟨fun c => (h.1 c).2, h.2⟩)
    (Blocks.run_main (F := Bits) m ρ fun d => block_range_of_pre _ _ (hpre d))

theorem ideal_block_run (m : (ℓ : Loc Cert.BlocksIdeal.nD Cert.BlocksIdeal.τ Cert.BlocksIdeal.sig) → Buf (Elt Ideal) ℓ)
    (ρ : Dev Cert.BlocksIdeal.nD → PrngReg) (hpre : Blocks.PreOK (F := Ideal) m) :
    θ_run (Cert.BlocksIdeal.defs (F := Ideal)) (Cert.BlocksIdeal.threads (F := Ideal)) ⟨m, fun _ => 0, ρ⟩ (Blocks.QC (F := Ideal) m) :=
  Blocks.run_main (F := Ideal) m ρ hpre

theorem frame_pbi : Cert.quiescent_BlocksIdeal := fun m ρ hpre =>
  (θ_run Cert.BlocksIdeal.defs _ _).mono (fun _ h => ⟨fun c => (h.1 c).2, h.2⟩)
    (ideal_block_run m ρ fun d => block_range_of_pre _ _ (hpre d))

theorem frame_rbi : Cert.quiescent_BlocksReferenceIdeal := fun m ρ _ =>
  (θ_run Cert.BlocksReferenceIdeal.defs _ _).mono (fun r h => ⟨fun c => (h c).2, sem_eq_zero_of_no_sems (by decide) r.2⟩)
    (Cert.BlocksReferenceIdeal.Value.run (F := Ideal) m ρ)

theorem frame_rbi_pre : Cert.quiescent_BlocksReferenceIdeal_pre_selb_ok := fun m ρ _ =>
  (θ_run Cert.BlocksReferenceIdeal.defs _ _).mono (fun r h => ⟨fun c => (h c).2, sem_eq_zero_of_no_sems (by decide) r.2⟩)
    (Cert.BlocksReferenceIdeal.Value.run (F := Ideal) m ρ)

theorem algebraic_blocks : Cert.algebraic_BlocksIdeal_BlocksReferenceIdeal := by
  intro m ρ m' ρ' hpre hagree
  have hok : Blocks.PreOK (F := Ideal) m := fun d => block_range_of_pre _ _ (hpre d)
  refine ⟨fun c => Blocks.result (F := Ideal) m c, (θ_run Cert.BlocksIdeal.defs _ _).mono (fun _ h => h.1) (ideal_block_run m ρ hok),
    (θ_run Cert.BlocksReferenceIdeal.defs _ _).mono (fun r h c => ⟨(h c).1.trans ?_, (h c).2⟩) (Cert.BlocksReferenceIdeal.Value.run (F := Ideal) m' ρ')⟩
  rw [(hagree c).1, (hagree c).2]
  exact (BlockTake.fetched_eq (F := Ideal) _ _ (hok c)).trans (BlockTake.result_eq (F := Ideal) m hok c).symm

theorem claim : Cert.Claim := ⟨Cert.Kernel.Gen.facts, Cert.KernelIdeal.Gen.facts, Cert.ReferenceIdeal.Gen.facts, Cert.Blocks.Gen.facts, Cert.BlocksIdeal.Gen.facts,
    Cert.BlocksReferenceIdeal.Gen.facts, Cert.RowMax.Gen.facts, Cert.RowMaxIdeal.Gen.facts, Cert.RowMaxReferenceIdeal.Gen.facts,
    Cert.Denominator.Gen.facts, Cert.DenominatorIdeal.Gen.facts, Cert.DenominatorReferenceIdeal.Gen.facts, Cert.Weights.Gen.facts,
    Cert.WeightsIdeal.Gen.facts, Cert.WeightsReferenceIdeal.Gen.facts, Cert.Choose.Gen.facts, Cert.ChooseIdeal.Gen.facts, Cert.ChooseReferenceIdeal.Gen.facts,
    Cert.Extract.Gen.facts, Cert.ExtractIdeal.Gen.facts, Cert.ExtractReferenceIdeal.Gen.facts,
    Cert.Pre_sel_ok.Gen.facts, Cert.Pre_selb_ok.Gen.facts, Cert.Pre_scores_ok.Gen.facts, Cert.Pre_extract_ok.Gen.facts, frame_p, frame_pi,
    frame_ri, frame_ri_pre, frame_pb, frame_pbi, frame_rbi, frame_rbi_pre, RowMaxRun.frame_p, RowMaxRun.frame_pi, RowMaxRun.frame_ri,
    DenominatorRun.frame_p, DenominatorRun.frame_pi, DenominatorRun.frame_ri, WeightsRun.frame_p, WeightsRun.frame_pi, WeightsRun.frame_ri,
    ChooseRun.frame_p, ChooseRun.frame_pi, ChooseRun.frame_pi_pre, ChooseRun.frame_ri, ChooseRun.frame_ri_pre,
    ExtractRun.frame_p, ExtractRun.frame_pi, ExtractRun.frame_pi_pre, ExtractRun.frame_ri, ExtractRun.frame_ri_pre, trivial,
    algebraic, trivial, algebraic_blocks, trivial, RowMaxRun.algebraic, trivial, DenominatorRun.algebraic, trivial, WeightsRun.algebraic,
    trivial, ChooseRun.algebraic, trivial, ExtractRun.algebraic⟩

end Cert.Proof

end
